-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_EvenKernel (m : (ℓ : Loc Cert.EvenKernel.nD Cert.EvenKernel.τ Cert.EvenKernel.sig) → Buf (Elt Bits) ℓ) : Prop :=
  True

def Pre_EvenKernelIdeal (m : (ℓ : Loc Cert.EvenKernelIdeal.nD Cert.EvenKernelIdeal.τ Cert.EvenKernelIdeal.sig) → Buf (Elt Ideal) ℓ) : Prop :=
  True

def Pre_EvenReferenceIdeal (m : (ℓ : Loc Cert.EvenReferenceIdeal.nD Cert.EvenReferenceIdeal.τ Cert.EvenReferenceIdeal.sig) → Buf (Elt Ideal) ℓ) : Prop :=
  True

def Pre_OddKernel (m : (ℓ : Loc Cert.OddKernel.nD Cert.OddKernel.τ Cert.OddKernel.sig) → Buf (Elt Bits) ℓ) : Prop :=
  True

def Pre_OddKernelIdeal (m : (ℓ : Loc Cert.OddKernelIdeal.nD Cert.OddKernelIdeal.τ Cert.OddKernelIdeal.sig) → Buf (Elt Ideal) ℓ) : Prop :=
  True

def Pre_OddKernelIdeal_gate_above [hPre_gate_above : Cert.Pre_gate_above.Facts] (m : (ℓ : Loc Cert.OddKernelIdeal.nD Cert.OddKernelIdeal.τ Cert.OddKernelIdeal.sig) → Buf (Elt Ideal) ℓ) : Prop :=
  ∀ c : Dev Cert.OddKernelIdeal.nD,
    (Cert.Pre_gate_above.fn (F := Ideal) (m ((c.tc : Thread Cert.OddKernelIdeal.nD Cert.OddKernelIdeal.τ).loc Cert.OddKernelIdeal.main_arg0)) (m ((c.tc : Thread Cert.OddKernelIdeal.nD Cert.OddKernelIdeal.τ).loc Cert.OddKernelIdeal.main_arg1)) (m ((c.tc : Thread Cert.OddKernelIdeal.nD Cert.OddKernelIdeal.τ).loc Cert.OddKernelIdeal.main_arg2)) (m ((c.tc : Thread Cert.OddKernelIdeal.nD Cert.OddKernelIdeal.τ).loc Cert.OddKernelIdeal.main_arg3)) (m ((c.tc : Thread Cert.OddKernelIdeal.nD Cert.OddKernelIdeal.τ).loc Cert.OddKernelIdeal.main_arg4)) (m ((c.tc : Thread Cert.OddKernelIdeal.nD Cert.OddKernelIdeal.τ).loc Cert.OddKernelIdeal.main_arg5)) (m ((c.tc : Thread Cert.OddKernelIdeal.nD Cert.OddKernelIdeal.τ).loc Cert.OddKernelIdeal.main_arg6))) = (fun _ => 1#1)

def Pre_OddReferenceIdeal (m : (ℓ : Loc Cert.OddReferenceIdeal.nD Cert.OddReferenceIdeal.τ Cert.OddReferenceIdeal.sig) → Buf (Elt Ideal) ℓ) : Prop :=
  True

def Pre_OddReferenceIdeal_gate_above [hPre_gate_above : Cert.Pre_gate_above.Facts] (m : (ℓ : Loc Cert.OddReferenceIdeal.nD Cert.OddReferenceIdeal.τ Cert.OddReferenceIdeal.sig) → Buf (Elt Ideal) ℓ) : Prop :=
  ∀ c : Dev Cert.OddReferenceIdeal.nD,
    (Cert.Pre_gate_above.fn (F := Ideal) (m ((c.tc : Thread Cert.OddReferenceIdeal.nD Cert.OddReferenceIdeal.τ).loc Cert.OddReferenceIdeal.main_arg0)) (m ((c.tc : Thread Cert.OddReferenceIdeal.nD Cert.OddReferenceIdeal.τ).loc Cert.OddReferenceIdeal.main_arg1)) (m ((c.tc : Thread Cert.OddReferenceIdeal.nD Cert.OddReferenceIdeal.τ).loc Cert.OddReferenceIdeal.main_arg2)) (m ((c.tc : Thread Cert.OddReferenceIdeal.nD Cert.OddReferenceIdeal.τ).loc Cert.OddReferenceIdeal.main_arg3)) (m ((c.tc : Thread Cert.OddReferenceIdeal.nD Cert.OddReferenceIdeal.τ).loc Cert.OddReferenceIdeal.main_arg4)) (m ((c.tc : Thread Cert.OddReferenceIdeal.nD Cert.OddReferenceIdeal.τ).loc Cert.OddReferenceIdeal.main_arg5)) (m ((c.tc : Thread Cert.OddReferenceIdeal.nD Cert.OddReferenceIdeal.τ).loc Cert.OddReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_EvenKernel [hEvenKernel : Cert.EvenKernel.Facts] : Prop :=
  ∀ (m : (ℓ : Loc Cert.EvenKernel.nD Cert.EvenKernel.τ Cert.EvenKernel.sig) → Buf (Elt Bits) ℓ) (g : Dev Cert.EvenKernel.nD → PrngReg), Pre_EvenKernel m →
    θ_run (Cert.EvenKernel.defs (F := Bits)) (onTc (τ := Cert.EvenKernel.τ) (Cert.EvenKernel.main (F := Bits))) ⟨m, fun _ => 0, g⟩ (fun r => (∀ c : Dev Cert.EvenKernel.nD,
      r.2.mem ((c.tc : Thread Cert.EvenKernel.nD Cert.EvenKernel.τ).loc Cert.EvenKernel.main_arg0) = m ((c.tc : Thread Cert.EvenKernel.nD Cert.EvenKernel.τ).loc Cert.EvenKernel.main_arg0)
      ∧ r.2.mem ((c.tc : Thread Cert.EvenKernel.nD Cert.EvenKernel.τ).loc Cert.EvenKernel.main_arg1) = m ((c.tc : Thread Cert.EvenKernel.nD Cert.EvenKernel.τ).loc Cert.EvenKernel.main_arg1)
      ∧ r.2.mem ((c.tc : Thread Cert.EvenKernel.nD Cert.EvenKernel.τ).loc Cert.EvenKernel.main_arg2) = m ((c.tc : Thread Cert.EvenKernel.nD Cert.EvenKernel.τ).loc Cert.EvenKernel.main_arg2)
      ∧ r.2.mem ((c.tc : Thread Cert.EvenKernel.nD Cert.EvenKernel.τ).loc Cert.EvenKernel.main_arg3) = m ((c.tc : Thread Cert.EvenKernel.nD Cert.EvenKernel.τ).loc Cert.EvenKernel.main_arg3)
      ∧ r.2.mem ((c.tc : Thread Cert.EvenKernel.nD Cert.EvenKernel.τ).loc Cert.EvenKernel.main_arg4) = m ((c.tc : Thread Cert.EvenKernel.nD Cert.EvenKernel.τ).loc Cert.EvenKernel.main_arg4))
      ∧ r.2.sem = fun _ => 0)

def quiescent_EvenKernelIdeal [hEvenKernelIdeal : Cert.EvenKernelIdeal.Facts] : Prop :=
  ∀ (m : (ℓ : Loc Cert.EvenKernelIdeal.nD Cert.EvenKernelIdeal.τ Cert.EvenKernelIdeal.sig) → Buf (Elt Ideal) ℓ) (g : Dev Cert.EvenKernelIdeal.nD → PrngReg), Pre_EvenKernelIdeal m →
    θ_run (Cert.EvenKernelIdeal.defs (F := Ideal)) (onTc (τ := Cert.EvenKernelIdeal.τ) (Cert.EvenKernelIdeal.main (F := Ideal))) ⟨m, fun _ => 0, g⟩ (fun r => (∀ c : Dev Cert.EvenKernelIdeal.nD,
      r.2.mem ((c.tc : Thread Cert.EvenKernelIdeal.nD Cert.EvenKernelIdeal.τ).loc Cert.EvenKernelIdeal.main_arg0) = m ((c.tc : Thread Cert.EvenKernelIdeal.nD Cert.EvenKernelIdeal.τ).loc Cert.EvenKernelIdeal.main_arg0)
      ∧ r.2.mem ((c.tc : Thread Cert.EvenKernelIdeal.nD Cert.EvenKernelIdeal.τ).loc Cert.EvenKernelIdeal.main_arg1) = m ((c.tc : Thread Cert.EvenKernelIdeal.nD Cert.EvenKernelIdeal.τ).loc Cert.EvenKernelIdeal.main_arg1)
      ∧ r.2.mem ((c.tc : Thread Cert.EvenKernelIdeal.nD Cert.EvenKernelIdeal.τ).loc Cert.EvenKernelIdeal.main_arg2) = m ((c.tc : Thread Cert.EvenKernelIdeal.nD Cert.EvenKernelIdeal.τ).loc Cert.EvenKernelIdeal.main_arg2)
      ∧ r.2.mem ((c.tc : Thread Cert.EvenKernelIdeal.nD Cert.EvenKernelIdeal.τ).loc Cert.EvenKernelIdeal.main_arg3) = m ((c.tc : Thread Cert.EvenKernelIdeal.nD Cert.EvenKernelIdeal.τ).loc Cert.EvenKernelIdeal.main_arg3)
      ∧ r.2.mem ((c.tc : Thread Cert.EvenKernelIdeal.nD Cert.EvenKernelIdeal.τ).loc Cert.EvenKernelIdeal.main_arg4) = m ((c.tc : Thread Cert.EvenKernelIdeal.nD Cert.EvenKernelIdeal.τ).loc Cert.EvenKernelIdeal.main_arg4))
      ∧ r.2.sem = fun _ => 0)

def quiescent_EvenReferenceIdeal [hEvenReferenceIdeal : Cert.EvenReferenceIdeal.Facts] : Prop :=
  ∀ (m : (ℓ : Loc Cert.EvenReferenceIdeal.nD Cert.EvenReferenceIdeal.τ Cert.EvenReferenceIdeal.sig) → Buf (Elt Ideal) ℓ) (g : Dev Cert.EvenReferenceIdeal.nD → PrngReg), Pre_EvenReferenceIdeal m →
    θ_run (Cert.EvenReferenceIdeal.defs (F := Ideal)) (onTc (τ := Cert.EvenReferenceIdeal.τ) (Cert.EvenReferenceIdeal.main (F := Ideal))) ⟨m, fun _ => 0, g⟩ (fun r => (∀ c : Dev Cert.EvenReferenceIdeal.nD,
      r.2.mem ((c.tc : Thread Cert.EvenReferenceIdeal.nD Cert.EvenReferenceIdeal.τ).loc Cert.EvenReferenceIdeal.main_arg0) = m ((c.tc : Thread Cert.EvenReferenceIdeal.nD Cert.EvenReferenceIdeal.τ).loc Cert.EvenReferenceIdeal.main_arg0)
      ∧ r.2.mem ((c.tc : Thread Cert.EvenReferenceIdeal.nD Cert.EvenReferenceIdeal.τ).loc Cert.EvenReferenceIdeal.main_arg1) = m ((c.tc : Thread Cert.EvenReferenceIdeal.nD Cert.EvenReferenceIdeal.τ).loc Cert.EvenReferenceIdeal.main_arg1)
      ∧ r.2.mem ((c.tc : Thread Cert.EvenReferenceIdeal.nD Cert.EvenReferenceIdeal.τ).loc Cert.EvenReferenceIdeal.main_arg2) = m ((c.tc : Thread Cert.EvenReferenceIdeal.nD Cert.EvenReferenceIdeal.τ).loc Cert.EvenReferenceIdeal.main_arg2)
      ∧ r.2.mem ((c.tc : Thread Cert.EvenReferenceIdeal.nD Cert.EvenReferenceIdeal.τ).loc Cert.EvenReferenceIdeal.main_arg3) = m ((c.tc : Thread Cert.EvenReferenceIdeal.nD Cert.EvenReferenceIdeal.τ).loc Cert.EvenReferenceIdeal.main_arg3)
      ∧ r.2.mem ((c.tc : Thread Cert.EvenReferenceIdeal.nD Cert.EvenReferenceIdeal.τ).loc Cert.EvenReferenceIdeal.main_arg4) = m ((c.tc : Thread Cert.EvenReferenceIdeal.nD Cert.EvenReferenceIdeal.τ).loc Cert.EvenReferenceIdeal.main_arg4))
      ∧ r.2.sem = fun _ => 0)

def quiescent_OddKernel [hOddKernel : Cert.OddKernel.Facts] : Prop :=
  ∀ (m : (ℓ : Loc Cert.OddKernel.nD Cert.OddKernel.τ Cert.OddKernel.sig) → Buf (Elt Bits) ℓ) (g : Dev Cert.OddKernel.nD → PrngReg), Pre_OddKernel m →
    θ_run (Cert.OddKernel.defs (F := Bits)) (onTc (τ := Cert.OddKernel.τ) (Cert.OddKernel.main (F := Bits))) ⟨m, fun _ => 0, g⟩ (fun r => (∀ c : Dev Cert.OddKernel.nD,
      r.2.mem ((c.tc : Thread Cert.OddKernel.nD Cert.OddKernel.τ).loc Cert.OddKernel.main_arg0) = m ((c.tc : Thread Cert.OddKernel.nD Cert.OddKernel.τ).loc Cert.OddKernel.main_arg0)
      ∧ r.2.mem ((c.tc : Thread Cert.OddKernel.nD Cert.OddKernel.τ).loc Cert.OddKernel.main_arg1) = m ((c.tc : Thread Cert.OddKernel.nD Cert.OddKernel.τ).loc Cert.OddKernel.main_arg1)
      ∧ r.2.mem ((c.tc : Thread Cert.OddKernel.nD Cert.OddKernel.τ).loc Cert.OddKernel.main_arg2) = m ((c.tc : Thread Cert.OddKernel.nD Cert.OddKernel.τ).loc Cert.OddKernel.main_arg2)
      ∧ r.2.mem ((c.tc : Thread Cert.OddKernel.nD Cert.OddKernel.τ).loc Cert.OddKernel.main_arg3) = m ((c.tc : Thread Cert.OddKernel.nD Cert.OddKernel.τ).loc Cert.OddKernel.main_arg3)
      ∧ r.2.mem ((c.tc : Thread Cert.OddKernel.nD Cert.OddKernel.τ).loc Cert.OddKernel.main_arg4) = m ((c.tc : Thread Cert.OddKernel.nD Cert.OddKernel.τ).loc Cert.OddKernel.main_arg4)
      ∧ r.2.mem ((c.tc : Thread Cert.OddKernel.nD Cert.OddKernel.τ).loc Cert.OddKernel.main_arg5) = m ((c.tc : Thread Cert.OddKernel.nD Cert.OddKernel.τ).loc Cert.OddKernel.main_arg5)
      ∧ r.2.mem ((c.tc : Thread Cert.OddKernel.nD Cert.OddKernel.τ).loc Cert.OddKernel.main_arg6) = m ((c.tc : Thread Cert.OddKernel.nD Cert.OddKernel.τ).loc Cert.OddKernel.main_arg6))
      ∧ r.2.sem = fun _ => 0)

def quiescent_OddKernelIdeal [hOddKernelIdeal : Cert.OddKernelIdeal.Facts] : Prop :=
  ∀ (m : (ℓ : Loc Cert.OddKernelIdeal.nD Cert.OddKernelIdeal.τ Cert.OddKernelIdeal.sig) → Buf (Elt Ideal) ℓ) (g : Dev Cert.OddKernelIdeal.nD → PrngReg), Pre_OddKernelIdeal m →
    θ_run (Cert.OddKernelIdeal.defs (F := Ideal)) (onTc (τ := Cert.OddKernelIdeal.τ) (Cert.OddKernelIdeal.main (F := Ideal))) ⟨m, fun _ => 0, g⟩ (fun r => (∀ c : Dev Cert.OddKernelIdeal.nD,
      r.2.mem ((c.tc : Thread Cert.OddKernelIdeal.nD Cert.OddKernelIdeal.τ).loc Cert.OddKernelIdeal.main_arg0) = m ((c.tc : Thread Cert.OddKernelIdeal.nD Cert.OddKernelIdeal.τ).loc Cert.OddKernelIdeal.main_arg0)
      ∧ r.2.mem ((c.tc : Thread Cert.OddKernelIdeal.nD Cert.OddKernelIdeal.τ).loc Cert.OddKernelIdeal.main_arg1) = m ((c.tc : Thread Cert.OddKernelIdeal.nD Cert.OddKernelIdeal.τ).loc Cert.OddKernelIdeal.main_arg1)
      ∧ r.2.mem ((c.tc : Thread Cert.OddKernelIdeal.nD Cert.OddKernelIdeal.τ).loc Cert.OddKernelIdeal.main_arg2) = m ((c.tc : Thread Cert.OddKernelIdeal.nD Cert.OddKernelIdeal.τ).loc Cert.OddKernelIdeal.main_arg2)
      ∧ r.2.mem ((c.tc : Thread Cert.OddKernelIdeal.nD Cert.OddKernelIdeal.τ).loc Cert.OddKernelIdeal.main_arg3) = m ((c.tc : Thread Cert.OddKernelIdeal.nD Cert.OddKernelIdeal.τ).loc Cert.OddKernelIdeal.main_arg3)
      ∧ r.2.mem ((c.tc : Thread Cert.OddKernelIdeal.nD Cert.OddKernelIdeal.τ).loc Cert.OddKernelIdeal.main_arg4) = m ((c.tc : Thread Cert.OddKernelIdeal.nD Cert.OddKernelIdeal.τ).loc Cert.OddKernelIdeal.main_arg4)
      ∧ r.2.mem ((c.tc : Thread Cert.OddKernelIdeal.nD Cert.OddKernelIdeal.τ).loc Cert.OddKernelIdeal.main_arg5) = m ((c.tc : Thread Cert.OddKernelIdeal.nD Cert.OddKernelIdeal.τ).loc Cert.OddKernelIdeal.main_arg5)
      ∧ r.2.mem ((c.tc : Thread Cert.OddKernelIdeal.nD Cert.OddKernelIdeal.τ).loc Cert.OddKernelIdeal.main_arg6) = m ((c.tc : Thread Cert.OddKernelIdeal.nD Cert.OddKernelIdeal.τ).loc Cert.OddKernelIdeal.main_arg6))
      ∧ r.2.sem = fun _ => 0)

def quiescent_OddKernelIdeal_pre_gate_above [hOddKernelIdeal : Cert.OddKernelIdeal.Facts] [hPre_gate_above : Cert.Pre_gate_above.Facts] : Prop :=
  ∀ (m : (ℓ : Loc Cert.OddKernelIdeal.nD Cert.OddKernelIdeal.τ Cert.OddKernelIdeal.sig) → Buf (Elt Ideal) ℓ) (g : Dev Cert.OddKernelIdeal.nD → PrngReg), Pre_OddKernelIdeal_gate_above m →
    θ_run (Cert.OddKernelIdeal.defs (F := Ideal)) (onTc (τ := Cert.OddKernelIdeal.τ) (Cert.OddKernelIdeal.main (F := Ideal))) ⟨m, fun _ => 0, g⟩ (fun r => (∀ c : Dev Cert.OddKernelIdeal.nD,
      r.2.mem ((c.tc : Thread Cert.OddKernelIdeal.nD Cert.OddKernelIdeal.τ).loc Cert.OddKernelIdeal.main_arg0) = m ((c.tc : Thread Cert.OddKernelIdeal.nD Cert.OddKernelIdeal.τ).loc Cert.OddKernelIdeal.main_arg0)
      ∧ r.2.mem ((c.tc : Thread Cert.OddKernelIdeal.nD Cert.OddKernelIdeal.τ).loc Cert.OddKernelIdeal.main_arg1) = m ((c.tc : Thread Cert.OddKernelIdeal.nD Cert.OddKernelIdeal.τ).loc Cert.OddKernelIdeal.main_arg1)
      ∧ r.2.mem ((c.tc : Thread Cert.OddKernelIdeal.nD Cert.OddKernelIdeal.τ).loc Cert.OddKernelIdeal.main_arg2) = m ((c.tc : Thread Cert.OddKernelIdeal.nD Cert.OddKernelIdeal.τ).loc Cert.OddKernelIdeal.main_arg2)
      ∧ r.2.mem ((c.tc : Thread Cert.OddKernelIdeal.nD Cert.OddKernelIdeal.τ).loc Cert.OddKernelIdeal.main_arg3) = m ((c.tc : Thread Cert.OddKernelIdeal.nD Cert.OddKernelIdeal.τ).loc Cert.OddKernelIdeal.main_arg3)
      ∧ r.2.mem ((c.tc : Thread Cert.OddKernelIdeal.nD Cert.OddKernelIdeal.τ).loc Cert.OddKernelIdeal.main_arg4) = m ((c.tc : Thread Cert.OddKernelIdeal.nD Cert.OddKernelIdeal.τ).loc Cert.OddKernelIdeal.main_arg4)
      ∧ r.2.mem ((c.tc : Thread Cert.OddKernelIdeal.nD Cert.OddKernelIdeal.τ).loc Cert.OddKernelIdeal.main_arg5) = m ((c.tc : Thread Cert.OddKernelIdeal.nD Cert.OddKernelIdeal.τ).loc Cert.OddKernelIdeal.main_arg5)
      ∧ r.2.mem ((c.tc : Thread Cert.OddKernelIdeal.nD Cert.OddKernelIdeal.τ).loc Cert.OddKernelIdeal.main_arg6) = m ((c.tc : Thread Cert.OddKernelIdeal.nD Cert.OddKernelIdeal.τ).loc Cert.OddKernelIdeal.main_arg6))
      ∧ r.2.sem = fun _ => 0)

def quiescent_OddReferenceIdeal [hOddReferenceIdeal : Cert.OddReferenceIdeal.Facts] : Prop :=
  ∀ (m : (ℓ : Loc Cert.OddReferenceIdeal.nD Cert.OddReferenceIdeal.τ Cert.OddReferenceIdeal.sig) → Buf (Elt Ideal) ℓ) (g : Dev Cert.OddReferenceIdeal.nD → PrngReg), Pre_OddReferenceIdeal m →
    θ_run (Cert.OddReferenceIdeal.defs (F := Ideal)) (onTc (τ := Cert.OddReferenceIdeal.τ) (Cert.OddReferenceIdeal.main (F := Ideal))) ⟨m, fun _ => 0, g⟩ (fun r => (∀ c : Dev Cert.OddReferenceIdeal.nD,
      r.2.mem ((c.tc : Thread Cert.OddReferenceIdeal.nD Cert.OddReferenceIdeal.τ).loc Cert.OddReferenceIdeal.main_arg0) = m ((c.tc : Thread Cert.OddReferenceIdeal.nD Cert.OddReferenceIdeal.τ).loc Cert.OddReferenceIdeal.main_arg0)
      ∧ r.2.mem ((c.tc : Thread Cert.OddReferenceIdeal.nD Cert.OddReferenceIdeal.τ).loc Cert.OddReferenceIdeal.main_arg1) = m ((c.tc : Thread Cert.OddReferenceIdeal.nD Cert.OddReferenceIdeal.τ).loc Cert.OddReferenceIdeal.main_arg1)
      ∧ r.2.mem ((c.tc : Thread Cert.OddReferenceIdeal.nD Cert.OddReferenceIdeal.τ).loc Cert.OddReferenceIdeal.main_arg2) = m ((c.tc : Thread Cert.OddReferenceIdeal.nD Cert.OddReferenceIdeal.τ).loc Cert.OddReferenceIdeal.main_arg2)
      ∧ r.2.mem ((c.tc : Thread Cert.OddReferenceIdeal.nD Cert.OddReferenceIdeal.τ).loc Cert.OddReferenceIdeal.main_arg3) = m ((c.tc : Thread Cert.OddReferenceIdeal.nD Cert.OddReferenceIdeal.τ).loc Cert.OddReferenceIdeal.main_arg3)
      ∧ r.2.mem ((c.tc : Thread Cert.OddReferenceIdeal.nD Cert.OddReferenceIdeal.τ).loc Cert.OddReferenceIdeal.main_arg4) = m ((c.tc : Thread Cert.OddReferenceIdeal.nD Cert.OddReferenceIdeal.τ).loc Cert.OddReferenceIdeal.main_arg4)
      ∧ r.2.mem ((c.tc : Thread Cert.OddReferenceIdeal.nD Cert.OddReferenceIdeal.τ).loc Cert.OddReferenceIdeal.main_arg5) = m ((c.tc : Thread Cert.OddReferenceIdeal.nD Cert.OddReferenceIdeal.τ).loc Cert.OddReferenceIdeal.main_arg5)
      ∧ r.2.mem ((c.tc : Thread Cert.OddReferenceIdeal.nD Cert.OddReferenceIdeal.τ).loc Cert.OddReferenceIdeal.main_arg6) = m ((c.tc : Thread Cert.OddReferenceIdeal.nD Cert.OddReferenceIdeal.τ).loc Cert.OddReferenceIdeal.main_arg6))
      ∧ r.2.sem = fun _ => 0)

def quiescent_OddReferenceIdeal_pre_gate_above [hOddReferenceIdeal : Cert.OddReferenceIdeal.Facts] [hPre_gate_above : Cert.Pre_gate_above.Facts] : Prop :=
  ∀ (m : (ℓ : Loc Cert.OddReferenceIdeal.nD Cert.OddReferenceIdeal.τ Cert.OddReferenceIdeal.sig) → Buf (Elt Ideal) ℓ) (g : Dev Cert.OddReferenceIdeal.nD → PrngReg), Pre_OddReferenceIdeal_gate_above m →
    θ_run (Cert.OddReferenceIdeal.defs (F := Ideal)) (onTc (τ := Cert.OddReferenceIdeal.τ) (Cert.OddReferenceIdeal.main (F := Ideal))) ⟨m, fun _ => 0, g⟩ (fun r => (∀ c : Dev Cert.OddReferenceIdeal.nD,
      r.2.mem ((c.tc : Thread Cert.OddReferenceIdeal.nD Cert.OddReferenceIdeal.τ).loc Cert.OddReferenceIdeal.main_arg0) = m ((c.tc : Thread Cert.OddReferenceIdeal.nD Cert.OddReferenceIdeal.τ).loc Cert.OddReferenceIdeal.main_arg0)
      ∧ r.2.mem ((c.tc : Thread Cert.OddReferenceIdeal.nD Cert.OddReferenceIdeal.τ).loc Cert.OddReferenceIdeal.main_arg1) = m ((c.tc : Thread Cert.OddReferenceIdeal.nD Cert.OddReferenceIdeal.τ).loc Cert.OddReferenceIdeal.main_arg1)
      ∧ r.2.mem ((c.tc : Thread Cert.OddReferenceIdeal.nD Cert.OddReferenceIdeal.τ).loc Cert.OddReferenceIdeal.main_arg2) = m ((c.tc : Thread Cert.OddReferenceIdeal.nD Cert.OddReferenceIdeal.τ).loc Cert.OddReferenceIdeal.main_arg2)
      ∧ r.2.mem ((c.tc : Thread Cert.OddReferenceIdeal.nD Cert.OddReferenceIdeal.τ).loc Cert.OddReferenceIdeal.main_arg3) = m ((c.tc : Thread Cert.OddReferenceIdeal.nD Cert.OddReferenceIdeal.τ).loc Cert.OddReferenceIdeal.main_arg3)
      ∧ r.2.mem ((c.tc : Thread Cert.OddReferenceIdeal.nD Cert.OddReferenceIdeal.τ).loc Cert.OddReferenceIdeal.main_arg4) = m ((c.tc : Thread Cert.OddReferenceIdeal.nD Cert.OddReferenceIdeal.τ).loc Cert.OddReferenceIdeal.main_arg4)
      ∧ r.2.mem ((c.tc : Thread Cert.OddReferenceIdeal.nD Cert.OddReferenceIdeal.τ).loc Cert.OddReferenceIdeal.main_arg5) = m ((c.tc : Thread Cert.OddReferenceIdeal.nD Cert.OddReferenceIdeal.τ).loc Cert.OddReferenceIdeal.main_arg5)
      ∧ r.2.mem ((c.tc : Thread Cert.OddReferenceIdeal.nD Cert.OddReferenceIdeal.τ).loc Cert.OddReferenceIdeal.main_arg6) = m ((c.tc : Thread Cert.OddReferenceIdeal.nD Cert.OddReferenceIdeal.τ).loc Cert.OddReferenceIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v1) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v4) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_EvenKernel_EvenKernelIdeal : Prop :=
  True

def algebraic_EvenKernelIdeal_EvenReferenceIdeal [hEvenKernelIdeal : Cert.EvenKernelIdeal.Facts] [hEvenReferenceIdeal : Cert.EvenReferenceIdeal.Facts] : Prop :=
  ∀ (m : (ℓ : Loc Cert.EvenKernelIdeal.nD Cert.EvenKernelIdeal.τ Cert.EvenKernelIdeal.sig) → Buf (Elt Ideal) ℓ) (g : Dev Cert.EvenKernelIdeal.nD → PrngReg)
    (m' : (ℓ : Loc Cert.EvenReferenceIdeal.nD Cert.EvenReferenceIdeal.τ Cert.EvenReferenceIdeal.sig) → Buf (Elt Ideal) ℓ) (g' : Dev Cert.EvenReferenceIdeal.nD → PrngReg), Pre_EvenKernelIdeal m →
    (∀ c : Dev Cert.EvenKernelIdeal.nD,
      m' ((c.tc : Thread Cert.EvenReferenceIdeal.nD Cert.EvenReferenceIdeal.τ).loc Cert.EvenReferenceIdeal.main_arg0) = m ((c.tc : Thread Cert.EvenKernelIdeal.nD Cert.EvenKernelIdeal.τ).loc Cert.EvenKernelIdeal.main_arg0)
      ∧ m' ((c.tc : Thread Cert.EvenReferenceIdeal.nD Cert.EvenReferenceIdeal.τ).loc Cert.EvenReferenceIdeal.main_arg1) = m ((c.tc : Thread Cert.EvenKernelIdeal.nD Cert.EvenKernelIdeal.τ).loc Cert.EvenKernelIdeal.main_arg1)
      ∧ m' ((c.tc : Thread Cert.EvenReferenceIdeal.nD Cert.EvenReferenceIdeal.τ).loc Cert.EvenReferenceIdeal.main_arg2) = m ((c.tc : Thread Cert.EvenKernelIdeal.nD Cert.EvenKernelIdeal.τ).loc Cert.EvenKernelIdeal.main_arg2)
      ∧ m' ((c.tc : Thread Cert.EvenReferenceIdeal.nD Cert.EvenReferenceIdeal.τ).loc Cert.EvenReferenceIdeal.main_arg3) = m ((c.tc : Thread Cert.EvenKernelIdeal.nD Cert.EvenKernelIdeal.τ).loc Cert.EvenKernelIdeal.main_arg3)
      ∧ m' ((c.tc : Thread Cert.EvenReferenceIdeal.nD Cert.EvenReferenceIdeal.τ).loc Cert.EvenReferenceIdeal.main_arg4) = m ((c.tc : Thread Cert.EvenKernelIdeal.nD Cert.EvenKernelIdeal.τ).loc Cert.EvenKernelIdeal.main_arg4)) →
    ∃ (v0 : (c : Dev Cert.EvenKernelIdeal.nD) → Buf (Elt Ideal) ((c.tc : Thread Cert.EvenKernelIdeal.nD Cert.EvenKernelIdeal.τ).loc Cert.EvenKernelIdeal.main_v9_0)) (v1 : (c : Dev Cert.EvenKernelIdeal.nD) → Buf (Elt Ideal) ((c.tc : Thread Cert.EvenKernelIdeal.nD Cert.EvenKernelIdeal.τ).loc Cert.EvenKernelIdeal.main_v9_1)) (v2 : (c : Dev Cert.EvenKernelIdeal.nD) → Buf (Elt Ideal) ((c.tc : Thread Cert.EvenKernelIdeal.nD Cert.EvenKernelIdeal.τ).loc Cert.EvenKernelIdeal.main_v9_2)) (v3 : (c : Dev Cert.EvenKernelIdeal.nD) → Buf (Elt Ideal) ((c.tc : Thread Cert.EvenKernelIdeal.nD Cert.EvenKernelIdeal.τ).loc Cert.EvenKernelIdeal.main_v9_3)) (v4 : (c : Dev Cert.EvenKernelIdeal.nD) → Buf (Elt Ideal) ((c.tc : Thread Cert.EvenKernelIdeal.nD Cert.EvenKernelIdeal.τ).loc Cert.EvenKernelIdeal.main_v9_4)) (v5 : (c : Dev Cert.EvenKernelIdeal.nD) → Buf (Elt Ideal) ((c.tc : Thread Cert.EvenKernelIdeal.nD Cert.EvenKernelIdeal.τ).loc Cert.EvenKernelIdeal.main_v9_5)) (v6 : (c : Dev Cert.EvenKernelIdeal.nD) → Buf (Elt Ideal) ((c.tc : Thread Cert.EvenKernelIdeal.nD Cert.EvenKernelIdeal.τ).loc Cert.EvenKernelIdeal.main_v9_6)),
      θ_run (Cert.EvenKernelIdeal.defs (F := Ideal)) (onTc (τ := Cert.EvenKernelIdeal.τ) (Cert.EvenKernelIdeal.main (F := Ideal))) ⟨m, fun _ => 0, g⟩ (fun r => ∀ c : Dev Cert.EvenKernelIdeal.nD,
          r.2.mem ((c.tc : Thread Cert.EvenKernelIdeal.nD Cert.EvenKernelIdeal.τ).loc Cert.EvenKernelIdeal.main_v9_0) = v0 c
          ∧ r.2.mem ((c.tc : Thread Cert.EvenKernelIdeal.nD Cert.EvenKernelIdeal.τ).loc Cert.EvenKernelIdeal.main_v9_1) = v1 c
          ∧ r.2.mem ((c.tc : Thread Cert.EvenKernelIdeal.nD Cert.EvenKernelIdeal.τ).loc Cert.EvenKernelIdeal.main_v9_2) = v2 c
          ∧ r.2.mem ((c.tc : Thread Cert.EvenKernelIdeal.nD Cert.EvenKernelIdeal.τ).loc Cert.EvenKernelIdeal.main_v9_3) = v3 c
          ∧ r.2.mem ((c.tc : Thread Cert.EvenKernelIdeal.nD Cert.EvenKernelIdeal.τ).loc Cert.EvenKernelIdeal.main_v9_4) = v4 c
          ∧ r.2.mem ((c.tc : Thread Cert.EvenKernelIdeal.nD Cert.EvenKernelIdeal.τ).loc Cert.EvenKernelIdeal.main_v9_5) = v5 c
          ∧ r.2.mem ((c.tc : Thread Cert.EvenKernelIdeal.nD Cert.EvenKernelIdeal.τ).loc Cert.EvenKernelIdeal.main_v9_6) = v6 c
          ∧ r.2.mem ((c.tc : Thread Cert.EvenKernelIdeal.nD Cert.EvenKernelIdeal.τ).loc Cert.EvenKernelIdeal.main_arg0) = m ((c.tc : Thread Cert.EvenKernelIdeal.nD Cert.EvenKernelIdeal.τ).loc Cert.EvenKernelIdeal.main_arg0)
          ∧ r.2.mem ((c.tc : Thread Cert.EvenKernelIdeal.nD Cert.EvenKernelIdeal.τ).loc Cert.EvenKernelIdeal.main_arg1) = m ((c.tc : Thread Cert.EvenKernelIdeal.nD Cert.EvenKernelIdeal.τ).loc Cert.EvenKernelIdeal.main_arg1)
          ∧ r.2.mem ((c.tc : Thread Cert.EvenKernelIdeal.nD Cert.EvenKernelIdeal.τ).loc Cert.EvenKernelIdeal.main_arg2) = m ((c.tc : Thread Cert.EvenKernelIdeal.nD Cert.EvenKernelIdeal.τ).loc Cert.EvenKernelIdeal.main_arg2)
          ∧ r.2.mem ((c.tc : Thread Cert.EvenKernelIdeal.nD Cert.EvenKernelIdeal.τ).loc Cert.EvenKernelIdeal.main_arg3) = m ((c.tc : Thread Cert.EvenKernelIdeal.nD Cert.EvenKernelIdeal.τ).loc Cert.EvenKernelIdeal.main_arg3)
          ∧ r.2.mem ((c.tc : Thread Cert.EvenKernelIdeal.nD Cert.EvenKernelIdeal.τ).loc Cert.EvenKernelIdeal.main_arg4) = m ((c.tc : Thread Cert.EvenKernelIdeal.nD Cert.EvenKernelIdeal.τ).loc Cert.EvenKernelIdeal.main_arg4))
      ∧ θ_run (Cert.EvenReferenceIdeal.defs (F := Ideal)) (onTc (τ := Cert.EvenReferenceIdeal.τ) (Cert.EvenReferenceIdeal.main (F := Ideal))) ⟨m', fun _ => 0, g'⟩ (fun r => ∀ c : Dev Cert.EvenReferenceIdeal.nD,
          r.2.mem ((c.tc : Thread Cert.EvenReferenceIdeal.nD Cert.EvenReferenceIdeal.τ).loc Cert.EvenReferenceIdeal.main_v29) = v0 c
          ∧ r.2.mem ((c.tc : Thread Cert.EvenReferenceIdeal.nD Cert.EvenReferenceIdeal.τ).loc Cert.EvenReferenceIdeal.main_v30) = v1 c
          ∧ r.2.mem ((c.tc : Thread Cert.EvenReferenceIdeal.nD Cert.EvenReferenceIdeal.τ).loc Cert.EvenReferenceIdeal.main_v31) = v2 c
          ∧ r.2.mem ((c.tc : Thread Cert.EvenReferenceIdeal.nD Cert.EvenReferenceIdeal.τ).loc Cert.EvenReferenceIdeal.main_v32) = v3 c
          ∧ r.2.mem ((c.tc : Thread Cert.EvenReferenceIdeal.nD Cert.EvenReferenceIdeal.τ).loc Cert.EvenReferenceIdeal.main_v33) = v4 c
          ∧ r.2.mem ((c.tc : Thread Cert.EvenReferenceIdeal.nD Cert.EvenReferenceIdeal.τ).loc Cert.EvenReferenceIdeal.main_v34) = v5 c
          ∧ r.2.mem ((c.tc : Thread Cert.EvenReferenceIdeal.nD Cert.EvenReferenceIdeal.τ).loc Cert.EvenReferenceIdeal.main_v35) = v6 c
          ∧ r.2.mem ((c.tc : Thread Cert.EvenReferenceIdeal.nD Cert.EvenReferenceIdeal.τ).loc Cert.EvenReferenceIdeal.main_arg0) = m' ((c.tc : Thread Cert.EvenReferenceIdeal.nD Cert.EvenReferenceIdeal.τ).loc Cert.EvenReferenceIdeal.main_arg0)
          ∧ r.2.mem ((c.tc : Thread Cert.EvenReferenceIdeal.nD Cert.EvenReferenceIdeal.τ).loc Cert.EvenReferenceIdeal.main_arg1) = m' ((c.tc : Thread Cert.EvenReferenceIdeal.nD Cert.EvenReferenceIdeal.τ).loc Cert.EvenReferenceIdeal.main_arg1)
          ∧ r.2.mem ((c.tc : Thread Cert.EvenReferenceIdeal.nD Cert.EvenReferenceIdeal.τ).loc Cert.EvenReferenceIdeal.main_arg2) = m' ((c.tc : Thread Cert.EvenReferenceIdeal.nD Cert.EvenReferenceIdeal.τ).loc Cert.EvenReferenceIdeal.main_arg2)
          ∧ r.2.mem ((c.tc : Thread Cert.EvenReferenceIdeal.nD Cert.EvenReferenceIdeal.τ).loc Cert.EvenReferenceIdeal.main_arg3) = m' ((c.tc : Thread Cert.EvenReferenceIdeal.nD Cert.EvenReferenceIdeal.τ).loc Cert.EvenReferenceIdeal.main_arg3)
          ∧ r.2.mem ((c.tc : Thread Cert.EvenReferenceIdeal.nD Cert.EvenReferenceIdeal.τ).loc Cert.EvenReferenceIdeal.main_arg4) = m' ((c.tc : Thread Cert.EvenReferenceIdeal.nD Cert.EvenReferenceIdeal.τ).loc Cert.EvenReferenceIdeal.main_arg4))

def preserves_OddKernel_OddKernelIdeal : Prop :=
  IdealRules.named_const.Statement Cert.OddKernelIdeal.κ "qscale" .f32 0x3E0293EE#32 (((Real.sqrt 128)⁻¹ * (Real.log 2)⁻¹ : ℝ) : EReal)

def algebraic_OddKernelIdeal_OddReferenceIdeal_pre_gate_above [hOddKernelIdeal : Cert.OddKernelIdeal.Facts] [hOddReferenceIdeal : Cert.OddReferenceIdeal.Facts] [hPre_gate_above : Cert.Pre_gate_above.Facts] : Prop :=
  ∀ (m : (ℓ : Loc Cert.OddKernelIdeal.nD Cert.OddKernelIdeal.τ Cert.OddKernelIdeal.sig) → Buf (Elt Ideal) ℓ) (g : Dev Cert.OddKernelIdeal.nD → PrngReg)
    (m' : (ℓ : Loc Cert.OddReferenceIdeal.nD Cert.OddReferenceIdeal.τ Cert.OddReferenceIdeal.sig) → Buf (Elt Ideal) ℓ) (g' : Dev Cert.OddReferenceIdeal.nD → PrngReg), Pre_OddKernelIdeal_gate_above m →
    (∀ c : Dev Cert.OddKernelIdeal.nD,
      m' ((c.tc : Thread Cert.OddReferenceIdeal.nD Cert.OddReferenceIdeal.τ).loc Cert.OddReferenceIdeal.main_arg0) = m ((c.tc : Thread Cert.OddKernelIdeal.nD Cert.OddKernelIdeal.τ).loc Cert.OddKernelIdeal.main_arg0)
      ∧ m' ((c.tc : Thread Cert.OddReferenceIdeal.nD Cert.OddReferenceIdeal.τ).loc Cert.OddReferenceIdeal.main_arg1) = m ((c.tc : Thread Cert.OddKernelIdeal.nD Cert.OddKernelIdeal.τ).loc Cert.OddKernelIdeal.main_arg1)
      ∧ m' ((c.tc : Thread Cert.OddReferenceIdeal.nD Cert.OddReferenceIdeal.τ).loc Cert.OddReferenceIdeal.main_arg2) = m ((c.tc : Thread Cert.OddKernelIdeal.nD Cert.OddKernelIdeal.τ).loc Cert.OddKernelIdeal.main_arg2)
      ∧ m' ((c.tc : Thread Cert.OddReferenceIdeal.nD Cert.OddReferenceIdeal.τ).loc Cert.OddReferenceIdeal.main_arg3) = m ((c.tc : Thread Cert.OddKernelIdeal.nD Cert.OddKernelIdeal.τ).loc Cert.OddKernelIdeal.main_arg3)
      ∧ m' ((c.tc : Thread Cert.OddReferenceIdeal.nD Cert.OddReferenceIdeal.τ).loc Cert.OddReferenceIdeal.main_arg4) = m ((c.tc : Thread Cert.OddKernelIdeal.nD Cert.OddKernelIdeal.τ).loc Cert.OddKernelIdeal.main_arg4)
      ∧ m' ((c.tc : Thread Cert.OddReferenceIdeal.nD Cert.OddReferenceIdeal.τ).loc Cert.OddReferenceIdeal.main_arg5) = m ((c.tc : Thread Cert.OddKernelIdeal.nD Cert.OddKernelIdeal.τ).loc Cert.OddKernelIdeal.main_arg5)
      ∧ m' ((c.tc : Thread Cert.OddReferenceIdeal.nD Cert.OddReferenceIdeal.τ).loc Cert.OddReferenceIdeal.main_arg6) = m ((c.tc : Thread Cert.OddKernelIdeal.nD Cert.OddKernelIdeal.τ).loc Cert.OddKernelIdeal.main_arg6)) →
    ∃ (v0 : (c : Dev Cert.OddKernelIdeal.nD) → Buf (Elt Ideal) ((c.tc : Thread Cert.OddKernelIdeal.nD Cert.OddKernelIdeal.τ).loc Cert.OddKernelIdeal.main_v61_0)) (v1 : (c : Dev Cert.OddKernelIdeal.nD) → Buf (Elt Ideal) ((c.tc : Thread Cert.OddKernelIdeal.nD Cert.OddKernelIdeal.τ).loc Cert.OddKernelIdeal.main_v61_1)) (v2 : (c : Dev Cert.OddKernelIdeal.nD) → Buf (Elt Ideal) ((c.tc : Thread Cert.OddKernelIdeal.nD Cert.OddKernelIdeal.τ).loc Cert.OddKernelIdeal.main_v61_2)) (v3 : (c : Dev Cert.OddKernelIdeal.nD) → Buf (Elt Ideal) ((c.tc : Thread Cert.OddKernelIdeal.nD Cert.OddKernelIdeal.τ).loc Cert.OddKernelIdeal.main_v61_3)),
      θ_run (Cert.OddKernelIdeal.defs (F := Ideal)) (onTc (τ := Cert.OddKernelIdeal.τ) (Cert.OddKernelIdeal.main (F := Ideal))) ⟨m, fun _ => 0, g⟩ (fun r => ∀ c : Dev Cert.OddKernelIdeal.nD,
          r.2.mem ((c.tc : Thread Cert.OddKernelIdeal.nD Cert.OddKernelIdeal.τ).loc Cert.OddKernelIdeal.main_v61_0) = v0 c
          ∧ r.2.mem ((c.tc : Thread Cert.OddKernelIdeal.nD Cert.OddKernelIdeal.τ).loc Cert.OddKernelIdeal.main_v61_1) = v1 c
          ∧ r.2.mem ((c.tc : Thread Cert.OddKernelIdeal.nD Cert.OddKernelIdeal.τ).loc Cert.OddKernelIdeal.main_v61_2) = v2 c
          ∧ r.2.mem ((c.tc : Thread Cert.OddKernelIdeal.nD Cert.OddKernelIdeal.τ).loc Cert.OddKernelIdeal.main_v61_3) = v3 c
          ∧ r.2.mem ((c.tc : Thread Cert.OddKernelIdeal.nD Cert.OddKernelIdeal.τ).loc Cert.OddKernelIdeal.main_arg0) = m ((c.tc : Thread Cert.OddKernelIdeal.nD Cert.OddKernelIdeal.τ).loc Cert.OddKernelIdeal.main_arg0)
          ∧ r.2.mem ((c.tc : Thread Cert.OddKernelIdeal.nD Cert.OddKernelIdeal.τ).loc Cert.OddKernelIdeal.main_arg1) = m ((c.tc : Thread Cert.OddKernelIdeal.nD Cert.OddKernelIdeal.τ).loc Cert.OddKernelIdeal.main_arg1)
          ∧ r.2.mem ((c.tc : Thread Cert.OddKernelIdeal.nD Cert.OddKernelIdeal.τ).loc Cert.OddKernelIdeal.main_arg2) = m ((c.tc : Thread Cert.OddKernelIdeal.nD Cert.OddKernelIdeal.τ).loc Cert.OddKernelIdeal.main_arg2)
          ∧ r.2.mem ((c.tc : Thread Cert.OddKernelIdeal.nD Cert.OddKernelIdeal.τ).loc Cert.OddKernelIdeal.main_arg3) = m ((c.tc : Thread Cert.OddKernelIdeal.nD Cert.OddKernelIdeal.τ).loc Cert.OddKernelIdeal.main_arg3)
          ∧ r.2.mem ((c.tc : Thread Cert.OddKernelIdeal.nD Cert.OddKernelIdeal.τ).loc Cert.OddKernelIdeal.main_arg4) = m ((c.tc : Thread Cert.OddKernelIdeal.nD Cert.OddKernelIdeal.τ).loc Cert.OddKernelIdeal.main_arg4)
          ∧ r.2.mem ((c.tc : Thread Cert.OddKernelIdeal.nD Cert.OddKernelIdeal.τ).loc Cert.OddKernelIdeal.main_arg5) = m ((c.tc : Thread Cert.OddKernelIdeal.nD Cert.OddKernelIdeal.τ).loc Cert.OddKernelIdeal.main_arg5)
          ∧ r.2.mem ((c.tc : Thread Cert.OddKernelIdeal.nD Cert.OddKernelIdeal.τ).loc Cert.OddKernelIdeal.main_arg6) = m ((c.tc : Thread Cert.OddKernelIdeal.nD Cert.OddKernelIdeal.τ).loc Cert.OddKernelIdeal.main_arg6))
      ∧ θ_run (Cert.OddReferenceIdeal.defs (F := Ideal)) (onTc (τ := Cert.OddReferenceIdeal.τ) (Cert.OddReferenceIdeal.main (F := Ideal))) ⟨m', fun _ => 0, g'⟩ (fun r => ∀ c : Dev Cert.OddReferenceIdeal.nD,
          r.2.mem ((c.tc : Thread Cert.OddReferenceIdeal.nD Cert.OddReferenceIdeal.τ).loc Cert.OddReferenceIdeal.main_v133) = v0 c
          ∧ r.2.mem ((c.tc : Thread Cert.OddReferenceIdeal.nD Cert.OddReferenceIdeal.τ).loc Cert.OddReferenceIdeal.main_v134) = v1 c
          ∧ r.2.mem ((c.tc : Thread Cert.OddReferenceIdeal.nD Cert.OddReferenceIdeal.τ).loc Cert.OddReferenceIdeal.main_v138) = v2 c
          ∧ r.2.mem ((c.tc : Thread Cert.OddReferenceIdeal.nD Cert.OddReferenceIdeal.τ).loc Cert.OddReferenceIdeal.main_v139) = v3 c
          ∧ r.2.mem ((c.tc : Thread Cert.OddReferenceIdeal.nD Cert.OddReferenceIdeal.τ).loc Cert.OddReferenceIdeal.main_arg0) = m' ((c.tc : Thread Cert.OddReferenceIdeal.nD Cert.OddReferenceIdeal.τ).loc Cert.OddReferenceIdeal.main_arg0)
          ∧ r.2.mem ((c.tc : Thread Cert.OddReferenceIdeal.nD Cert.OddReferenceIdeal.τ).loc Cert.OddReferenceIdeal.main_arg1) = m' ((c.tc : Thread Cert.OddReferenceIdeal.nD Cert.OddReferenceIdeal.τ).loc Cert.OddReferenceIdeal.main_arg1)
          ∧ r.2.mem ((c.tc : Thread Cert.OddReferenceIdeal.nD Cert.OddReferenceIdeal.τ).loc Cert.OddReferenceIdeal.main_arg2) = m' ((c.tc : Thread Cert.OddReferenceIdeal.nD Cert.OddReferenceIdeal.τ).loc Cert.OddReferenceIdeal.main_arg2)
          ∧ r.2.mem ((c.tc : Thread Cert.OddReferenceIdeal.nD Cert.OddReferenceIdeal.τ).loc Cert.OddReferenceIdeal.main_arg3) = m' ((c.tc : Thread Cert.OddReferenceIdeal.nD Cert.OddReferenceIdeal.τ).loc Cert.OddReferenceIdeal.main_arg3)
          ∧ r.2.mem ((c.tc : Thread Cert.OddReferenceIdeal.nD Cert.OddReferenceIdeal.τ).loc Cert.OddReferenceIdeal.main_arg4) = m' ((c.tc : Thread Cert.OddReferenceIdeal.nD Cert.OddReferenceIdeal.τ).loc Cert.OddReferenceIdeal.main_arg4)
          ∧ r.2.mem ((c.tc : Thread Cert.OddReferenceIdeal.nD Cert.OddReferenceIdeal.τ).loc Cert.OddReferenceIdeal.main_arg5) = m' ((c.tc : Thread Cert.OddReferenceIdeal.nD Cert.OddReferenceIdeal.τ).loc Cert.OddReferenceIdeal.main_arg5)
          ∧ r.2.mem ((c.tc : Thread Cert.OddReferenceIdeal.nD Cert.OddReferenceIdeal.τ).loc Cert.OddReferenceIdeal.main_arg6) = m' ((c.tc : Thread Cert.OddReferenceIdeal.nD Cert.OddReferenceIdeal.τ).loc Cert.OddReferenceIdeal.main_arg6))

def Claim : Prop :=
  ∃ (hKernel : Cert.Kernel.Facts) (hKernelIdeal : Cert.KernelIdeal.Facts) (hReferenceIdeal : Cert.ReferenceIdeal.Facts) (hOutKernel : Cert.OutKernel.Facts) (hOutKernelIdeal : Cert.OutKernelIdeal.Facts) (hOutReferenceIdeal : Cert.OutReferenceIdeal.Facts) (hEvenKernel : Cert.EvenKernel.Facts) (hEvenKernelIdeal : Cert.EvenKernelIdeal.Facts) (hEvenReferenceIdeal : Cert.EvenReferenceIdeal.Facts) (hOddKernel : Cert.OddKernel.Facts) (hOddKernelIdeal : Cert.OddKernelIdeal.Facts) (hOddReferenceIdeal : Cert.OddReferenceIdeal.Facts) (hPre_gate_above : Cert.Pre_gate_above.Facts),
    quiescent_Kernel (hKernel := hKernel)
    ∧ quiescent_KernelIdeal (hKernelIdeal := hKernelIdeal)
    ∧ quiescent_ReferenceIdeal (hReferenceIdeal := hReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_EvenKernel (hEvenKernel := hEvenKernel)
    ∧ quiescent_EvenKernelIdeal (hEvenKernelIdeal := hEvenKernelIdeal)
    ∧ quiescent_EvenReferenceIdeal (hEvenReferenceIdeal := hEvenReferenceIdeal)
    ∧ quiescent_OddKernel (hOddKernel := hOddKernel)
    ∧ quiescent_OddKernelIdeal (hOddKernelIdeal := hOddKernelIdeal)
    ∧ quiescent_OddKernelIdeal_pre_gate_above (hOddKernelIdeal := hOddKernelIdeal) (hPre_gate_above := hPre_gate_above)
    ∧ quiescent_OddReferenceIdeal (hOddReferenceIdeal := hOddReferenceIdeal)
    ∧ quiescent_OddReferenceIdeal_pre_gate_above (hOddReferenceIdeal := hOddReferenceIdeal) (hPre_gate_above := hPre_gate_above)
    ∧ preserves_Kernel_KernelIdeal
    ∧ algebraic_KernelIdeal_ReferenceIdeal (hKernelIdeal := hKernelIdeal) (hReferenceIdeal := hReferenceIdeal)
    ∧ preserves_OutKernel_OutKernelIdeal
    ∧ algebraic_OutKernelIdeal_OutReferenceIdeal (hOutKernelIdeal := hOutKernelIdeal) (hOutReferenceIdeal := hOutReferenceIdeal)
    ∧ preserves_EvenKernel_EvenKernelIdeal
    ∧ algebraic_EvenKernelIdeal_EvenReferenceIdeal (hEvenKernelIdeal := hEvenKernelIdeal) (hEvenReferenceIdeal := hEvenReferenceIdeal)
    ∧ preserves_OddKernel_OddKernelIdeal
    ∧ algebraic_OddKernelIdeal_OddReferenceIdeal_pre_gate_above (hOddKernelIdeal := hOddKernelIdeal) (hOddReferenceIdeal := hOddReferenceIdeal) (hPre_gate_above := hPre_gate_above)
-- ==== Pre_gate_above.lean ====
abbrev S2x8192x1024 : Shape := ⟨3, ![2, 8192, 1024]⟩
abbrev S2x1x1024 : Shape := ⟨3, ![2, 1, 1024]⟩
abbrev S1024 : Shape := ⟨1, ![1024]⟩
abbrev S1024x5120 : Shape := ⟨2, ![1024, 5120]⟩
abbrev S128 : Shape := ⟨1, ![128]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5120 : Shape := ⟨3, ![2, 8192, 5120]⟩
abbrev S2x8192x2048 : Shape := ⟨3, ![2, 8192, 2048]⟩

class Facts : Prop where
  reducesTo_S2x8192x1024_S2x8192_d2 : S2x8192x1024.ReducesTo [2] S2x8192
  h_S_ : 0 < S_.numel
  bcast_S2x8192_S2x8192x1_0_1 : S2x8192.BroadcastsInDim S2x8192x1 (![0, 1] : Fin 2 → Fin S2x8192x1.rank)
  bcast_S_S2x8192x1 : S_.BroadcastsInDim S2x8192x1 (![] : Fin 0 → Fin S2x8192x1.rank)
  bcast_S2x8192x1_S2x8192x1024_0_1_2 : S2x8192x1.BroadcastsInDim S2x8192x1024 (![0, 1, 2] : Fin 3 → Fin S2x8192x1024.rank)
  bcast_S1024_S1x1x1024_2 : S1024.BroadcastsInDim S1x1x1024 (![2] : Fin 1 → Fin S1x1x1024.rank)
  bcast_S1x1x1024_S2x8192x1024_0_1_2 : S1x1x1024.BroadcastsInDim S2x8192x1024 (![0, 1, 2] : Fin 3 → Fin S2x8192x1024.rank)
  bcast_S_S2x1x1024 : S_.BroadcastsInDim S2x1x1024 (![] : Fin 0 → Fin S2x1x1024.rank)
  bcast_S2x1x1024_S2x8192x1024_0_1_2 : S2x1x1024.BroadcastsInDim S2x8192x1024 (![0, 1, 2] : Fin 3 → Fin S2x8192x1024.rank)
  slices_S2x8192x5120_S2x8192x2048_0_0_3072 : S2x8192x5120.Slices ![0, 0, 3072] S2x8192x2048
  bcast_S_S2x8192x2048 : S_.BroadcastsInDim S2x8192x2048 (![] : Fin 0 → Fin S2x8192x2048.rank)
  dot_S2x8192x1024_S1024x5120_S2x8192x5120_2_0_01_1_n_n_wf : DotDims.WF S2x8192x1024 S1024x5120 S2x8192x5120 [2] [0] [0, 1] [1] [] []

variable [Facts]

def dot_S2x8192x1024_S1024x5120_S2x8192x5120_2_0_01_1_n_n : DotDims S2x8192x1024 S1024x5120 S2x8192x5120 where
  lhsContracting := [2]
  rhsContracting := [0]
  lhsNonContracting := [0, 1]
  rhsNonContracting := [1]
  lhsBatch := []
  rhsBatch := []
  wf := dot_S2x8192x1024_S1024x5120_S2x8192x5120_2_0_01_1_n_n_wf
def fn_part1 {F : FTy → Type} [FloatOps F] (main_v19 : FVec F S2x8192x5120 .f32) : IVec S2x8192x2048 1 :=
  let main_v20 : FVec F S2x8192x2048 .f32 := (extractStridedSlice S2x8192x2048 ![0, 0, 3072] · slices_S2x8192x5120_S2x8192x2048_0_0_3072) main_v19
  let main_cst_3 : FVec F S_ .f32 := constant S_ .f32 0xFF800000#32
  let main_v21 : FVec F S2x8192x2048 .f32 := broadcastInDim S2x8192x2048 ![] bcast_S_S2x8192x2048 main_cst_3
  let main_v22 : IVec S2x8192x2048 1 := cmpf .ogt main_v20 main_v21
  main_v22

def fn {F : FTy → Type} [FloatOps F] (main_arg0 : FVec F S2x8192x1024 .f32) (main_arg1 : FVec F S2x1x1024 .f32) (main_arg2 : FVec F S2x1x1024 .f32) (main_arg3 : FVec F S1024 .f32) (main_arg4 : FVec F S1024x5120 .f32) (main_arg5 : FVec F S128 .f32) (main_arg6 : FVec F S128 .f32) : IVec S2x8192x2048 1 :=
  let main_v0 : FVec F S2x8192x1024 .f32 := mulf main_arg0 main_arg0
  let main_cst : FVec F S_ .f32 := constant S_ .f32 0x00000000#32
  let main_v1 : FVec F S2x8192 .f32 := (fun x v => Host.reduceAdd x v reducesTo_S2x8192x1024_S2x8192_d2 h_S_) main_v0 main_cst
  let main_v2 : FVec F S2x8192x1 .f32 := broadcastInDim S2x8192x1 ![0, 1] bcast_S2x8192_S2x8192x1_0_1 main_v1
  let main_cst_0 : FVec F S_ .f32 := constant S_ .f32 0x44800000#32
  let main_v3 : FVec F S2x8192x1 .f32 := broadcastInDim S2x8192x1 ![] bcast_S_S2x8192x1 main_cst_0
  let main_v4 : FVec F S2x8192x1 .f32 := Host.divf main_v2 main_v3
  let main_cst_1 : FVec F S_ .f32 := constant S_ .f32 0x358637BD#32
  let main_v5 : FVec F S2x8192x1 .f32 := broadcastInDim S2x8192x1 ![] bcast_S_S2x8192x1 main_cst_1
  let main_v6 : FVec F S2x8192x1 .f32 := addf main_v4 main_v5
  let main_v7 : FVec F S2x8192x1 .f32 := Host.rsqrt main_v6
  let main_v8 : FVec F S2x8192x1024 .f32 := broadcastInDim S2x8192x1024 ![0, 1, 2] bcast_S2x8192x1_S2x8192x1024_0_1_2 main_v7
  let main_v9 : FVec F S2x8192x1024 .f32 := mulf main_arg0 main_v8
  let main_v10 : FVec F S1x1x1024 .f32 := broadcastInDim S1x1x1024 ![2] bcast_S1024_S1x1x1024_2 main_arg3
  let main_v11 : FVec F S2x8192x1024 .f32 := broadcastInDim S2x8192x1024 ![0, 1, 2] bcast_S1x1x1024_S2x8192x1024_0_1_2 main_v10
  let main_v12 : FVec F S2x8192x1024 .f32 := mulf main_v9 main_v11
  let main_cst_2 : FVec F S_ .f32 := constant S_ .f32 0x3F800000#32
  let main_v13 : FVec F S2x1x1024 .f32 := broadcastInDim S2x1x1024 ![] bcast_S_S2x1x1024 main_cst_2
  let main_v14 : FVec F S2x1x1024 .f32 := addf main_v13 main_arg2
  let main_v15 : FVec F S2x8192x1024 .f32 := broadcastInDim S2x8192x1024 ![0, 1, 2] bcast_S2x1x1024_S2x8192x1024_0_1_2 main_v14
  let main_v16 : FVec F S2x8192x1024 .f32 := mulf main_v12 main_v15
  let main_v17 : FVec F S2x8192x1024 .f32 := broadcastInDim S2x8192x1024 ![0, 1, 2] bcast_S2x1x1024_S2x8192x1024_0_1_2 main_arg1
  let main_v18 : FVec F S2x8192x1024 .f32 := addf main_v16 main_v17
  let main_v19 : FVec F S2x8192x5120 .f32 := (fun l r => Host.dotGeneral dot_S2x8192x1024_S1024x5120_S2x8192x5120_2_0_01_1_n_n none l r) main_v18 main_arg4
  fn_part1 (F := F) main_v19
-- ==== Kernel.lean ====
abbrev S16 : Shape := ⟨1, ![16]⟩
abbrev S2x8192x16x128 : Shape := ⟨4, ![2, 8192, 16, 128]⟩
abbrev S2x8192x4x128 : Shape := ⟨4, ![2, 8192, 4, 128]⟩
abbrev S2x256x4x128 : Shape := ⟨4, ![2, 256, 4, 128]⟩
abbrev S2x8192x2048 : Shape := ⟨3, ![2, 8192, 2048]⟩
abbrev S_ : Shape := ⟨0, ![]⟩
abbrev S2x8192x512 : Shape := ⟨3, ![2, 8192, 512]⟩
abbrev S2x256x512 : Shape := ⟨3, ![2, 256, 512]⟩
abbrev S1x4096x512 : Shape := ⟨3, ![1, 4096, 512]⟩
abbrev S1x8192x128 : Shape := ⟨3, ![1, 8192, 128]⟩
abbrev S1x256x128 : Shape := ⟨3, ![1, 256, 128]⟩
abbrev S128x384 : Shape := ⟨2, ![128, 384]⟩
abbrev S1 : Shape := ⟨1, ![1]⟩
abbrev S128x128 : Shape := ⟨2, ![128, 128]⟩
abbrev S512x128 : Shape := ⟨2, ![512, 128]⟩
abbrev S256x128 : Shape := ⟨2, ![256, 128]⟩
abbrev S256x256 : Shape := ⟨2, ![256, 256]⟩
abbrev S384x128 : Shape := ⟨2, ![384, 128]⟩
abbrev S1x128x128 : Shape := ⟨3, ![1, 128, 128]⟩
abbrev S1x384x128 : Shape := ⟨3, ![1, 384, 128]⟩
abbrev S512x384 : Shape := ⟨2, ![512, 384]⟩
abbrev S512x256 : Shape := ⟨2, ![512, 256]⟩
abbrev S384x256 : Shape := ⟨2, ![384, 256]⟩
abbrev S640x256 : Shape := ⟨2, ![640, 256]⟩
abbrev S512 : Shape := ⟨1, ![512]⟩
abbrev S512x1 : Shape := ⟨2, ![512, 1]⟩
abbrev S512x640 : Shape := ⟨2, ![512, 640]⟩

abbrev nBuf : Space → Nat
  | .hbm => 25
  | .vmem => 14
  | .smem => 1
  | _ => 0

abbrev bufTy : (tb : Table) → Fin (tcTables nBuf tb) → BufTy
  | .hbm, ⟨0, _⟩ => ⟨S16, .f32⟩
  | .hbm, ⟨1, _⟩ => ⟨S2x8192x16x128, .f32⟩
  | .hbm, ⟨2, _⟩ => ⟨S2x8192x4x128, .f32⟩
  | .hbm, ⟨3, _⟩ => ⟨S2x8192x4x128, .f32⟩
  | .hbm, ⟨4, _⟩ => ⟨S2x256x4x128, .f32⟩
  | .hbm, ⟨5, _⟩ => ⟨S2x256x4x128, .f32⟩
  | .hbm, ⟨6, _⟩ => ⟨S2x8192x2048, .f32⟩
  | .hbm, ⟨7, _⟩ => ⟨S_, .f32⟩
  | .hbm, ⟨8, _⟩ => ⟨S2x8192x16x128, .f32⟩
  | .hbm, ⟨9, _⟩ => ⟨S2x8192x16x128, .f32⟩
  | .hbm, ⟨10, _⟩ => ⟨S_, .f32⟩
  | .hbm, ⟨11, _⟩ => ⟨S_, .f32⟩
  | .hbm, ⟨12, _⟩ => ⟨S2x8192x16x128, .f32⟩
  | .hbm, ⟨13, _⟩ => ⟨S2x8192x16x128, .f32⟩
  | .hbm, ⟨14, _⟩ => ⟨S2x8192x2048, .f32⟩
  | .hbm, ⟨15, _⟩ => ⟨S2x8192x2048, .bf16⟩
  | .hbm, ⟨16, _⟩ => ⟨S2x8192x512, .f32⟩
  | .hbm, ⟨17, _⟩ => ⟨S2x8192x512, .bf16⟩
  | .hbm, ⟨18, _⟩ => ⟨S2x8192x512, .f32⟩
  | .hbm, ⟨19, _⟩ => ⟨S2x8192x512, .bf16⟩
  | .hbm, ⟨20, _⟩ => ⟨S2x256x512, .f32⟩
  | .hbm, ⟨21, _⟩ => ⟨S2x256x512, .bf16⟩
  | .hbm, ⟨22, _⟩ => ⟨S2x256x512, .f32⟩
  | .hbm, ⟨23, _⟩ => ⟨S2x256x512, .bf16⟩
  | .hbm, ⟨24, _⟩ => ⟨S2x8192x2048, .bf16⟩
  | .local _ .vmem, ⟨0, _⟩ => ⟨S1x4096x512, .bf16⟩
  | .local _ .vmem, ⟨1, _⟩ => ⟨S1x4096x512, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x4096x512, .f32⟩
  | .local _ .vmem, ⟨11, _⟩ => ⟨S1x4096x512, .f32⟩
  | .local _ .vmem, ⟨12, _⟩ => ⟨S1x4096x512, .bf16⟩
  | .local _ .vmem, ⟨13, _⟩ => ⟨S1x4096x512, .bf16⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![2, 4, 2], ![false, false, false]⟩

def k0_off1 (i : grid0.Coords) (c0_i32 : BitVec 32) : Fin 1 → Nat :=
  let arg1 : BitVec 32 := BitVec.ofNat 32 (i 1).val
  let c4_i32 : BitVec 32 := 4#32
  let v3 : BitVec 32 := Scalar.muli arg1 c4_i32
  let v4 : BitVec 32 := Scalar.addi v3 c0_i32
  let v5 : Index := Scalar.indexCast v4
  ![v5.toNat]
def k0_mult1 (i : grid0.Coords) : BitVec 32 :=
  let c7808_i32 : BitVec 32 := 7808#32
  let c0_i32_15 : BitVec 32 := 0#32
  let arg2 : BitVec 32 := BitVec.ofNat 32 (i 2).val
  let c32_i32 : BitVec 32 := 32#32
  let v35 : BitVec 32 := Scalar.muli arg2 c32_i32
  let c0_i32_13 : BitVec 32 := 0#32
  let v36 : BitVec 32 := Scalar.addi v35 c0_i32_13
  let c1_i32_14 : BitVec 32 := 1#32
  let v37 : BitVec 32 := Scalar.subi v36 c1_i32_14
  let c128_i32 : BitVec 32 := 128#32
  let v38 : BitVec 32 := Scalar.muli v37 c128_i32
  let v39 : BitVec 32 := Scalar.maxsi c0_i32_15 v38
  let v40 : BitVec 32 := Scalar.minsi c7808_i32 v39
  v40
def k0_off2 (i : grid0.Coords) (c0_i32_13 : BitVec 32) : Fin 3 → Nat :=
  let c0_25 : Index := 0#32
  let c7808_i32 : BitVec 32 := 7808#32
  let c0_i32_15 : BitVec 32 := 0#32
  let arg2 : BitVec 32 := BitVec.ofNat 32 (i 2).val
  let c32_i32 : BitVec 32 := 32#32
  let v35 : BitVec 32 := Scalar.muli arg2 c32_i32
  let v36 : BitVec 32 := Scalar.addi v35 c0_i32_13
  let c1_i32_14 : BitVec 32 := 1#32
  let v37 : BitVec 32 := Scalar.subi v36 c1_i32_14
  let c128_i32 : BitVec 32 := 128#32
  let v38 : BitVec 32 := Scalar.muli v37 c128_i32
  let v39 : BitVec 32 := Scalar.maxsi c0_i32_15 v38
  let v40 : BitVec 32 := Scalar.minsi c7808_i32 v39
  let v41 : BitVec 32 := v40
  let v51 : Index := Scalar.indexCast v41
  let c0_26 : Index := 0#32
  ![0, v51.toNat, 0]
def k0_mult2 (i : grid0.Coords) : BitVec 32 :=
  let c7808_i32_34 : BitVec 32 := 7808#32
  let c0_i32_33 : BitVec 32 := 0#32
  let arg2 : BitVec 32 := BitVec.ofNat 32 (i 2).val
  let c32_i32_29 : BitVec 32 := 32#32
  let v56 : BitVec 32 := Scalar.muli arg2 c32_i32_29
  let c1_i32_30 : BitVec 32 := 1#32
  let v57 : BitVec 32 := Scalar.addi v56 c1_i32_30
  let c1_i32_31 : BitVec 32 := 1#32
  let v58 : BitVec 32 := Scalar.subi v57 c1_i32_31
  let c128_i32_32 : BitVec 32 := 128#32
  let v59 : BitVec 32 := Scalar.muli v58 c128_i32_32
  let v60 : BitVec 32 := Scalar.maxsi c0_i32_33 v59
  let v61 : BitVec 32 := Scalar.minsi c7808_i32_34 v60
  v61
def k0_mult3 (i : grid0.Coords) : BitVec 32 :=
  let c7808_i32_56 : BitVec 32 := 7808#32
  let c0_i32_55 : BitVec 32 := 0#32
  let arg2 : BitVec 32 := BitVec.ofNat 32 (i 2).val
  let c32_i32_51 : BitVec 32 := 32#32
  let v77 : BitVec 32 := Scalar.muli arg2 c32_i32_51
  let c0_i32_52 : BitVec 32 := 0#32
  let v78 : BitVec 32 := Scalar.addi v77 c0_i32_52
  let c1_i32_53 : BitVec 32 := 1#32
  let v79 : BitVec 32 := Scalar.subi v78 c1_i32_53
  let c128_i32_54 : BitVec 32 := 128#32
  let v80 : BitVec 32 := Scalar.muli v79 c128_i32_54
  let v81 : BitVec 32 := Scalar.maxsi c0_i32_55 v80
  let v82 : BitVec 32 := Scalar.minsi c7808_i32_56 v81
  v82
def k0_mult4 (i : grid0.Coords) : BitVec 32 :=
  let c7808_i32_104 : BitVec 32 := 7808#32
  let c0_i32_103 : BitVec 32 := 0#32
  let arg2 : BitVec 32 := BitVec.ofNat 32 (i 2).val
  let c32_i32_99 : BitVec 32 := 32#32
  let v208 : BitVec 32 := Scalar.muli arg2 c32_i32_99
  let c2_i32_100 : BitVec 32 := 2#32
  let v209 : BitVec 32 := Scalar.addi v208 c2_i32_100
  let c1_i32_101 : BitVec 32 := 1#32
  let v210 : BitVec 32 := Scalar.subi v209 c1_i32_101
  let c128_i32_102 : BitVec 32 := 128#32
  let v211 : BitVec 32 := Scalar.muli v210 c128_i32_102
  let v212 : BitVec 32 := Scalar.maxsi c0_i32_103 v211
  let v213 : BitVec 32 := Scalar.minsi c7808_i32_104 v212
  v213
def k0_mult5 (i : grid0.Coords) : BitVec 32 :=
  let c7808_i32_126 : BitVec 32 := 7808#32
  let c0_i32_125 : BitVec 32 := 0#32
  let arg2 : BitVec 32 := BitVec.ofNat 32 (i 2).val
  let c32_i32_121 : BitVec 32 := 32#32
  let v229 : BitVec 32 := Scalar.muli arg2 c32_i32_121
  let c1_i32_122 : BitVec 32 := 1#32
  let v230 : BitVec 32 := Scalar.addi v229 c1_i32_122
  let c1_i32_123 : BitVec 32 := 1#32
  let v231 : BitVec 32 := Scalar.subi v230 c1_i32_123
  let c128_i32_124 : BitVec 32 := 128#32
  let v232 : BitVec 32 := Scalar.muli v231 c128_i32_124
  let v233 : BitVec 32 := Scalar.maxsi c0_i32_125 v232
  let v234 : BitVec 32 := Scalar.minsi c7808_i32_126 v233
  v234
def k0_mult6 (i : grid0.Coords) : BitVec 32 :=
  let c7808_i32_174 : BitVec 32 := 7808#32
  let c0_i32_173 : BitVec 32 := 0#32
  let arg2 : BitVec 32 := BitVec.ofNat 32 (i 2).val
  let c32_i32_169 : BitVec 32 := 32#32
  let v360 : BitVec 32 := Scalar.muli arg2 c32_i32_169
  let c3_i32_170 : BitVec 32 := 3#32
  let v361 : BitVec 32 := Scalar.addi v360 c3_i32_170
  let c1_i32_171 : BitVec 32 := 1#32
  let v362 : BitVec 32 := Scalar.subi v361 c1_i32_171
  let c128_i32_172 : BitVec 32 := 128#32
  let v363 : BitVec 32 := Scalar.muli v362 c128_i32_172
  let v364 : BitVec 32 := Scalar.maxsi c0_i32_173 v363
  let v365 : BitVec 32 := Scalar.minsi c7808_i32_174 v364
  v365
def k0_mult7 (i : grid0.Coords) : BitVec 32 :=
  let c7808_i32_196 : BitVec 32 := 7808#32
  let c0_i32_195 : BitVec 32 := 0#32
  let arg2 : BitVec 32 := BitVec.ofNat 32 (i 2).val
  let c32_i32_191 : BitVec 32 := 32#32
  let v381 : BitVec 32 := Scalar.muli arg2 c32_i32_191
  let c2_i32_192 : BitVec 32 := 2#32
  let v382 : BitVec 32 := Scalar.addi v381 c2_i32_192
  let c1_i32_193 : BitVec 32 := 1#32
  let v383 : BitVec 32 := Scalar.subi v382 c1_i32_193
  let c128_i32_194 : BitVec 32 := 128#32
  let v384 : BitVec 32 := Scalar.muli v383 c128_i32_194
  let v385 : BitVec 32 := Scalar.maxsi c0_i32_195 v384
  let v386 : BitVec 32 := Scalar.minsi c7808_i32_196 v385
  v386
def k0_mult8 (i : grid0.Coords) : BitVec 32 :=
  let c7808_i32_244 : BitVec 32 := 7808#32
  let c0_i32_243 : BitVec 32 := 0#32
  let arg2 : BitVec 32 := BitVec.ofNat 32 (i 2).val
  let c32_i32_239 : BitVec 32 := 32#32
  let v512 : BitVec 32 := Scalar.muli arg2 c32_i32_239
  let c4_i32_240 : BitVec 32 := 4#32
  let v513 : BitVec 32 := Scalar.addi v512 c4_i32_240
  let c1_i32_241 : BitVec 32 := 1#32
  let v514 : BitVec 32 := Scalar.subi v513 c1_i32_241
  let c128_i32_242 : BitVec 32 := 128#32
  let v515 : BitVec 32 := Scalar.muli v514 c128_i32_242
  let v516 : BitVec 32 := Scalar.maxsi c0_i32_243 v515
  let v517 : BitVec 32 := Scalar.minsi c7808_i32_244 v516
  v517
def k0_mult9 (i : grid0.Coords) : BitVec 32 :=
  let c7808_i32_265 : BitVec 32 := 7808#32
  let c0_i32_264 : BitVec 32 := 0#32
  let arg2 : BitVec 32 := BitVec.ofNat 32 (i 2).val
  let c32_i32_260 : BitVec 32 := 32#32
  let v533 : BitVec 32 := Scalar.muli arg2 c32_i32_260
  let c3_i32_261 : BitVec 32 := 3#32
  let v534 : BitVec 32 := Scalar.addi v533 c3_i32_261
  let c1_i32_262 : BitVec 32 := 1#32
  let v535 : BitVec 32 := Scalar.subi v534 c1_i32_262
  let c128_i32_263 : BitVec 32 := 128#32
  let v536 : BitVec 32 := Scalar.muli v535 c128_i32_263
  let v537 : BitVec 32 := Scalar.maxsi c0_i32_264 v536
  let v538 : BitVec 32 := Scalar.minsi c7808_i32_265 v537
  v538
def k0_mult10 (i : grid0.Coords) : BitVec 32 :=
  let c7808_i32_312 : BitVec 32 := 7808#32
  let c0_i32_311 : BitVec 32 := 0#32
  let arg2 : BitVec 32 := BitVec.ofNat 32 (i 2).val
  let c32_i32_308 : BitVec 32 := 32#32
  let v664 : BitVec 32 := Scalar.muli arg2 c32_i32_308
  let c5_i32 : BitVec 32 := 5#32
  let v665 : BitVec 32 := Scalar.addi v664 c5_i32
  let c1_i32_309 : BitVec 32 := 1#32
  let v666 : BitVec 32 := Scalar.subi v665 c1_i32_309
  let c128_i32_310 : BitVec 32 := 128#32
  let v667 : BitVec 32 := Scalar.muli v666 c128_i32_310
  let v668 : BitVec 32 := Scalar.maxsi c0_i32_311 v667
  let v669 : BitVec 32 := Scalar.minsi c7808_i32_312 v668
  v669
def k0_mult11 (i : grid0.Coords) : BitVec 32 :=
  let c7808_i32_333 : BitVec 32 := 7808#32
  let c0_i32_332 : BitVec 32 := 0#32
  let arg2 : BitVec 32 := BitVec.ofNat 32 (i 2).val
  let c32_i32_328 : BitVec 32 := 32#32
  let v685 : BitVec 32 := Scalar.muli arg2 c32_i32_328
  let c4_i32_329 : BitVec 32 := 4#32
  let v686 : BitVec 32 := Scalar.addi v685 c4_i32_329
  let c1_i32_330 : BitVec 32 := 1#32
  let v687 : BitVec 32 := Scalar.subi v686 c1_i32_330
  let c128_i32_331 : BitVec 32 := 128#32
  let v688 : BitVec 32 := Scalar.muli v687 c128_i32_331
  let v689 : BitVec 32 := Scalar.maxsi c0_i32_332 v688
  let v690 : BitVec 32 := Scalar.minsi c7808_i32_333 v689
  v690
def k0_mult12 (i : grid0.Coords) : BitVec 32 :=
  let c7808_i32_380 : BitVec 32 := 7808#32
  let c0_i32_379 : BitVec 32 := 0#32
  let arg2 : BitVec 32 := BitVec.ofNat 32 (i 2).val
  let c32_i32_376 : BitVec 32 := 32#32
  let v816 : BitVec 32 := Scalar.muli arg2 c32_i32_376
  let c6_i32 : BitVec 32 := 6#32
  let v817 : BitVec 32 := Scalar.addi v816 c6_i32
  let c1_i32_377 : BitVec 32 := 1#32
  let v818 : BitVec 32 := Scalar.subi v817 c1_i32_377
  let c128_i32_378 : BitVec 32 := 128#32
  let v819 : BitVec 32 := Scalar.muli v818 c128_i32_378
  let v820 : BitVec 32 := Scalar.maxsi c0_i32_379 v819
  let v821 : BitVec 32 := Scalar.minsi c7808_i32_380 v820
  v821
def k0_mult13 (i : grid0.Coords) : BitVec 32 :=
  let c7808_i32_401 : BitVec 32 := 7808#32
  let c0_i32_400 : BitVec 32 := 0#32
  let arg2 : BitVec 32 := BitVec.ofNat 32 (i 2).val
  let c32_i32_396 : BitVec 32 := 32#32
  let v837 : BitVec 32 := Scalar.muli arg2 c32_i32_396
  let c5_i32_397 : BitVec 32 := 5#32
  let v838 : BitVec 32 := Scalar.addi v837 c5_i32_397
  let c1_i32_398 : BitVec 32 := 1#32
  let v839 : BitVec 32 := Scalar.subi v838 c1_i32_398
  let c128_i32_399 : BitVec 32 := 128#32
  let v840 : BitVec 32 := Scalar.muli v839 c128_i32_399
  let v841 : BitVec 32 := Scalar.maxsi c0_i32_400 v840
  let v842 : BitVec 32 := Scalar.minsi c7808_i32_401 v841
  v842
def k0_mult14 (i : grid0.Coords) : BitVec 32 :=
  let c7808_i32_448 : BitVec 32 := 7808#32
  let c0_i32_447 : BitVec 32 := 0#32
  let arg2 : BitVec 32 := BitVec.ofNat 32 (i 2).val
  let c32_i32_444 : BitVec 32 := 32#32
  let v968 : BitVec 32 := Scalar.muli arg2 c32_i32_444
  let c7_i32 : BitVec 32 := 7#32
  let v969 : BitVec 32 := Scalar.addi v968 c7_i32
  let c1_i32_445 : BitVec 32 := 1#32
  let v970 : BitVec 32 := Scalar.subi v969 c1_i32_445
  let c128_i32_446 : BitVec 32 := 128#32
  let v971 : BitVec 32 := Scalar.muli v970 c128_i32_446
  let v972 : BitVec 32 := Scalar.maxsi c0_i32_447 v971
  let v973 : BitVec 32 := Scalar.minsi c7808_i32_448 v972
  v973
def k0_mult15 (i : grid0.Coords) : BitVec 32 :=
  let c7808_i32_469 : BitVec 32 := 7808#32
  let c0_i32_468 : BitVec 32 := 0#32
  let arg2 : BitVec 32 := BitVec.ofNat 32 (i 2).val
  let c32_i32_464 : BitVec 32 := 32#32
  let v989 : BitVec 32 := Scalar.muli arg2 c32_i32_464
  let c6_i32_465 : BitVec 32 := 6#32
  let v990 : BitVec 32 := Scalar.addi v989 c6_i32_465
  let c1_i32_466 : BitVec 32 := 1#32
  let v991 : BitVec 32 := Scalar.subi v990 c1_i32_466
  let c128_i32_467 : BitVec 32 := 128#32
  let v992 : BitVec 32 := Scalar.muli v991 c128_i32_467
  let v993 : BitVec 32 := Scalar.maxsi c0_i32_468 v992
  let v994 : BitVec 32 := Scalar.minsi c7808_i32_469 v993
  v994
def k0_mult16 (i : grid0.Coords) : BitVec 32 :=
  let c7808_i32_516 : BitVec 32 := 7808#32
  let c0_i32_515 : BitVec 32 := 0#32
  let arg2 : BitVec 32 := BitVec.ofNat 32 (i 2).val
  let c32_i32_512 : BitVec 32 := 32#32
  let v1120 : BitVec 32 := Scalar.muli arg2 c32_i32_512
  let c8_i32 : BitVec 32 := 8#32
  let v1121 : BitVec 32 := Scalar.addi v1120 c8_i32
  let c1_i32_513 : BitVec 32 := 1#32
  let v1122 : BitVec 32 := Scalar.subi v1121 c1_i32_513
  let c128_i32_514 : BitVec 32 := 128#32
  let v1123 : BitVec 32 := Scalar.muli v1122 c128_i32_514
  let v1124 : BitVec 32 := Scalar.maxsi c0_i32_515 v1123
  let v1125 : BitVec 32 := Scalar.minsi c7808_i32_516 v1124
  v1125
def k0_mult17 (i : grid0.Coords) : BitVec 32 :=
  let c7808_i32_537 : BitVec 32 := 7808#32
  let c0_i32_536 : BitVec 32 := 0#32
  let arg2 : BitVec 32 := BitVec.ofNat 32 (i 2).val
  let c32_i32_532 : BitVec 32 := 32#32
  let v1141 : BitVec 32 := Scalar.muli arg2 c32_i32_532
  let c7_i32_533 : BitVec 32 := 7#32
  let v1142 : BitVec 32 := Scalar.addi v1141 c7_i32_533
  let c1_i32_534 : BitVec 32 := 1#32
  let v1143 : BitVec 32 := Scalar.subi v1142 c1_i32_534
  let c128_i32_535 : BitVec 32 := 128#32
  let v1144 : BitVec 32 := Scalar.muli v1143 c128_i32_535
  let v1145 : BitVec 32 := Scalar.maxsi c0_i32_536 v1144
  let v1146 : BitVec 32 := Scalar.minsi c7808_i32_537 v1145
  v1146
def k0_mult18 (i : grid0.Coords) : BitVec 32 :=
  let c7808_i32_584 : BitVec 32 := 7808#32
  let c0_i32_583 : BitVec 32 := 0#32
  let arg2 : BitVec 32 := BitVec.ofNat 32 (i 2).val
  let c32_i32_580 : BitVec 32 := 32#32
  let v1272 : BitVec 32 := Scalar.muli arg2 c32_i32_580
  let c9_i32 : BitVec 32 := 9#32
  let v1273 : BitVec 32 := Scalar.addi v1272 c9_i32
  let c1_i32_581 : BitVec 32 := 1#32
  let v1274 : BitVec 32 := Scalar.subi v1273 c1_i32_581
  let c128_i32_582 : BitVec 32 := 128#32
  let v1275 : BitVec 32 := Scalar.muli v1274 c128_i32_582
  let v1276 : BitVec 32 := Scalar.maxsi c0_i32_583 v1275
  let v1277 : BitVec 32 := Scalar.minsi c7808_i32_584 v1276
  v1277
def k0_mult19 (i : grid0.Coords) : BitVec 32 :=
  let c7808_i32_605 : BitVec 32 := 7808#32
  let c0_i32_604 : BitVec 32 := 0#32
  let arg2 : BitVec 32 := BitVec.ofNat 32 (i 2).val
  let c32_i32_600 : BitVec 32 := 32#32
  let v1293 : BitVec 32 := Scalar.muli arg2 c32_i32_600
  let c8_i32_601 : BitVec 32 := 8#32
  let v1294 : BitVec 32 := Scalar.addi v1293 c8_i32_601
  let c1_i32_602 : BitVec 32 := 1#32
  let v1295 : BitVec 32 := Scalar.subi v1294 c1_i32_602
  let c128_i32_603 : BitVec 32 := 128#32
  let v1296 : BitVec 32 := Scalar.muli v1295 c128_i32_603
  let v1297 : BitVec 32 := Scalar.maxsi c0_i32_604 v1296
  let v1298 : BitVec 32 := Scalar.minsi c7808_i32_605 v1297
  v1298
def k0_mult20 (i : grid0.Coords) : BitVec 32 :=
  let c7808_i32_652 : BitVec 32 := 7808#32
  let c0_i32_651 : BitVec 32 := 0#32
  let arg2 : BitVec 32 := BitVec.ofNat 32 (i 2).val
  let c32_i32_648 : BitVec 32 := 32#32
  let v1424 : BitVec 32 := Scalar.muli arg2 c32_i32_648
  let c10_i32 : BitVec 32 := 10#32
  let v1425 : BitVec 32 := Scalar.addi v1424 c10_i32
  let c1_i32_649 : BitVec 32 := 1#32
  let v1426 : BitVec 32 := Scalar.subi v1425 c1_i32_649
  let c128_i32_650 : BitVec 32 := 128#32
  let v1427 : BitVec 32 := Scalar.muli v1426 c128_i32_650
  let v1428 : BitVec 32 := Scalar.maxsi c0_i32_651 v1427
  let v1429 : BitVec 32 := Scalar.minsi c7808_i32_652 v1428
  v1429
def k0_mult21 (i : grid0.Coords) : BitVec 32 :=
  let c7808_i32_673 : BitVec 32 := 7808#32
  let c0_i32_672 : BitVec 32 := 0#32
  let arg2 : BitVec 32 := BitVec.ofNat 32 (i 2).val
  let c32_i32_668 : BitVec 32 := 32#32
  let v1445 : BitVec 32 := Scalar.muli arg2 c32_i32_668
  let c9_i32_669 : BitVec 32 := 9#32
  let v1446 : BitVec 32 := Scalar.addi v1445 c9_i32_669
  let c1_i32_670 : BitVec 32 := 1#32
  let v1447 : BitVec 32 := Scalar.subi v1446 c1_i32_670
  let c128_i32_671 : BitVec 32 := 128#32
  let v1448 : BitVec 32 := Scalar.muli v1447 c128_i32_671
  let v1449 : BitVec 32 := Scalar.maxsi c0_i32_672 v1448
  let v1450 : BitVec 32 := Scalar.minsi c7808_i32_673 v1449
  v1450
def k0_mult22 (i : grid0.Coords) : BitVec 32 :=
  let c7808_i32_720 : BitVec 32 := 7808#32
  let c0_i32_719 : BitVec 32 := 0#32
  let arg2 : BitVec 32 := BitVec.ofNat 32 (i 2).val
  let c32_i32_716 : BitVec 32 := 32#32
  let v1576 : BitVec 32 := Scalar.muli arg2 c32_i32_716
  let c11_i32 : BitVec 32 := 11#32
  let v1577 : BitVec 32 := Scalar.addi v1576 c11_i32
  let c1_i32_717 : BitVec 32 := 1#32
  let v1578 : BitVec 32 := Scalar.subi v1577 c1_i32_717
  let c128_i32_718 : BitVec 32 := 128#32
  let v1579 : BitVec 32 := Scalar.muli v1578 c128_i32_718
  let v1580 : BitVec 32 := Scalar.maxsi c0_i32_719 v1579
  let v1581 : BitVec 32 := Scalar.minsi c7808_i32_720 v1580
  v1581
def k0_mult23 (i : grid0.Coords) : BitVec 32 :=
  let c7808_i32_741 : BitVec 32 := 7808#32
  let c0_i32_740 : BitVec 32 := 0#32
  let arg2 : BitVec 32 := BitVec.ofNat 32 (i 2).val
  let c32_i32_736 : BitVec 32 := 32#32
  let v1597 : BitVec 32 := Scalar.muli arg2 c32_i32_736
  let c10_i32_737 : BitVec 32 := 10#32
  let v1598 : BitVec 32 := Scalar.addi v1597 c10_i32_737
  let c1_i32_738 : BitVec 32 := 1#32
  let v1599 : BitVec 32 := Scalar.subi v1598 c1_i32_738
  let c128_i32_739 : BitVec 32 := 128#32
  let v1600 : BitVec 32 := Scalar.muli v1599 c128_i32_739
  let v1601 : BitVec 32 := Scalar.maxsi c0_i32_740 v1600
  let v1602 : BitVec 32 := Scalar.minsi c7808_i32_741 v1601
  v1602
def k0_mult24 (i : grid0.Coords) : BitVec 32 :=
  let c7808_i32_788 : BitVec 32 := 7808#32
  let c0_i32_787 : BitVec 32 := 0#32
  let arg2 : BitVec 32 := BitVec.ofNat 32 (i 2).val
  let c32_i32_784 : BitVec 32 := 32#32
  let v1728 : BitVec 32 := Scalar.muli arg2 c32_i32_784
  let c12_i32 : BitVec 32 := 12#32
  let v1729 : BitVec 32 := Scalar.addi v1728 c12_i32
  let c1_i32_785 : BitVec 32 := 1#32
  let v1730 : BitVec 32 := Scalar.subi v1729 c1_i32_785
  let c128_i32_786 : BitVec 32 := 128#32
  let v1731 : BitVec 32 := Scalar.muli v1730 c128_i32_786
  let v1732 : BitVec 32 := Scalar.maxsi c0_i32_787 v1731
  let v1733 : BitVec 32 := Scalar.minsi c7808_i32_788 v1732
  v1733
def k0_mult25 (i : grid0.Coords) : BitVec 32 :=
  let c7808_i32_809 : BitVec 32 := 7808#32
  let c0_i32_808 : BitVec 32 := 0#32
  let arg2 : BitVec 32 := BitVec.ofNat 32 (i 2).val
  let c32_i32_804 : BitVec 32 := 32#32
  let v1749 : BitVec 32 := Scalar.muli arg2 c32_i32_804
  let c11_i32_805 : BitVec 32 := 11#32
  let v1750 : BitVec 32 := Scalar.addi v1749 c11_i32_805
  let c1_i32_806 : BitVec 32 := 1#32
  let v1751 : BitVec 32 := Scalar.subi v1750 c1_i32_806
  let c128_i32_807 : BitVec 32 := 128#32
  let v1752 : BitVec 32 := Scalar.muli v1751 c128_i32_807
  let v1753 : BitVec 32 := Scalar.maxsi c0_i32_808 v1752
  let v1754 : BitVec 32 := Scalar.minsi c7808_i32_809 v1753
  v1754
def k0_mult26 (i : grid0.Coords) : BitVec 32 :=
  let c7808_i32_856 : BitVec 32 := 7808#32
  let c0_i32_855 : BitVec 32 := 0#32
  let arg2 : BitVec 32 := BitVec.ofNat 32 (i 2).val
  let c32_i32_852 : BitVec 32 := 32#32
  let v1880 : BitVec 32 := Scalar.muli arg2 c32_i32_852
  let c13_i32 : BitVec 32 := 13#32
  let v1881 : BitVec 32 := Scalar.addi v1880 c13_i32
  let c1_i32_853 : BitVec 32 := 1#32
  let v1882 : BitVec 32 := Scalar.subi v1881 c1_i32_853
  let c128_i32_854 : BitVec 32 := 128#32
  let v1883 : BitVec 32 := Scalar.muli v1882 c128_i32_854
  let v1884 : BitVec 32 := Scalar.maxsi c0_i32_855 v1883
  let v1885 : BitVec 32 := Scalar.minsi c7808_i32_856 v1884
  v1885
def k0_mult27 (i : grid0.Coords) : BitVec 32 :=
  let c7808_i32_877 : BitVec 32 := 7808#32
  let c0_i32_876 : BitVec 32 := 0#32
  let arg2 : BitVec 32 := BitVec.ofNat 32 (i 2).val
  let c32_i32_872 : BitVec 32 := 32#32
  let v1901 : BitVec 32 := Scalar.muli arg2 c32_i32_872
  let c12_i32_873 : BitVec 32 := 12#32
  let v1902 : BitVec 32 := Scalar.addi v1901 c12_i32_873
  let c1_i32_874 : BitVec 32 := 1#32
  let v1903 : BitVec 32 := Scalar.subi v1902 c1_i32_874
  let c128_i32_875 : BitVec 32 := 128#32
  let v1904 : BitVec 32 := Scalar.muli v1903 c128_i32_875
  let v1905 : BitVec 32 := Scalar.maxsi c0_i32_876 v1904
  let v1906 : BitVec 32 := Scalar.minsi c7808_i32_877 v1905
  v1906
def k0_mult28 (i : grid0.Coords) : BitVec 32 :=
  let c7808_i32_924 : BitVec 32 := 7808#32
  let c0_i32_923 : BitVec 32 := 0#32
  let arg2 : BitVec 32 := BitVec.ofNat 32 (i 2).val
  let c32_i32_920 : BitVec 32 := 32#32
  let v2032 : BitVec 32 := Scalar.muli arg2 c32_i32_920
  let c14_i32 : BitVec 32 := 14#32
  let v2033 : BitVec 32 := Scalar.addi v2032 c14_i32
  let c1_i32_921 : BitVec 32 := 1#32
  let v2034 : BitVec 32 := Scalar.subi v2033 c1_i32_921
  let c128_i32_922 : BitVec 32 := 128#32
  let v2035 : BitVec 32 := Scalar.muli v2034 c128_i32_922
  let v2036 : BitVec 32 := Scalar.maxsi c0_i32_923 v2035
  let v2037 : BitVec 32 := Scalar.minsi c7808_i32_924 v2036
  v2037
def k0_mult29 (i : grid0.Coords) : BitVec 32 :=
  let c7808_i32_945 : BitVec 32 := 7808#32
  let c0_i32_944 : BitVec 32 := 0#32
  let arg2 : BitVec 32 := BitVec.ofNat 32 (i 2).val
  let c32_i32_940 : BitVec 32 := 32#32
  let v2053 : BitVec 32 := Scalar.muli arg2 c32_i32_940
  let c13_i32_941 : BitVec 32 := 13#32
  let v2054 : BitVec 32 := Scalar.addi v2053 c13_i32_941
  let c1_i32_942 : BitVec 32 := 1#32
  let v2055 : BitVec 32 := Scalar.subi v2054 c1_i32_942
  let c128_i32_943 : BitVec 32 := 128#32
  let v2056 : BitVec 32 := Scalar.muli v2055 c128_i32_943
  let v2057 : BitVec 32 := Scalar.maxsi c0_i32_944 v2056
  let v2058 : BitVec 32 := Scalar.minsi c7808_i32_945 v2057
  v2058
def k0_mult30 (i : grid0.Coords) : BitVec 32 :=
  let c7808_i32_992 : BitVec 32 := 7808#32
  let c0_i32_991 : BitVec 32 := 0#32
  let arg2 : BitVec 32 := BitVec.ofNat 32 (i 2).val
  let c32_i32_988 : BitVec 32 := 32#32
  let v2184 : BitVec 32 := Scalar.muli arg2 c32_i32_988
  let c15_i32 : BitVec 32 := 15#32
  let v2185 : BitVec 32 := Scalar.addi v2184 c15_i32
  let c1_i32_989 : BitVec 32 := 1#32
  let v2186 : BitVec 32 := Scalar.subi v2185 c1_i32_989
  let c128_i32_990 : BitVec 32 := 128#32
  let v2187 : BitVec 32 := Scalar.muli v2186 c128_i32_990
  let v2188 : BitVec 32 := Scalar.maxsi c0_i32_991 v2187
  let v2189 : BitVec 32 := Scalar.minsi c7808_i32_992 v2188
  v2189
def k0_mult31 (i : grid0.Coords) : BitVec 32 :=
  let c7808_i32_1013 : BitVec 32 := 7808#32
  let c0_i32_1012 : BitVec 32 := 0#32
  let arg2 : BitVec 32 := BitVec.ofNat 32 (i 2).val
  let c32_i32_1008 : BitVec 32 := 32#32
  let v2205 : BitVec 32 := Scalar.muli arg2 c32_i32_1008
  let c14_i32_1009 : BitVec 32 := 14#32
  let v2206 : BitVec 32 := Scalar.addi v2205 c14_i32_1009
  let c1_i32_1010 : BitVec 32 := 1#32
  let v2207 : BitVec 32 := Scalar.subi v2206 c1_i32_1010
  let c128_i32_1011 : BitVec 32 := 128#32
  let v2208 : BitVec 32 := Scalar.muli v2207 c128_i32_1011
  let v2209 : BitVec 32 := Scalar.maxsi c0_i32_1012 v2208
  let v2210 : BitVec 32 := Scalar.minsi c7808_i32_1013 v2209
  v2210
def k0_mult32 (i : grid0.Coords) : BitVec 32 :=
  let c7808_i32_1060 : BitVec 32 := 7808#32
  let c0_i32_1059 : BitVec 32 := 0#32
  let arg2 : BitVec 32 := BitVec.ofNat 32 (i 2).val
  let c32_i32_1056 : BitVec 32 := 32#32
  let v2336 : BitVec 32 := Scalar.muli arg2 c32_i32_1056
  let c16_i32 : BitVec 32 := 16#32
  let v2337 : BitVec 32 := Scalar.addi v2336 c16_i32
  let c1_i32_1057 : BitVec 32 := 1#32
  let v2338 : BitVec 32 := Scalar.subi v2337 c1_i32_1057
  let c128_i32_1058 : BitVec 32 := 128#32
  let v2339 : BitVec 32 := Scalar.muli v2338 c128_i32_1058
  let v2340 : BitVec 32 := Scalar.maxsi c0_i32_1059 v2339
  let v2341 : BitVec 32 := Scalar.minsi c7808_i32_1060 v2340
  v2341
def k0_mult33 (i : grid0.Coords) : BitVec 32 :=
  let c7808_i32_1081 : BitVec 32 := 7808#32
  let c0_i32_1080 : BitVec 32 := 0#32
  let arg2 : BitVec 32 := BitVec.ofNat 32 (i 2).val
  let c32_i32_1076 : BitVec 32 := 32#32
  let v2357 : BitVec 32 := Scalar.muli arg2 c32_i32_1076
  let c15_i32_1077 : BitVec 32 := 15#32
  let v2358 : BitVec 32 := Scalar.addi v2357 c15_i32_1077
  let c1_i32_1078 : BitVec 32 := 1#32
  let v2359 : BitVec 32 := Scalar.subi v2358 c1_i32_1078
  let c128_i32_1079 : BitVec 32 := 128#32
  let v2360 : BitVec 32 := Scalar.muli v2359 c128_i32_1079
  let v2361 : BitVec 32 := Scalar.maxsi c0_i32_1080 v2360
  let v2362 : BitVec 32 := Scalar.minsi c7808_i32_1081 v2361
  v2362
def k0_mult34 (i : grid0.Coords) : BitVec 32 :=
  let c7808_i32_1128 : BitVec 32 := 7808#32
  let c0_i32_1127 : BitVec 32 := 0#32
  let arg2 : BitVec 32 := BitVec.ofNat 32 (i 2).val
  let c32_i32_1124 : BitVec 32 := 32#32
  let v2488 : BitVec 32 := Scalar.muli arg2 c32_i32_1124
  let c17_i32 : BitVec 32 := 17#32
  let v2489 : BitVec 32 := Scalar.addi v2488 c17_i32
  let c1_i32_1125 : BitVec 32 := 1#32
  let v2490 : BitVec 32 := Scalar.subi v2489 c1_i32_1125
  let c128_i32_1126 : BitVec 32 := 128#32
  let v2491 : BitVec 32 := Scalar.muli v2490 c128_i32_1126
  let v2492 : BitVec 32 := Scalar.maxsi c0_i32_1127 v2491
  let v2493 : BitVec 32 := Scalar.minsi c7808_i32_1128 v2492
  v2493
def k0_mult35 (i : grid0.Coords) : BitVec 32 :=
  let c7808_i32_1149 : BitVec 32 := 7808#32
  let c0_i32_1148 : BitVec 32 := 0#32
  let arg2 : BitVec 32 := BitVec.ofNat 32 (i 2).val
  let c32_i32_1144 : BitVec 32 := 32#32
  let v2509 : BitVec 32 := Scalar.muli arg2 c32_i32_1144
  let c16_i32_1145 : BitVec 32 := 16#32
  let v2510 : BitVec 32 := Scalar.addi v2509 c16_i32_1145
  let c1_i32_1146 : BitVec 32 := 1#32
  let v2511 : BitVec 32 := Scalar.subi v2510 c1_i32_1146
  let c128_i32_1147 : BitVec 32 := 128#32
  let v2512 : BitVec 32 := Scalar.muli v2511 c128_i32_1147
  let v2513 : BitVec 32 := Scalar.maxsi c0_i32_1148 v2512
  let v2514 : BitVec 32 := Scalar.minsi c7808_i32_1149 v2513
  v2514
def k0_mult36 (i : grid0.Coords) : BitVec 32 :=
  let c7808_i32_1196 : BitVec 32 := 7808#32
  let c0_i32_1195 : BitVec 32 := 0#32
  let arg2 : BitVec 32 := BitVec.ofNat 32 (i 2).val
  let c32_i32_1192 : BitVec 32 := 32#32
  let v2640 : BitVec 32 := Scalar.muli arg2 c32_i32_1192
  let c18_i32 : BitVec 32 := 18#32
  let v2641 : BitVec 32 := Scalar.addi v2640 c18_i32
  let c1_i32_1193 : BitVec 32 := 1#32
  let v2642 : BitVec 32 := Scalar.subi v2641 c1_i32_1193
  let c128_i32_1194 : BitVec 32 := 128#32
  let v2643 : BitVec 32 := Scalar.muli v2642 c128_i32_1194
  let v2644 : BitVec 32 := Scalar.maxsi c0_i32_1195 v2643
  let v2645 : BitVec 32 := Scalar.minsi c7808_i32_1196 v2644
  v2645
def k0_mult37 (i : grid0.Coords) : BitVec 32 :=
  let c7808_i32_1217 : BitVec 32 := 7808#32
  let c0_i32_1216 : BitVec 32 := 0#32
  let arg2 : BitVec 32 := BitVec.ofNat 32 (i 2).val
  let c32_i32_1212 : BitVec 32 := 32#32
  let v2661 : BitVec 32 := Scalar.muli arg2 c32_i32_1212
  let c17_i32_1213 : BitVec 32 := 17#32
  let v2662 : BitVec 32 := Scalar.addi v2661 c17_i32_1213
  let c1_i32_1214 : BitVec 32 := 1#32
  let v2663 : BitVec 32 := Scalar.subi v2662 c1_i32_1214
  let c128_i32_1215 : BitVec 32 := 128#32
  let v2664 : BitVec 32 := Scalar.muli v2663 c128_i32_1215
  let v2665 : BitVec 32 := Scalar.maxsi c0_i32_1216 v2664
  let v2666 : BitVec 32 := Scalar.minsi c7808_i32_1217 v2665
  v2666
def k0_mult38 (i : grid0.Coords) : BitVec 32 :=
  let c7808_i32_1264 : BitVec 32 := 7808#32
  let c0_i32_1263 : BitVec 32 := 0#32
  let arg2 : BitVec 32 := BitVec.ofNat 32 (i 2).val
  let c32_i32_1260 : BitVec 32 := 32#32
  let v2792 : BitVec 32 := Scalar.muli arg2 c32_i32_1260
  let c19_i32 : BitVec 32 := 19#32
  let v2793 : BitVec 32 := Scalar.addi v2792 c19_i32
  let c1_i32_1261 : BitVec 32 := 1#32
  let v2794 : BitVec 32 := Scalar.subi v2793 c1_i32_1261
  let c128_i32_1262 : BitVec 32 := 128#32
  let v2795 : BitVec 32 := Scalar.muli v2794 c128_i32_1262
  let v2796 : BitVec 32 := Scalar.maxsi c0_i32_1263 v2795
  let v2797 : BitVec 32 := Scalar.minsi c7808_i32_1264 v2796
  v2797
def k0_mult39 (i : grid0.Coords) : BitVec 32 :=
  let c7808_i32_1285 : BitVec 32 := 7808#32
  let c0_i32_1284 : BitVec 32 := 0#32
  let arg2 : BitVec 32 := BitVec.ofNat 32 (i 2).val
  let c32_i32_1280 : BitVec 32 := 32#32
  let v2813 : BitVec 32 := Scalar.muli arg2 c32_i32_1280
  let c18_i32_1281 : BitVec 32 := 18#32
  let v2814 : BitVec 32 := Scalar.addi v2813 c18_i32_1281
  let c1_i32_1282 : BitVec 32 := 1#32
  let v2815 : BitVec 32 := Scalar.subi v2814 c1_i32_1282
  let c128_i32_1283 : BitVec 32 := 128#32
  let v2816 : BitVec 32 := Scalar.muli v2815 c128_i32_1283
  let v2817 : BitVec 32 := Scalar.maxsi c0_i32_1284 v2816
  let v2818 : BitVec 32 := Scalar.minsi c7808_i32_1285 v2817
  v2818
def k0_mult40 (i : grid0.Coords) : BitVec 32 :=
  let c7808_i32_1332 : BitVec 32 := 7808#32
  let c0_i32_1331 : BitVec 32 := 0#32
  let arg2 : BitVec 32 := BitVec.ofNat 32 (i 2).val
  let c32_i32_1328 : BitVec 32 := 32#32
  let v2944 : BitVec 32 := Scalar.muli arg2 c32_i32_1328
  let c20_i32 : BitVec 32 := 20#32
  let v2945 : BitVec 32 := Scalar.addi v2944 c20_i32
  let c1_i32_1329 : BitVec 32 := 1#32
  let v2946 : BitVec 32 := Scalar.subi v2945 c1_i32_1329
  let c128_i32_1330 : BitVec 32 := 128#32
  let v2947 : BitVec 32 := Scalar.muli v2946 c128_i32_1330
  let v2948 : BitVec 32 := Scalar.maxsi c0_i32_1331 v2947
  let v2949 : BitVec 32 := Scalar.minsi c7808_i32_1332 v2948
  v2949
def k0_mult41 (i : grid0.Coords) : BitVec 32 :=
  let c7808_i32_1353 : BitVec 32 := 7808#32
  let c0_i32_1352 : BitVec 32 := 0#32
  let arg2 : BitVec 32 := BitVec.ofNat 32 (i 2).val
  let c32_i32_1348 : BitVec 32 := 32#32
  let v2965 : BitVec 32 := Scalar.muli arg2 c32_i32_1348
  let c19_i32_1349 : BitVec 32 := 19#32
  let v2966 : BitVec 32 := Scalar.addi v2965 c19_i32_1349
  let c1_i32_1350 : BitVec 32 := 1#32
  let v2967 : BitVec 32 := Scalar.subi v2966 c1_i32_1350
  let c128_i32_1351 : BitVec 32 := 128#32
  let v2968 : BitVec 32 := Scalar.muli v2967 c128_i32_1351
  let v2969 : BitVec 32 := Scalar.maxsi c0_i32_1352 v2968
  let v2970 : BitVec 32 := Scalar.minsi c7808_i32_1353 v2969
  v2970
def k0_mult42 (i : grid0.Coords) : BitVec 32 :=
  let c7808_i32_1400 : BitVec 32 := 7808#32
  let c0_i32_1399 : BitVec 32 := 0#32
  let arg2 : BitVec 32 := BitVec.ofNat 32 (i 2).val
  let c32_i32_1396 : BitVec 32 := 32#32
  let v3096 : BitVec 32 := Scalar.muli arg2 c32_i32_1396
  let c21_i32 : BitVec 32 := 21#32
  let v3097 : BitVec 32 := Scalar.addi v3096 c21_i32
  let c1_i32_1397 : BitVec 32 := 1#32
  let v3098 : BitVec 32 := Scalar.subi v3097 c1_i32_1397
  let c128_i32_1398 : BitVec 32 := 128#32
  let v3099 : BitVec 32 := Scalar.muli v3098 c128_i32_1398
  let v3100 : BitVec 32 := Scalar.maxsi c0_i32_1399 v3099
  let v3101 : BitVec 32 := Scalar.minsi c7808_i32_1400 v3100
  v3101
def k0_mult43 (i : grid0.Coords) : BitVec 32 :=
  let c7808_i32_1421 : BitVec 32 := 7808#32
  let c0_i32_1420 : BitVec 32 := 0#32
  let arg2 : BitVec 32 := BitVec.ofNat 32 (i 2).val
  let c32_i32_1416 : BitVec 32 := 32#32
  let v3117 : BitVec 32 := Scalar.muli arg2 c32_i32_1416
  let c20_i32_1417 : BitVec 32 := 20#32
  let v3118 : BitVec 32 := Scalar.addi v3117 c20_i32_1417
  let c1_i32_1418 : BitVec 32 := 1#32
  let v3119 : BitVec 32 := Scalar.subi v3118 c1_i32_1418
  let c128_i32_1419 : BitVec 32 := 128#32
  let v3120 : BitVec 32 := Scalar.muli v3119 c128_i32_1419
  let v3121 : BitVec 32 := Scalar.maxsi c0_i32_1420 v3120
  let v3122 : BitVec 32 := Scalar.minsi c7808_i32_1421 v3121
  v3122
def k0_mult44 (i : grid0.Coords) : BitVec 32 :=
  let c7808_i32_1468 : BitVec 32 := 7808#32
  let c0_i32_1467 : BitVec 32 := 0#32
  let arg2 : BitVec 32 := BitVec.ofNat 32 (i 2).val
  let c32_i32_1464 : BitVec 32 := 32#32
  let v3248 : BitVec 32 := Scalar.muli arg2 c32_i32_1464
  let c22_i32 : BitVec 32 := 22#32
  let v3249 : BitVec 32 := Scalar.addi v3248 c22_i32
  let c1_i32_1465 : BitVec 32 := 1#32
  let v3250 : BitVec 32 := Scalar.subi v3249 c1_i32_1465
  let c128_i32_1466 : BitVec 32 := 128#32
  let v3251 : BitVec 32 := Scalar.muli v3250 c128_i32_1466
  let v3252 : BitVec 32 := Scalar.maxsi c0_i32_1467 v3251
  let v3253 : BitVec 32 := Scalar.minsi c7808_i32_1468 v3252
  v3253
def k0_mult45 (i : grid0.Coords) : BitVec 32 :=
  let c7808_i32_1489 : BitVec 32 := 7808#32
  let c0_i32_1488 : BitVec 32 := 0#32
  let arg2 : BitVec 32 := BitVec.ofNat 32 (i 2).val
  let c32_i32_1484 : BitVec 32 := 32#32
  let v3269 : BitVec 32 := Scalar.muli arg2 c32_i32_1484
  let c21_i32_1485 : BitVec 32 := 21#32
  let v3270 : BitVec 32 := Scalar.addi v3269 c21_i32_1485
  let c1_i32_1486 : BitVec 32 := 1#32
  let v3271 : BitVec 32 := Scalar.subi v3270 c1_i32_1486
  let c128_i32_1487 : BitVec 32 := 128#32
  let v3272 : BitVec 32 := Scalar.muli v3271 c128_i32_1487
  let v3273 : BitVec 32 := Scalar.maxsi c0_i32_1488 v3272
  let v3274 : BitVec 32 := Scalar.minsi c7808_i32_1489 v3273
  v3274
def k0_mult46 (i : grid0.Coords) : BitVec 32 :=
  let c7808_i32_1536 : BitVec 32 := 7808#32
  let c0_i32_1535 : BitVec 32 := 0#32
  let arg2 : BitVec 32 := BitVec.ofNat 32 (i 2).val
  let c32_i32_1532 : BitVec 32 := 32#32
  let v3400 : BitVec 32 := Scalar.muli arg2 c32_i32_1532
  let c23_i32 : BitVec 32 := 23#32
  let v3401 : BitVec 32 := Scalar.addi v3400 c23_i32
  let c1_i32_1533 : BitVec 32 := 1#32
  let v3402 : BitVec 32 := Scalar.subi v3401 c1_i32_1533
  let c128_i32_1534 : BitVec 32 := 128#32
  let v3403 : BitVec 32 := Scalar.muli v3402 c128_i32_1534
  let v3404 : BitVec 32 := Scalar.maxsi c0_i32_1535 v3403
  let v3405 : BitVec 32 := Scalar.minsi c7808_i32_1536 v3404
  v3405
def k0_mult47 (i : grid0.Coords) : BitVec 32 :=
  let c7808_i32_1557 : BitVec 32 := 7808#32
  let c0_i32_1556 : BitVec 32 := 0#32
  let arg2 : BitVec 32 := BitVec.ofNat 32 (i 2).val
  let c32_i32_1552 : BitVec 32 := 32#32
  let v3421 : BitVec 32 := Scalar.muli arg2 c32_i32_1552
  let c22_i32_1553 : BitVec 32 := 22#32
  let v3422 : BitVec 32 := Scalar.addi v3421 c22_i32_1553
  let c1_i32_1554 : BitVec 32 := 1#32
  let v3423 : BitVec 32 := Scalar.subi v3422 c1_i32_1554
  let c128_i32_1555 : BitVec 32 := 128#32
  let v3424 : BitVec 32 := Scalar.muli v3423 c128_i32_1555
  let v3425 : BitVec 32 := Scalar.maxsi c0_i32_1556 v3424
  let v3426 : BitVec 32 := Scalar.minsi c7808_i32_1557 v3425
  v3426
def k0_mult48 (i : grid0.Coords) : BitVec 32 :=
  let c7808_i32_1604 : BitVec 32 := 7808#32
  let c0_i32_1603 : BitVec 32 := 0#32
  let arg2 : BitVec 32 := BitVec.ofNat 32 (i 2).val
  let c32_i32_1600 : BitVec 32 := 32#32
  let v3552 : BitVec 32 := Scalar.muli arg2 c32_i32_1600
  let c24_i32 : BitVec 32 := 24#32
  let v3553 : BitVec 32 := Scalar.addi v3552 c24_i32
  let c1_i32_1601 : BitVec 32 := 1#32
  let v3554 : BitVec 32 := Scalar.subi v3553 c1_i32_1601
  let c128_i32_1602 : BitVec 32 := 128#32
  let v3555 : BitVec 32 := Scalar.muli v3554 c128_i32_1602
  let v3556 : BitVec 32 := Scalar.maxsi c0_i32_1603 v3555
  let v3557 : BitVec 32 := Scalar.minsi c7808_i32_1604 v3556
  v3557
def k0_mult49 (i : grid0.Coords) : BitVec 32 :=
  let c7808_i32_1625 : BitVec 32 := 7808#32
  let c0_i32_1624 : BitVec 32 := 0#32
  let arg2 : BitVec 32 := BitVec.ofNat 32 (i 2).val
  let c32_i32_1620 : BitVec 32 := 32#32
  let v3573 : BitVec 32 := Scalar.muli arg2 c32_i32_1620
  let c23_i32_1621 : BitVec 32 := 23#32
  let v3574 : BitVec 32 := Scalar.addi v3573 c23_i32_1621
  let c1_i32_1622 : BitVec 32 := 1#32
  let v3575 : BitVec 32 := Scalar.subi v3574 c1_i32_1622
  let c128_i32_1623 : BitVec 32 := 128#32
  let v3576 : BitVec 32 := Scalar.muli v3575 c128_i32_1623
  let v3577 : BitVec 32 := Scalar.maxsi c0_i32_1624 v3576
  let v3578 : BitVec 32 := Scalar.minsi c7808_i32_1625 v3577
  v3578
def k0_mult50 (i : grid0.Coords) : BitVec 32 :=
  let c7808_i32_1672 : BitVec 32 := 7808#32
  let c0_i32_1671 : BitVec 32 := 0#32
  let arg2 : BitVec 32 := BitVec.ofNat 32 (i 2).val
  let c32_i32_1668 : BitVec 32 := 32#32
  let v3704 : BitVec 32 := Scalar.muli arg2 c32_i32_1668
  let c25_i32 : BitVec 32 := 25#32
  let v3705 : BitVec 32 := Scalar.addi v3704 c25_i32
  let c1_i32_1669 : BitVec 32 := 1#32
  let v3706 : BitVec 32 := Scalar.subi v3705 c1_i32_1669
  let c128_i32_1670 : BitVec 32 := 128#32
  let v3707 : BitVec 32 := Scalar.muli v3706 c128_i32_1670
  let v3708 : BitVec 32 := Scalar.maxsi c0_i32_1671 v3707
  let v3709 : BitVec 32 := Scalar.minsi c7808_i32_1672 v3708
  v3709
def k0_mult51 (i : grid0.Coords) : BitVec 32 :=
  let c7808_i32_1693 : BitVec 32 := 7808#32
  let c0_i32_1692 : BitVec 32 := 0#32
  let arg2 : BitVec 32 := BitVec.ofNat 32 (i 2).val
  let c32_i32_1688 : BitVec 32 := 32#32
  let v3725 : BitVec 32 := Scalar.muli arg2 c32_i32_1688
  let c24_i32_1689 : BitVec 32 := 24#32
  let v3726 : BitVec 32 := Scalar.addi v3725 c24_i32_1689
  let c1_i32_1690 : BitVec 32 := 1#32
  let v3727 : BitVec 32 := Scalar.subi v3726 c1_i32_1690
  let c128_i32_1691 : BitVec 32 := 128#32
  let v3728 : BitVec 32 := Scalar.muli v3727 c128_i32_1691
  let v3729 : BitVec 32 := Scalar.maxsi c0_i32_1692 v3728
  let v3730 : BitVec 32 := Scalar.minsi c7808_i32_1693 v3729
  v3730
def k0_mult52 (i : grid0.Coords) : BitVec 32 :=
  let c7808_i32_1740 : BitVec 32 := 7808#32
  let c0_i32_1739 : BitVec 32 := 0#32
  let arg2 : BitVec 32 := BitVec.ofNat 32 (i 2).val
  let c32_i32_1736 : BitVec 32 := 32#32
  let v3856 : BitVec 32 := Scalar.muli arg2 c32_i32_1736
  let c26_i32 : BitVec 32 := 26#32
  let v3857 : BitVec 32 := Scalar.addi v3856 c26_i32
  let c1_i32_1737 : BitVec 32 := 1#32
  let v3858 : BitVec 32 := Scalar.subi v3857 c1_i32_1737
  let c128_i32_1738 : BitVec 32 := 128#32
  let v3859 : BitVec 32 := Scalar.muli v3858 c128_i32_1738
  let v3860 : BitVec 32 := Scalar.maxsi c0_i32_1739 v3859
  let v3861 : BitVec 32 := Scalar.minsi c7808_i32_1740 v3860
  v3861
def k0_mult53 (i : grid0.Coords) : BitVec 32 :=
  let c7808_i32_1761 : BitVec 32 := 7808#32
  let c0_i32_1760 : BitVec 32 := 0#32
  let arg2 : BitVec 32 := BitVec.ofNat 32 (i 2).val
  let c32_i32_1756 : BitVec 32 := 32#32
  let v3877 : BitVec 32 := Scalar.muli arg2 c32_i32_1756
  let c25_i32_1757 : BitVec 32 := 25#32
  let v3878 : BitVec 32 := Scalar.addi v3877 c25_i32_1757
  let c1_i32_1758 : BitVec 32 := 1#32
  let v3879 : BitVec 32 := Scalar.subi v3878 c1_i32_1758
  let c128_i32_1759 : BitVec 32 := 128#32
  let v3880 : BitVec 32 := Scalar.muli v3879 c128_i32_1759
  let v3881 : BitVec 32 := Scalar.maxsi c0_i32_1760 v3880
  let v3882 : BitVec 32 := Scalar.minsi c7808_i32_1761 v3881
  v3882
def k0_mult54 (i : grid0.Coords) : BitVec 32 :=
  let c7808_i32_1808 : BitVec 32 := 7808#32
  let c0_i32_1807 : BitVec 32 := 0#32
  let arg2 : BitVec 32 := BitVec.ofNat 32 (i 2).val
  let c32_i32_1804 : BitVec 32 := 32#32
  let v4008 : BitVec 32 := Scalar.muli arg2 c32_i32_1804
  let c27_i32 : BitVec 32 := 27#32
  let v4009 : BitVec 32 := Scalar.addi v4008 c27_i32
  let c1_i32_1805 : BitVec 32 := 1#32
  let v4010 : BitVec 32 := Scalar.subi v4009 c1_i32_1805
  let c128_i32_1806 : BitVec 32 := 128#32
  let v4011 : BitVec 32 := Scalar.muli v4010 c128_i32_1806
  let v4012 : BitVec 32 := Scalar.maxsi c0_i32_1807 v4011
  let v4013 : BitVec 32 := Scalar.minsi c7808_i32_1808 v4012
  v4013
def k0_mult55 (i : grid0.Coords) : BitVec 32 :=
  let c7808_i32_1829 : BitVec 32 := 7808#32
  let c0_i32_1828 : BitVec 32 := 0#32
  let arg2 : BitVec 32 := BitVec.ofNat 32 (i 2).val
  let c32_i32_1824 : BitVec 32 := 32#32
  let v4029 : BitVec 32 := Scalar.muli arg2 c32_i32_1824
  let c26_i32_1825 : BitVec 32 := 26#32
  let v4030 : BitVec 32 := Scalar.addi v4029 c26_i32_1825
  let c1_i32_1826 : BitVec 32 := 1#32
  let v4031 : BitVec 32 := Scalar.subi v4030 c1_i32_1826
  let c128_i32_1827 : BitVec 32 := 128#32
  let v4032 : BitVec 32 := Scalar.muli v4031 c128_i32_1827
  let v4033 : BitVec 32 := Scalar.maxsi c0_i32_1828 v4032
  let v4034 : BitVec 32 := Scalar.minsi c7808_i32_1829 v4033
  v4034
def k0_mult56 (i : grid0.Coords) : BitVec 32 :=
  let c7808_i32_1876 : BitVec 32 := 7808#32
  let c0_i32_1875 : BitVec 32 := 0#32
  let arg2 : BitVec 32 := BitVec.ofNat 32 (i 2).val
  let c32_i32_1872 : BitVec 32 := 32#32
  let v4160 : BitVec 32 := Scalar.muli arg2 c32_i32_1872
  let c28_i32 : BitVec 32 := 28#32
  let v4161 : BitVec 32 := Scalar.addi v4160 c28_i32
  let c1_i32_1873 : BitVec 32 := 1#32
  let v4162 : BitVec 32 := Scalar.subi v4161 c1_i32_1873
  let c128_i32_1874 : BitVec 32 := 128#32
  let v4163 : BitVec 32 := Scalar.muli v4162 c128_i32_1874
  let v4164 : BitVec 32 := Scalar.maxsi c0_i32_1875 v4163
  let v4165 : BitVec 32 := Scalar.minsi c7808_i32_1876 v4164
  v4165
def k0_mult57 (i : grid0.Coords) : BitVec 32 :=
  let c7808_i32_1897 : BitVec 32 := 7808#32
  let c0_i32_1896 : BitVec 32 := 0#32
  let arg2 : BitVec 32 := BitVec.ofNat 32 (i 2).val
  let c32_i32_1892 : BitVec 32 := 32#32
  let v4181 : BitVec 32 := Scalar.muli arg2 c32_i32_1892
  let c27_i32_1893 : BitVec 32 := 27#32
  let v4182 : BitVec 32 := Scalar.addi v4181 c27_i32_1893
  let c1_i32_1894 : BitVec 32 := 1#32
  let v4183 : BitVec 32 := Scalar.subi v4182 c1_i32_1894
  let c128_i32_1895 : BitVec 32 := 128#32
  let v4184 : BitVec 32 := Scalar.muli v4183 c128_i32_1895
  let v4185 : BitVec 32 := Scalar.maxsi c0_i32_1896 v4184
  let v4186 : BitVec 32 := Scalar.minsi c7808_i32_1897 v4185
  v4186
def k0_mult58 (i : grid0.Coords) : BitVec 32 :=
  let c7808_i32_1944 : BitVec 32 := 7808#32
  let c0_i32_1943 : BitVec 32 := 0#32
  let arg2 : BitVec 32 := BitVec.ofNat 32 (i 2).val
  let c32_i32_1940 : BitVec 32 := 32#32
  let v4312 : BitVec 32 := Scalar.muli arg2 c32_i32_1940
  let c29_i32 : BitVec 32 := 29#32
  let v4313 : BitVec 32 := Scalar.addi v4312 c29_i32
  let c1_i32_1941 : BitVec 32 := 1#32
  let v4314 : BitVec 32 := Scalar.subi v4313 c1_i32_1941
  let c128_i32_1942 : BitVec 32 := 128#32
  let v4315 : BitVec 32 := Scalar.muli v4314 c128_i32_1942
  let v4316 : BitVec 32 := Scalar.maxsi c0_i32_1943 v4315
  let v4317 : BitVec 32 := Scalar.minsi c7808_i32_1944 v4316
  v4317
def k0_mult59 (i : grid0.Coords) : BitVec 32 :=
  let c7808_i32_1965 : BitVec 32 := 7808#32
  let c0_i32_1964 : BitVec 32 := 0#32
  let arg2 : BitVec 32 := BitVec.ofNat 32 (i 2).val
  let c32_i32_1960 : BitVec 32 := 32#32
  let v4333 : BitVec 32 := Scalar.muli arg2 c32_i32_1960
  let c28_i32_1961 : BitVec 32 := 28#32
  let v4334 : BitVec 32 := Scalar.addi v4333 c28_i32_1961
  let c1_i32_1962 : BitVec 32 := 1#32
  let v4335 : BitVec 32 := Scalar.subi v4334 c1_i32_1962
  let c128_i32_1963 : BitVec 32 := 128#32
  let v4336 : BitVec 32 := Scalar.muli v4335 c128_i32_1963
  let v4337 : BitVec 32 := Scalar.maxsi c0_i32_1964 v4336
  let v4338 : BitVec 32 := Scalar.minsi c7808_i32_1965 v4337
  v4338
def k0_mult60 (i : grid0.Coords) : BitVec 32 :=
  let c7808_i32_2012 : BitVec 32 := 7808#32
  let c0_i32_2011 : BitVec 32 := 0#32
  let arg2 : BitVec 32 := BitVec.ofNat 32 (i 2).val
  let c32_i32_2008 : BitVec 32 := 32#32
  let v4464 : BitVec 32 := Scalar.muli arg2 c32_i32_2008
  let c30_i32 : BitVec 32 := 30#32
  let v4465 : BitVec 32 := Scalar.addi v4464 c30_i32
  let c1_i32_2009 : BitVec 32 := 1#32
  let v4466 : BitVec 32 := Scalar.subi v4465 c1_i32_2009
  let c128_i32_2010 : BitVec 32 := 128#32
  let v4467 : BitVec 32 := Scalar.muli v4466 c128_i32_2010
  let v4468 : BitVec 32 := Scalar.maxsi c0_i32_2011 v4467
  let v4469 : BitVec 32 := Scalar.minsi c7808_i32_2012 v4468
  v4469
def k0_mult61 (i : grid0.Coords) : BitVec 32 :=
  let c7808_i32_2033 : BitVec 32 := 7808#32
  let c0_i32_2032 : BitVec 32 := 0#32
  let arg2 : BitVec 32 := BitVec.ofNat 32 (i 2).val
  let c32_i32_2028 : BitVec 32 := 32#32
  let v4485 : BitVec 32 := Scalar.muli arg2 c32_i32_2028
  let c29_i32_2029 : BitVec 32 := 29#32
  let v4486 : BitVec 32 := Scalar.addi v4485 c29_i32_2029
  let c1_i32_2030 : BitVec 32 := 1#32
  let v4487 : BitVec 32 := Scalar.subi v4486 c1_i32_2030
  let c128_i32_2031 : BitVec 32 := 128#32
  let v4488 : BitVec 32 := Scalar.muli v4487 c128_i32_2031
  let v4489 : BitVec 32 := Scalar.maxsi c0_i32_2032 v4488
  let v4490 : BitVec 32 := Scalar.minsi c7808_i32_2033 v4489
  v4490
def k0_mult62 (i : grid0.Coords) : BitVec 32 :=
  let c7808_i32_2080 : BitVec 32 := 7808#32
  let c0_i32_2079 : BitVec 32 := 0#32
  let arg2 : BitVec 32 := BitVec.ofNat 32 (i 2).val
  let c32_i32_2076 : BitVec 32 := 32#32
  let v4616 : BitVec 32 := Scalar.muli arg2 c32_i32_2076
  let c31_i32 : BitVec 32 := 31#32
  let v4617 : BitVec 32 := Scalar.addi v4616 c31_i32
  let c1_i32_2077 : BitVec 32 := 1#32
  let v4618 : BitVec 32 := Scalar.subi v4617 c1_i32_2077
  let c128_i32_2078 : BitVec 32 := 128#32
  let v4619 : BitVec 32 := Scalar.muli v4618 c128_i32_2078
  let v4620 : BitVec 32 := Scalar.maxsi c0_i32_2079 v4619
  let v4621 : BitVec 32 := Scalar.minsi c7808_i32_2080 v4620
  v4621
def k0_mult63 (i : grid0.Coords) : BitVec 32 :=
  let c7808_i32_2101 : BitVec 32 := 7808#32
  let c0_i32_2100 : BitVec 32 := 0#32
  let arg2 : BitVec 32 := BitVec.ofNat 32 (i 2).val
  let c32_i32_2096 : BitVec 32 := 32#32
  let v4637 : BitVec 32 := Scalar.muli arg2 c32_i32_2096
  let c30_i32_2097 : BitVec 32 := 30#32
  let v4638 : BitVec 32 := Scalar.addi v4637 c30_i32_2097
  let c1_i32_2098 : BitVec 32 := 1#32
  let v4639 : BitVec 32 := Scalar.subi v4638 c1_i32_2098
  let c128_i32_2099 : BitVec 32 := 128#32
  let v4640 : BitVec 32 := Scalar.muli v4639 c128_i32_2099
  let v4641 : BitVec 32 := Scalar.maxsi c0_i32_2100 v4640
  let v4642 : BitVec 32 := Scalar.minsi c7808_i32_2101 v4641
  v4642
def k0_mult64 (i : grid0.Coords) : BitVec 32 :=
  let c7808_i32_2149 : BitVec 32 := 7808#32
  let c0_i32_2148 : BitVec 32 := 0#32
  let arg2 : BitVec 32 := BitVec.ofNat 32 (i 2).val
  let c32_i32_2144 : BitVec 32 := 32#32
  let v4768 : BitVec 32 := Scalar.muli arg2 c32_i32_2144
  let c31_i32_2145 : BitVec 32 := 31#32
  let v4769 : BitVec 32 := Scalar.addi v4768 c31_i32_2145
  let c1_i32_2146 : BitVec 32 := 1#32
  let v4770 : BitVec 32 := Scalar.subi v4769 c1_i32_2146
  let c128_i32_2147 : BitVec 32 := 128#32
  let v4771 : BitVec 32 := Scalar.muli v4770 c128_i32_2147
  let v4772 : BitVec 32 := Scalar.maxsi c0_i32_2148 v4771
  let v4773 : BitVec 32 := Scalar.minsi c7808_i32_2149 v4772
  v4773
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x4096x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x4096x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16 : Shape := ⟨1, ![16]⟩
abbrev S2x8192x16x128 : Shape := ⟨4, ![2, 8192, 16, 128]⟩
abbrev S2x8192x4x128 : Shape := ⟨4, ![2, 8192, 4, 128]⟩
abbrev S2x256x4x128 : Shape := ⟨4, ![2, 256, 4, 128]⟩
abbrev S2x8192x2048 : Shape := ⟨3, ![2, 8192, 2048]⟩
abbrev S_ : Shape := ⟨0, ![]⟩
abbrev S2x64x128x4x4x128 : Shape := ⟨6, ![2, 64, 128, 4, 4, 128]⟩
abbrev S2x8448x4x128 : Shape := ⟨4, ![2, 8448, 4, 128]⟩
abbrev S2x66x128x4x128 : Shape := ⟨5, ![2, 66, 128, 4, 128]⟩
abbrev S2x64x128x4x128 : Shape := ⟨5, ![2, 64, 128, 4, 128]⟩
abbrev S2x64x384x4x128 : Shape := ⟨5, ![2, 64, 384, 4, 128]⟩
abbrev S64 : Shape := ⟨1, ![64]⟩
abbrev S64x1 : Shape := ⟨2, ![64, 1]⟩
abbrev S128 : Shape := ⟨1, ![128]⟩
abbrev S1x128 : Shape := ⟨2, ![1, 128]⟩
abbrev S64x128 : Shape := ⟨2, ![64, 128]⟩
abbrev S384 : Shape := ⟨1, ![384]⟩
abbrev S1x384 : Shape := ⟨2, ![1, 384]⟩
abbrev S64x384 : Shape := ⟨2, ![64, 384]⟩
abbrev S64x128x1 : Shape := ⟨3, ![64, 128, 1]⟩
abbrev S64x1x384 : Shape := ⟨3, ![64, 1, 384]⟩
abbrev S64x128x384 : Shape := ⟨3, ![64, 128, 384]⟩
abbrev S2x64x4x384x128x4 : Shape := ⟨6, ![2, 64, 4, 384, 128, 4]⟩
abbrev S2x64x4x4x128x384 : Shape := ⟨6, ![2, 64, 4, 4, 128, 384]⟩
abbrev S1x64x1x1x128x384 : Shape := ⟨6, ![1, 64, 1, 1, 128, 384]⟩
abbrev S2x4x256x64x128x4 : Shape := ⟨6, ![2, 4, 256, 64, 128, 4]⟩
abbrev S2x64x4x4x128x256 : Shape := ⟨6, ![2, 64, 4, 4, 128, 256]⟩
abbrev S4x4 : Shape := ⟨2, ![4, 4]⟩
abbrev S1x1x4x4x1x1 : Shape := ⟨6, ![1, 1, 4, 4, 1, 1]⟩
abbrev S2x64x4x4x128 : Shape := ⟨5, ![2, 64, 4, 4, 128]⟩
abbrev S2x64x4x4x128x1 : Shape := ⟨6, ![2, 64, 4, 4, 128, 1]⟩
abbrev S2x64x4x128x4x128 : Shape := ⟨6, ![2, 64, 4, 128, 4, 128]⟩
abbrev S2x4x128x64x4x128 : Shape := ⟨6, ![2, 4, 128, 64, 4, 128]⟩
abbrev S2x64x128x4x4 : Shape := ⟨5, ![2, 64, 128, 4, 4]⟩
abbrev S2x64x128x4x4x1 : Shape := ⟨6, ![2, 64, 128, 4, 4, 1]⟩

abbrev nBuf : Space → Nat
  | .hbm => 121
  | .vmem => 0
  | .smem => 0
  | _ => 0

abbrev bufTy : (tb : Table) → Fin (tcTables nBuf tb) → BufTy
  | .hbm, ⟨0, _⟩ => ⟨S16, .f32⟩
  | .hbm, ⟨1, _⟩ => ⟨S2x8192x16x128, .f32⟩
  | .hbm, ⟨2, _⟩ => ⟨S2x8192x4x128, .f32⟩
  | .hbm, ⟨3, _⟩ => ⟨S2x8192x4x128, .f32⟩
  | .hbm, ⟨4, _⟩ => ⟨S2x256x4x128, .f32⟩
  | .hbm, ⟨5, _⟩ => ⟨S2x256x4x128, .f32⟩
  | .hbm, ⟨6, _⟩ => ⟨S2x8192x2048, .f32⟩
  | .hbm, ⟨7, _⟩ => ⟨S_, .f32⟩
  | .hbm, ⟨8, _⟩ => ⟨S2x8192x16x128, .f32⟩
  | .hbm, ⟨9, _⟩ => ⟨S2x8192x16x128, .f32⟩
  | .hbm, ⟨10, _⟩ => ⟨S2x64x128x4x4x128, .f32⟩
  | .hbm, ⟨11, _⟩ => ⟨S_, .i32⟩
  | .hbm, ⟨12, _⟩ => ⟨S_, .f32⟩
  | .hbm, ⟨13, _⟩ => ⟨S2x8448x4x128, .f32⟩
  | .hbm, ⟨14, _⟩ => ⟨S2x66x128x4x128, .f32⟩
  | .hbm, ⟨15, _⟩ => ⟨S2x64x128x4x128, .f32⟩
  | .hbm, ⟨16, _⟩ => ⟨S2x64x128x4x128, .f32⟩
  | .hbm, ⟨17, _⟩ => ⟨S2x64x128x4x128, .f32⟩
  | .hbm, ⟨18, _⟩ => ⟨S2x64x384x4x128, .f32⟩
  | .hbm, ⟨19, _⟩ => ⟨S_, .i32⟩
  | .hbm, ⟨20, _⟩ => ⟨S_, .f32⟩
  | .hbm, ⟨21, _⟩ => ⟨S2x8448x4x128, .f32⟩
  | .hbm, ⟨22, _⟩ => ⟨S2x66x128x4x128, .f32⟩
  | .hbm, ⟨23, _⟩ => ⟨S2x64x128x4x128, .f32⟩
  | .hbm, ⟨24, _⟩ => ⟨S2x64x128x4x128, .f32⟩
  | .hbm, ⟨25, _⟩ => ⟨S2x64x128x4x128, .f32⟩
  | .hbm, ⟨26, _⟩ => ⟨S2x64x384x4x128, .f32⟩
  | .hbm, ⟨27, _⟩ => ⟨S64, .i32⟩
  | .hbm, ⟨28, _⟩ => ⟨S64x1, .i32⟩
  | .hbm, ⟨29, _⟩ => ⟨S_, .i32⟩
  | .hbm, ⟨30, _⟩ => ⟨S64x1, .i32⟩
  | .hbm, ⟨31, _⟩ => ⟨S64x1, .i32⟩
  | .hbm, ⟨32, _⟩ => ⟨S128, .i32⟩
  | .hbm, ⟨33, _⟩ => ⟨S1x128, .i32⟩
  | .hbm, ⟨34, _⟩ => ⟨S64x128, .i32⟩
  | .hbm, ⟨35, _⟩ => ⟨S64x128, .i32⟩
  | .hbm, ⟨36, _⟩ => ⟨S64x128, .i32⟩
  | .hbm, ⟨37, _⟩ => ⟨S64, .i32⟩
  | .hbm, ⟨38, _⟩ => ⟨S64x1, .i32⟩
  | .hbm, ⟨39, _⟩ => ⟨S_, .i32⟩
  | .hbm, ⟨40, _⟩ => ⟨S64x1, .i32⟩
  | .hbm, ⟨41, _⟩ => ⟨S64x1, .i32⟩
  | .hbm, ⟨42, _⟩ => ⟨S_, .i32⟩
  | .hbm, ⟨43, _⟩ => ⟨S64x1, .i32⟩
  | .hbm, ⟨44, _⟩ => ⟨S64x1, .i32⟩
  | .hbm, ⟨45, _⟩ => ⟨S384, .i32⟩
  | .hbm, ⟨46, _⟩ => ⟨S1x384, .i32⟩
  | .hbm, ⟨47, _⟩ => ⟨S64x384, .i32⟩
  | .hbm, ⟨48, _⟩ => ⟨S64x384, .i32⟩
  | .hbm, ⟨49, _⟩ => ⟨S64x384, .i32⟩
  | .hbm, ⟨50, _⟩ => ⟨S_, .i32⟩
  | .hbm, ⟨51, _⟩ => ⟨S64x384, .i32⟩
  | .hbm, ⟨52, _⟩ => ⟨S64x384, .i1⟩
  | .hbm, ⟨53, _⟩ => ⟨S_, .i32⟩
  | .hbm, ⟨54, _⟩ => ⟨S64x384, .i32⟩
  | .hbm, ⟨55, _⟩ => ⟨S64x384, .i1⟩
  | .hbm, ⟨56, _⟩ => ⟨S64x384, .i1⟩
  | .hbm, ⟨57, _⟩ => ⟨S64x128x1, .i32⟩
  | .hbm, ⟨58, _⟩ => ⟨S64x1x384, .i32⟩
  | .hbm, ⟨59, _⟩ => ⟨S64x128x384, .i32⟩
  | .hbm, ⟨60, _⟩ => ⟨S64x128x384, .i32⟩
  | .hbm, ⟨61, _⟩ => ⟨S64x128x384, .i32⟩
  | .hbm, ⟨62, _⟩ => ⟨S64x128x384, .i32⟩
  | .hbm, ⟨63, _⟩ => ⟨S_, .i32⟩
  | .hbm, ⟨64, _⟩ => ⟨S64x128x384, .i32⟩
  | .hbm, ⟨65, _⟩ => ⟨S64x128x384, .i1⟩
  | .hbm, ⟨66, _⟩ => ⟨S64x1x384, .i1⟩
  | .hbm, ⟨67, _⟩ => ⟨S64x128x384, .i1⟩
  | .hbm, ⟨68, _⟩ => ⟨S64x128x384, .i1⟩
  | .hbm, ⟨69, _⟩ => ⟨S2x64x4x384x128x4, .f32⟩
  | .hbm, ⟨70, _⟩ => ⟨S2x64x4x4x128x384, .f32⟩
  | .hbm, ⟨71, _⟩ => ⟨S1x64x1x1x128x384, .i1⟩
  | .hbm, ⟨72, _⟩ => ⟨S_, .f32⟩
  | .hbm, ⟨73, _⟩ => ⟨S_, .f32⟩
  | .hbm, ⟨74, _⟩ => ⟨S2x64x4x4x128x384, .i1⟩
  | .hbm, ⟨75, _⟩ => ⟨S2x64x4x4x128x384, .f32⟩
  | .hbm, ⟨76, _⟩ => ⟨S2x64x4x4x128x384, .f32⟩
  | .hbm, ⟨77, _⟩ => ⟨S2x4x256x64x128x4, .f32⟩
  | .hbm, ⟨78, _⟩ => ⟨S2x64x4x4x128x256, .f32⟩
  | .hbm, ⟨79, _⟩ => ⟨S4x4, .f32⟩
  | .hbm, ⟨80, _⟩ => ⟨S1x1x4x4x1x1, .f32⟩
  | .hbm, ⟨81, _⟩ => ⟨S_, .f32⟩
  | .hbm, ⟨82, _⟩ => ⟨S2x64x4x4x128, .f32⟩
  | .hbm, ⟨83, _⟩ => ⟨S2x64x4x4x128x1, .f32⟩
  | .hbm, ⟨84, _⟩ => ⟨S2x64x4x4x128x1, .f32⟩
  | .hbm, ⟨85, _⟩ => ⟨S2x64x4x4x128x1, .f32⟩
  | .hbm, ⟨86, _⟩ => ⟨S_, .f32⟩
  | .hbm, ⟨87, _⟩ => ⟨S2x64x4x4x128, .f32⟩
  | .hbm, ⟨88, _⟩ => ⟨S2x64x4x4x128x1, .f32⟩
  | .hbm, ⟨89, _⟩ => ⟨S2x64x4x4x128x1, .f32⟩
  | .hbm, ⟨90, _⟩ => ⟨S2x64x4x4x128x1, .f32⟩
  | .hbm, ⟨91, _⟩ => ⟨S2x64x4x4x128x1, .f32⟩
  | .hbm, ⟨92, _⟩ => ⟨S2x64x4x4x128x1, .f32⟩
  | .hbm, ⟨93, _⟩ => ⟨S2x64x4x4x128, .f32⟩
  | .hbm, ⟨94, _⟩ => ⟨S2x64x4x4x128x384, .f32⟩
  | .hbm, ⟨95, _⟩ => ⟨S2x64x4x4x128x384, .f32⟩
  | .hbm, ⟨96, _⟩ => ⟨S2x64x4x4x128x384, .f32⟩
  | .hbm, ⟨97, _⟩ => ⟨S_, .f32⟩
  | .hbm, ⟨98, _⟩ => ⟨S2x64x4x4x128, .f32⟩
  | .hbm, ⟨99, _⟩ => ⟨S2x64x4x4x128, .f32⟩
  | .hbm, ⟨100, _⟩ => ⟨S2x64x4x128x4x128, .f32⟩
  | .hbm, ⟨101, _⟩ => ⟨S2x64x128x4x4x128, .f32⟩
  | .hbm, ⟨102, _⟩ => ⟨S_, .f32⟩
  | .hbm, ⟨103, _⟩ => ⟨S2x64x128x4x4x128, .f32⟩
  | .hbm, ⟨104, _⟩ => ⟨S2x64x128x4x4x128, .f32⟩
  | .hbm, ⟨105, _⟩ => ⟨S2x64x4x4x128x256, .f32⟩
  | .hbm, ⟨106, _⟩ => ⟨S2x64x4x4x128x256, .f32⟩
  | .hbm, ⟨107, _⟩ => ⟨S2x64x4x4x128x256, .f32⟩
  | .hbm, ⟨108, _⟩ => ⟨S_, .f32⟩
  | .hbm, ⟨109, _⟩ => ⟨S2x64x4x4x128, .f32⟩
  | .hbm, ⟨110, _⟩ => ⟨S2x64x4x4x128, .f32⟩
  | .hbm, ⟨111, _⟩ => ⟨S2x4x128x64x4x128, .f32⟩
  | .hbm, ⟨112, _⟩ => ⟨S2x64x128x4x4x128, .f32⟩
  | .hbm, ⟨113, _⟩ => ⟨S2x64x128x4x4x128, .f32⟩
  | .hbm, ⟨114, _⟩ => ⟨S2x64x128x4x4, .f32⟩
  | .hbm, ⟨115, _⟩ => ⟨S2x64x128x4x4x1, .f32⟩
  | .hbm, ⟨116, _⟩ => ⟨S2x64x128x4x4x128, .f32⟩
  | .hbm, ⟨117, _⟩ => ⟨S2x64x128x4x4x128, .f32⟩
  | .hbm, ⟨118, _⟩ => ⟨S2x8192x2048, .f32⟩
  | .hbm, ⟨119, _⟩ => ⟨S2x8192x2048, .f32⟩
  | .hbm, ⟨120, _⟩ => ⟨S2x8192x2048, .bf16⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_2 : Ref sig .tc := ⟨.hbm, 39, rfl⟩
abbrev main_v26 : Ref sig .tc := ⟨.hbm, 40, rfl⟩
abbrev main_v27 : Ref sig .tc := ⟨.hbm, 41, rfl⟩
abbrev main_c_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_4 : Ref sig .tc := ⟨.hbm, 50, rfl⟩
abbrev main_v35 : Ref sig .tc := ⟨.hbm, 51, rfl⟩
abbrev main_v36 : Ref sig .tc := ⟨.hbm, 52, rfl⟩
abbrev main_c_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_7 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_8 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_9 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_10 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_11 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_12 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩

abbrev nD : Nat := 1
abbrev τ : Topo := Topo.v7x

variable {F : FTy → Type} [FloatOps F]
-- ==== OutKernel.lean ====
abbrev S2x8192x1024 : Shape := ⟨3, ![2, 8192, 1024]⟩
abbrev S2x1x1024 : Shape := ⟨3, ![2, 1, 1024]⟩
abbrev S2x8192x2048 : Shape := ⟨3, ![2, 8192, 2048]⟩
abbrev S2048x1024 : Shape := ⟨2, ![2048, 1024]⟩
abbrev S1x1024x1024 : Shape := ⟨3, ![1, 1024, 1024]⟩
abbrev S1x1x1024 : Shape := ⟨3, ![1, 1, 1024]⟩
abbrev S1x1024x2048 : Shape := ⟨3, ![1, 1024, 2048]⟩
abbrev S1024x2048 : Shape := ⟨2, ![1024, 2048]⟩
abbrev S1024x1024 : Shape := ⟨2, ![1024, 1024]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x8192x2048, .bf16⟩
  | .hbm, ⟨3, _⟩ => ⟨S2048x1024, .f32⟩
  | .hbm, ⟨4, _⟩ => ⟨S2048x1024, .bf16⟩
  | .hbm, ⟨5, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x2048, .bf16⟩
  | .local _ .vmem, ⟨5, _⟩ => ⟨S1x1024x2048, .bf16⟩
  | .local _ .vmem, ⟨6, _⟩ => ⟨S2048x1024, .bf16⟩
  | .local _ .vmem, ⟨7, _⟩ => ⟨S1x1024x1024, .f32⟩
  | .local _ .vmem, ⟨8, _⟩ => ⟨S1x1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutReferenceIdeal.lean ====
abbrev S2x8192x1024 : Shape := ⟨3, ![2, 8192, 1024]⟩
abbrev S2x1x1024 : Shape := ⟨3, ![2, 1, 1024]⟩
abbrev S2x8192x2048 : Shape := ⟨3, ![2, 8192, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x8192x2048, .bf16⟩
  | .hbm, ⟨3, _⟩ => ⟨S2048x1024, .f32⟩
  | .hbm, ⟨4, _⟩ => ⟨S2x8192x2048, .f32⟩
  | .hbm, ⟨5, _⟩ => ⟨S2x8192x1024, .f32⟩
  | .hbm, ⟨6, _⟩ => ⟨S2x8192x1024, .f32⟩
  | .hbm, ⟨7, _⟩ => ⟨S2x8192x1024, .f32⟩
  | .hbm, ⟨8, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== EvenKernel.lean ====
abbrev S2x8192x1024 : Shape := ⟨3, ![2, 8192, 1024]⟩
abbrev S2x1x1024 : Shape := ⟨3, ![2, 1, 1024]⟩
abbrev S1024 : Shape := ⟨1, ![1024]⟩
abbrev S1024x5696 : Shape := ⟨2, ![1024, 5696]⟩
abbrev S1024x32 : Shape := ⟨2, ![1024, 32]⟩
abbrev S_ : Shape := ⟨0, ![]⟩
abbrev S1024x64 : Shape := ⟨2, ![1024, 64]⟩
abbrev S1024x128 : Shape := ⟨2, ![1024, 128]⟩
abbrev S1024x2560 : Shape := ⟨2, ![1024, 2560]⟩
abbrev S1024x3072 : Shape := ⟨2, ![1024, 3072]⟩
abbrev S1024x5760 : Shape := ⟨2, ![1024, 5760]⟩
abbrev S1x1024 : Shape := ⟨2, ![1, 1024]⟩
abbrev S2x8192x1536 : Shape := ⟨3, ![2, 8192, 1536]⟩
abbrev S2x8192x512 : Shape := ⟨3, ![2, 8192, 512]⟩
abbrev S2x8192x128 : Shape := ⟨3, ![2, 8192, 128]⟩
abbrev S1x512x1024 : Shape := ⟨3, ![1, 512, 1024]⟩
abbrev S1x1x1024 : Shape := ⟨3, ![1, 1, 1024]⟩
abbrev S1x512x1536 : Shape := ⟨3, ![1, 512, 1536]⟩
abbrev S1x512x512 : Shape := ⟨3, ![1, 512, 512]⟩
abbrev S1x512x128 : Shape := ⟨3, ![1, 512, 128]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩
abbrev S1024x512 : Shape := ⟨2, ![1024, 512]⟩
abbrev S128x512 : Shape := ⟨2, ![128, 512]⟩
abbrev S1x128x512 : Shape := ⟨3, ![1, 128, 512]⟩
abbrev S128x128 : Shape := ⟨2, ![128, 128]⟩
abbrev S1x128x128 : Shape := ⟨3, ![1, 128, 128]⟩

abbrev nBuf : Space → Nat
  | .hbm => 22
  | .vmem => 22
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024, .f32⟩
  | .hbm, ⟨4, _⟩ => ⟨S1024x5696, .f32⟩
  | .hbm, ⟨5, _⟩ => ⟨S1024x32, .f32⟩
  | .hbm, ⟨6, _⟩ => ⟨S1024x32, .f32⟩
  | .hbm, ⟨7, _⟩ => ⟨S_, .f32⟩
  | .hbm, ⟨8, _⟩ => ⟨S1024x64, .f32⟩
  | .hbm, ⟨9, _⟩ => ⟨S1024x128, .f32⟩
  | .hbm, ⟨10, _⟩ => ⟨S1024x2560, .f32⟩
  | .hbm, ⟨11, _⟩ => ⟨S1024x3072, .f32⟩
  | .hbm, ⟨12, _⟩ => ⟨S1024x5760, .f32⟩
  | .hbm, ⟨13, _⟩ => ⟨S1024x5760, .bf16⟩
  | .hbm, ⟨14, _⟩ => ⟨S1x1024, .f32⟩
  | .hbm, ⟨15, _⟩ => ⟨S2x8192x1024, .bf16⟩
  | .hbm, ⟨16, _⟩ => ⟨S2x8192x1536, .bf16⟩
  | .hbm, ⟨17, _⟩ => ⟨S2x8192x512, .bf16⟩
  | .hbm, ⟨18, _⟩ => ⟨S2x8192x512, .bf16⟩
  | .hbm, ⟨19, _⟩ => ⟨S2x8192x1024, .bf16⟩
  | .hbm, ⟨20, _⟩ => ⟨S2x8192x1024, .bf16⟩
  | .hbm, ⟨21, _⟩ => ⟨S2x8192x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x5760, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1536, .bf16⟩
  | .local _ .vmem, ⟨11, _⟩ => ⟨S1x512x1536, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x128, .f32⟩
  | .local _ .vmem, ⟨21, _⟩ => ⟨S1x512x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev main_v9_5 : Ref sig .tc := ⟨.hbm, 20, rfl⟩
abbrev main_v9_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x5760 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== EvenReferenceIdeal.lean ====
abbrev S2x8192x1024 : Shape := ⟨3, ![2, 8192, 1024]⟩
abbrev S2x1x1024 : Shape := ⟨3, ![2, 1, 1024]⟩
abbrev S1024 : Shape := ⟨1, ![1024]⟩
abbrev S1024x5696 : Shape := ⟨2, ![1024, 5696]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5696 : Shape := ⟨3, ![2, 8192, 5696]⟩
abbrev S2x8192x1536 : Shape := ⟨3, ![2, 8192, 1536]⟩
abbrev S2x8192x32 : Shape := ⟨3, ![2, 8192, 32]⟩
abbrev S2x8192x512 : Shape := ⟨3, ![2, 8192, 512]⟩
abbrev S2x8192x64 : Shape := ⟨3, ![2, 8192, 64]⟩
abbrev S2x8192x128 : Shape := ⟨3, ![2, 8192, 128]⟩

abbrev nBuf : Space → Nat
  | .hbm => 46
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024, .f32⟩
  | .hbm, ⟨4, _⟩ => ⟨S1024x5696, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x5696, .f32⟩
  | .hbm, ⟨29, _⟩ => ⟨S2x8192x1024, .f32⟩
  | .hbm, ⟨30, _⟩ => ⟨S2x8192x1536, .f32⟩
  | .hbm, ⟨31, _⟩ => ⟨S2x8192x32, .f32⟩
  | .hbm, ⟨32, _⟩ => ⟨S2x8192x512, .f32⟩
  | .hbm, ⟨33, _⟩ => ⟨S2x8192x512, .f32⟩
  | .hbm, ⟨34, _⟩ => ⟨S2x8192x1024, .f32⟩
  | .hbm, ⟨35, _⟩ => ⟨S2x8192x1024, .f32⟩
  | .hbm, ⟨36, _⟩ => ⟨S2x8192x32, .f32⟩
  | .hbm, ⟨37, _⟩ => ⟨S_, .f32⟩
  | .hbm, ⟨38, _⟩ => ⟨S2x8192x64, .f32⟩
  | .hbm, ⟨39, _⟩ => ⟨S2x8192x1024, .bf16⟩
  | .hbm, ⟨40, _⟩ => ⟨S2x8192x1536, .bf16⟩
  | .hbm, ⟨41, _⟩ => ⟨S2x8192x512, .bf16⟩
  | .hbm, ⟨42, _⟩ => ⟨S2x8192x512, .bf16⟩
  | .hbm, ⟨43, _⟩ => ⟨S2x8192x1024, .bf16⟩
  | .hbm, ⟨44, _⟩ => ⟨S2x8192x1024, .bf16⟩
  | .hbm, ⟨45, _⟩ => ⟨S2x8192x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== OddKernel.lean ====
abbrev S2x8192x1024 : Shape := ⟨3, ![2, 8192, 1024]⟩
abbrev S2x1x1024 : Shape := ⟨3, ![2, 1, 1024]⟩
abbrev S1024 : Shape := ⟨1, ![1024]⟩
abbrev S1024x5120 : Shape := ⟨2, ![1024, 5120]⟩
abbrev S128 : Shape := ⟨1, ![128]⟩
abbrev S1024x512 : Shape := ⟨2, ![1024, 512]⟩
abbrev S1024x4x2x2x32 : Shape := ⟨5, ![1024, 4, 2, 2, 32]⟩
abbrev S1024x2048 : Shape := ⟨2, ![1024, 2048]⟩
abbrev S1024x16x2x2x32 : Shape := ⟨5, ![1024, 16, 2, 2, 32]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S128x1 : Shape := ⟨2, ![128, 1]⟩
abbrev S1x1024 : Shape := ⟨2, ![1, 1024]⟩
abbrev S1x128 : Shape := ⟨2, ![1, 128]⟩
abbrev S2x8192x512 : Shape := ⟨3, ![2, 8192, 512]⟩
abbrev S2x8192x2048 : Shape := ⟨3, ![2, 8192, 2048]⟩
abbrev S1x512x1024 : Shape := ⟨3, ![1, 512, 1024]⟩
abbrev S1x1x1024 : Shape := ⟨3, ![1, 1, 1024]⟩
abbrev S512x128 : Shape := ⟨2, ![512, 128]⟩
abbrev S1x512x512 : Shape := ⟨3, ![1, 512, 512]⟩
abbrev S1x512x2048 : Shape := ⟨3, ![1, 512, 2048]⟩
abbrev S512x1024 : Shape := ⟨2, ![512, 1024]⟩
abbrev S512 : Shape := ⟨1, ![512]⟩
abbrev S512x1 : Shape := ⟨2, ![512, 1]⟩
abbrev S256x256 : Shape := ⟨2, ![256, 256]⟩
abbrev S512x512 : Shape := ⟨2, ![512, 512]⟩
abbrev S512x256 : Shape := ⟨2, ![512, 256]⟩
abbrev S1x512x128 : Shape := ⟨3, ![1, 512, 128]⟩

abbrev nBuf : Space → Nat
  | .hbm => 81
  | .vmem => 22
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024, .f32⟩
  | .hbm, ⟨4, _⟩ => ⟨S1024x5120, .f32⟩
  | .hbm, ⟨5, _⟩ => ⟨S128, .f32⟩
  | .hbm, ⟨6, _⟩ => ⟨S128, .f32⟩
  | .hbm, ⟨7, _⟩ => ⟨S128, .i32⟩
  | .hbm, ⟨8, _⟩ => ⟨S128, .i1⟩
  | .hbm, ⟨9, _⟩ => ⟨S128, .i32⟩
  | .hbm, ⟨10, _⟩ => ⟨S128, .i1⟩
  | .hbm, ⟨11, _⟩ => ⟨S1024x512, .f32⟩
  | .hbm, ⟨12, _⟩ => ⟨S1024x4x2x2x32, .f32⟩
  | .hbm, ⟨13, _⟩ => ⟨S1024x4x2x2x32, .f32⟩
  | .hbm, ⟨14, _⟩ => ⟨S1024x512, .f32⟩
  | .hbm, ⟨15, _⟩ => ⟨S1024x512, .f32⟩
  | .hbm, ⟨16, _⟩ => ⟨S1024x2048, .f32⟩
  | .hbm, ⟨17, _⟩ => ⟨S1024x16x2x2x32, .f32⟩
  | .hbm, ⟨18, _⟩ => ⟨S1024x16x2x2x32, .f32⟩
  | .hbm, ⟨19, _⟩ => ⟨S1024x2048, .f32⟩
  | .hbm, ⟨20, _⟩ => ⟨S1024x2048, .f32⟩
  | .hbm, ⟨21, _⟩ => ⟨S1024x5120, .f32⟩
  | .hbm, ⟨22, _⟩ => ⟨S1024x5120, .bf16⟩
  | .hbm, ⟨23, _⟩ => ⟨S128, .f32⟩
  | .hbm, ⟨24, _⟩ => ⟨S128x64, .f32⟩
  | .hbm, ⟨25, _⟩ => ⟨S8192, .f32⟩
  | .hbm, ⟨26, _⟩ => ⟨S64, .f32⟩
  | .hbm, ⟨27, _⟩ => ⟨S1x64, .f32⟩
  | .hbm, ⟨28, _⟩ => ⟨S128x64, .f32⟩
  | .hbm, ⟨29, _⟩ => ⟨S8192, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S8192x1, .f32⟩
  | .hbm, ⟨41, _⟩ => ⟨S1x32, .f32⟩
  | .hbm, ⟨42, _⟩ => ⟨S8192x32, .f32⟩
  | .hbm, ⟨43, _⟩ => ⟨S8192x32, .f32⟩
  | .hbm, ⟨44, _⟩ => ⟨S8192x32, .f32⟩
  | .hbm, ⟨45, _⟩ => ⟨S8192x1, .f32⟩
  | .hbm, ⟨46, _⟩ => ⟨S1x32, .f32⟩
  | .hbm, ⟨47, _⟩ => ⟨S8192x32, .f32⟩
  | .hbm, ⟨48, _⟩ => ⟨S8192x32, .f32⟩
  | .hbm, ⟨49, _⟩ => ⟨S8192x32, .f32⟩
  | .hbm, ⟨50, _⟩ => ⟨S8192x32, .f32⟩
  | .hbm, ⟨51, _⟩ => ⟨S8192x32, .f32⟩
  | .hbm, ⟨52, _⟩ => ⟨S8192x32, .f32⟩
  | .hbm, ⟨53, _⟩ => ⟨S8192x32, .f32⟩
  | .hbm, ⟨54, _⟩ => ⟨S8192x128, .f32⟩
  | .hbm, ⟨55, _⟩ => ⟨S8192x32, .f32⟩
  | .hbm, ⟨56, _⟩ => ⟨S8192x32, .f32⟩
  | .hbm, ⟨57, _⟩ => ⟨S8192x32, .f32⟩
  | .hbm, ⟨58, _⟩ => ⟨S8192x32, .f32⟩
  | .hbm, ⟨59, _⟩ => ⟨S8192x32, .f32⟩
  | .hbm, ⟨60, _⟩ => ⟨S8192x32, .f32⟩
  | .hbm, ⟨61, _⟩ => ⟨S8192x128, .f32⟩
  | .hbm, ⟨62, _⟩ => ⟨S_, .i32⟩
  | .hbm, ⟨63, _⟩ => ⟨S128, .i32⟩
  | .hbm, ⟨64, _⟩ => ⟨S128, .i32⟩
  | .hbm, ⟨65, _⟩ => ⟨S128, .i32⟩
  | .hbm, ⟨66, _⟩ => ⟨S128x1, .i32⟩
  | .hbm, ⟨67, _⟩ => ⟨S128, .f32⟩
  | .hbm, ⟨68, _⟩ => ⟨S_, .i32⟩
  | .hbm, ⟨69, _⟩ => ⟨S128, .i32⟩
  | .hbm, ⟨70, _⟩ => ⟨S128, .i32⟩
  | .hbm, ⟨71, _⟩ => ⟨S128, .i32⟩
  | .hbm, ⟨72, _⟩ => ⟨S128x1, .i32⟩
  | .hbm, ⟨73, _⟩ => ⟨S128, .f32⟩
  | .hbm, ⟨74, _⟩ => ⟨S1x1024, .f32⟩
  | .hbm, ⟨75, _⟩ => ⟨S1x128, .f32⟩
  | .hbm, ⟨76, _⟩ => ⟨S1x128, .f32⟩
  | .hbm, ⟨77, _⟩ => ⟨S2x8192x512, .bf16⟩
  | .hbm, ⟨78, _⟩ => ⟨S2x8192x512, .bf16⟩
  | .hbm, ⟨79, _⟩ => ⟨S2x8192x2048, .bf16⟩
  | .hbm, ⟨80, _⟩ => ⟨S2x8192x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x5120, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x128, .f32⟩
  | .local _ .vmem, ⟨13, _⟩ => ⟨S1x128, .f32⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x2048, .bf16⟩
  | .local _ .vmem, ⟨19, _⟩ => ⟨S1x512x2048, .bf16⟩
  | .local _ .vmem, ⟨20, _⟩ => ⟨S1x512x2048, .f32⟩
  | .local _ .vmem, ⟨21, _⟩ => ⟨S1x512x2048, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_c_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61_0 : Ref sig .tc := ⟨.hbm, 77, rfl⟩
abbrev main_v61_1 : Ref sig .tc := ⟨.hbm, 78, rfl⟩
abbrev main_v61_2 : Ref sig .tc := ⟨.hbm, 79, rfl⟩
abbrev main_v61_3 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== OddKernelIdeal.lean ====
variable {F : FTy → Type} [FloatOps F] [Named F]
def κ : String → Option EReal := fun
  | "qscale" => some (((Real.sqrt 128)⁻¹ * (Real.log 2)⁻¹ : ℝ) : EReal)
  | _ => none
-- ==== OddReferenceIdeal.lean ====
abbrev S2x8192x1024 : Shape := ⟨3, ![2, 8192, 1024]⟩
abbrev S2x1x1024 : Shape := ⟨3, ![2, 1, 1024]⟩
abbrev S1024 : Shape := ⟨1, ![1024]⟩
abbrev S1024x5120 : Shape := ⟨2, ![1024, 5120]⟩
abbrev S128 : Shape := ⟨1, ![128]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5120 : Shape := ⟨3, ![2, 8192, 5120]⟩
abbrev S2x8192x512 : Shape := ⟨3, ![2, 8192, 512]⟩
abbrev S2x8192x2048 : Shape := ⟨3, ![2, 8192, 2048]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x2x32 : Shape := ⟨3, ![8192, 2, 32]⟩
abbrev S2x8192x16x128 : Shape := ⟨4, ![2, 8192, 16, 128]⟩
abbrev S2x8192x16 : Shape := ⟨3, ![2, 8192, 16]⟩
abbrev S2x8192x16x1 : Shape := ⟨4, ![2, 8192, 16, 1]⟩
abbrev S1x1x1x128 : Shape := ⟨4, ![1, 1, 1, 128]⟩
abbrev S2x8192x16x2x2x32 : Shape := ⟨6, ![2, 8192, 16, 2, 2, 32]⟩
abbrev S2x8192x16x2x1x32 : Shape := ⟨6, ![2, 8192, 16, 2, 1, 32]⟩
abbrev S2x8192x16x2x32 : Shape := ⟨5, ![2, 8192, 16, 2, 32]⟩
abbrev S1x8192x1x2x32 : Shape := ⟨5, ![1, 8192, 1, 2, 32]⟩
abbrev S2x8192x4x128 : Shape := ⟨4, ![2, 8192, 4, 128]⟩
abbrev S2x8192x4 : Shape := ⟨3, ![2, 8192, 4]⟩
abbrev S2x8192x4x1 : Shape := ⟨4, ![2, 8192, 4, 1]⟩
abbrev S2x8192x4x2x2x32 : Shape := ⟨6, ![2, 8192, 4, 2, 2, 32]⟩
abbrev S2x8192x4x2x1x32 : Shape := ⟨6, ![2, 8192, 4, 2, 1, 32]⟩
abbrev S2x8192x4x2x32 : Shape := ⟨5, ![2, 8192, 4, 2, 32]⟩

abbrev nBuf : Space → Nat
  | .hbm => 170
  | .vmem => 0
  | .smem => 0
  | _ => 0

abbrev hbmTy0_0 (i : Nat) : BufTy := match i % 128 with
  | 0 => ⟨S2x8192x1024, .f32⟩
  | 1 => ⟨S2x1x1024, .f32⟩
  | 2 => ⟨S2x1x1024, .f32⟩
  | 3 => ⟨S1024, .f32⟩
  | 4 => ⟨S1024x5120, .f32⟩
  | 5 => ⟨S128, .f32⟩
  | 6 => ⟨S128, .f32⟩
  | 7 => ⟨S2x8192x1024, .f32⟩
  | 8 => ⟨S_, .f32⟩
  | 9 => ⟨S2x8192, .f32⟩
  | 10 => ⟨S2x8192x1, .f32⟩
  | 11 => ⟨S_, .f32⟩
  | 12 => ⟨S2x8192x1, .f32⟩
  | 13 => ⟨S2x8192x1, .f32⟩
  | 14 => ⟨S_, .f32⟩
  | 15 => ⟨S2x8192x1, .f32⟩
  | 16 => ⟨S2x8192x1, .f32⟩
  | 17 => ⟨S2x8192x1, .f32⟩
  | 18 => ⟨S2x8192x1024, .f32⟩
  | 19 => ⟨S2x8192x1024, .f32⟩
  | 20 => ⟨S1x1x1024, .f32⟩
  | 21 => ⟨S2x8192x1024, .f32⟩
  | 22 => ⟨S2x8192x1024, .f32⟩
  | 23 => ⟨S_, .f32⟩
  | 24 => ⟨S2x1x1024, .f32⟩
  | 25 => ⟨S2x1x1024, .f32⟩
  | 26 => ⟨S2x8192x1024, .f32⟩
  | 27 => ⟨S2x8192x1024, .f32⟩
  | 28 => ⟨S2x8192x1024, .f32⟩
  | 29 => ⟨S2x8192x1024, .f32⟩
  | 30 => ⟨S2x8192x5120, .f32⟩
  | 31 => ⟨S2x8192x512, .f32⟩
  | 32 => ⟨S2x8192x512, .f32⟩
  | 33 => ⟨S2x8192x2048, .f32⟩
  | 34 => ⟨S2x8192x2048, .f32⟩
  | 35 => ⟨S128, .f32⟩
  | 36 => ⟨S128x64, .f32⟩
  | 37 => ⟨S8192, .f32⟩
  | 38 => ⟨S64, .f32⟩
  | 39 => ⟨S1x64, .f32⟩
  | 40 => ⟨S128x64, .f32⟩
  | 41 => ⟨S8192, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S8192x1, .f32⟩
  | 53 => ⟨S1x32, .f32⟩
  | 54 => ⟨S8192x32, .f32⟩
  | 55 => ⟨S8192x32, .f32⟩
  | 56 => ⟨S8192x32, .f32⟩
  | 57 => ⟨S8192x1, .f32⟩
  | 58 => ⟨S1x32, .f32⟩
  | 59 => ⟨S8192x32, .f32⟩
  | 60 => ⟨S8192x32, .f32⟩
  | 61 => ⟨S8192x32, .f32⟩
  | 62 => ⟨S8192x1x32, .f32⟩
  | 63 => ⟨S8192x1x32, .f32⟩
  | 64 => ⟨S8192x2x32, .f32⟩
  | 65 => ⟨S8192x2x32, .f32⟩
  | 66 => ⟨S8192x2x32, .f32⟩
  | 67 => ⟨S2x8192x16x128, .f32⟩
  | 68 => ⟨S2x8192x16x128, .f32⟩
  | 69 => ⟨S_, .f32⟩
  | 70 => ⟨S2x8192x16, .f32⟩
  | 71 => ⟨S2x8192x16x1, .f32⟩
  | 72 => ⟨S_, .f32⟩
  | 73 => ⟨S2x8192x16x1, .f32⟩
  | 74 => ⟨S2x8192x16x1, .f32⟩
  | 75 => ⟨S_, .f32⟩
  | 76 => ⟨S2x8192x16x1, .f32⟩
  | 77 => ⟨S2x8192x16x1, .f32⟩
  | 78 => ⟨S2x8192x16x1, .f32⟩
  | 79 => ⟨S2x8192x16x128, .f32⟩
  | 80 => ⟨S2x8192x16x128, .f32⟩
  | 81 => ⟨S1x1x1x128, .f32⟩
  | 82 => ⟨S2x8192x16x128, .f32⟩
  | 83 => ⟨S2x8192x16x128, .f32⟩
  | 84 => ⟨S2x8192x16x2x2x32, .f32⟩
  | 85 => ⟨S2x8192x16x2x1x32, .f32⟩
  | 86 => ⟨S2x8192x16x2x32, .f32⟩
  | 87 => ⟨S2x8192x16x2x1x32, .f32⟩
  | 88 => ⟨S2x8192x16x2x32, .f32⟩
  | 89 => ⟨S1x8192x1x2x32, .f32⟩
  | 90 => ⟨S1x8192x1x2x32, .f32⟩
  | 91 => ⟨S2x8192x16x2x32, .f32⟩
  | 92 => ⟨S2x8192x16x2x32, .f32⟩
  | 93 => ⟨S2x8192x16x2x32, .f32⟩
  | 94 => ⟨S2x8192x16x2x32, .f32⟩
  | 95 => ⟨S2x8192x16x2x32, .f32⟩
  | 96 => ⟨S2x8192x16x2x32, .f32⟩
  | 97 => ⟨S2x8192x16x2x32, .f32⟩
  | 98 => ⟨S2x8192x16x2x32, .f32⟩
  | 99 => ⟨S2x8192x16x2x32, .f32⟩
  | 100 => ⟨S2x8192x16x2x32, .f32⟩
  | 101 => ⟨S2x8192x16x2x1x32, .f32⟩
  | 102 => ⟨S2x8192x16x2x1x32, .f32⟩
  | 103 => ⟨S2x8192x16x2x2x32, .f32⟩
  | 104 => ⟨S2x8192x16x128, .f32⟩
  | 105 => ⟨S2x8192x4x128, .f32⟩
  | 106 => ⟨S2x8192x4x128, .f32⟩
  | 107 => ⟨S_, .f32⟩
  | 108 => ⟨S2x8192x4, .f32⟩
  | 109 => ⟨S2x8192x4x1, .f32⟩
  | 110 => ⟨S_, .f32⟩
  | 111 => ⟨S2x8192x4x1, .f32⟩
  | 112 => ⟨S2x8192x4x1, .f32⟩
  | 113 => ⟨S_, .f32⟩
  | 114 => ⟨S2x8192x4x1, .f32⟩
  | 115 => ⟨S2x8192x4x1, .f32⟩
  | 116 => ⟨S2x8192x4x1, .f32⟩
  | 117 => ⟨S2x8192x4x128, .f32⟩
  | 118 => ⟨S2x8192x4x128, .f32⟩
  | 119 => ⟨S1x1x1x128, .f32⟩
  | 120 => ⟨S2x8192x4x128, .f32⟩
  | 121 => ⟨S2x8192x4x128, .f32⟩
  | 122 => ⟨S2x8192x4x2x2x32, .f32⟩
  | 123 => ⟨S2x8192x4x2x1x32, .f32⟩
  | 124 => ⟨S2x8192x4x2x32, .f32⟩
  | 125 => ⟨S2x8192x4x2x1x32, .f32⟩
  | 126 => ⟨S2x8192x4x2x32, .f32⟩
  | 127 => ⟨S1x8192x1x2x32, .f32⟩
  | _ => ⟨S2x8192x1024, .f32⟩

abbrev hbmTy0_1 (i : Nat) : BufTy := match i % 128 with
  | 0 => ⟨S1x8192x1x2x32, .f32⟩
  | 1 => ⟨S2x8192x4x2x32, .f32⟩
  | 2 => ⟨S2x8192x4x2x32, .f32⟩
  | 3 => ⟨S2x8192x4x2x32, .f32⟩
  | 4 => ⟨S2x8192x4x2x32, .f32⟩
  | 5 => ⟨S2x8192x4x2x32, .f32⟩
  | 6 => ⟨S2x8192x4x2x32, .f32⟩
  | 7 => ⟨S2x8192x4x2x32, .f32⟩
  | 8 => ⟨S2x8192x4x2x32, .f32⟩
  | 9 => ⟨S2x8192x4x2x32, .f32⟩
  | 10 => ⟨S2x8192x4x2x32, .f32⟩
  | 11 => ⟨S2x8192x4x2x1x32, .f32⟩
  | 12 => ⟨S2x8192x4x2x1x32, .f32⟩
  | 13 => ⟨S2x8192x4x2x2x32, .f32⟩
  | 14 => ⟨S2x8192x4x128, .f32⟩
  | 15 => ⟨S_, .f32⟩
  | 16 => ⟨S_, .f32⟩
  | 17 => ⟨S2x8192x16x128, .f32⟩
  | 18 => ⟨S2x8192x16x128, .f32⟩
  | 19 => ⟨S_, .f32⟩
  | 20 => ⟨S_, .f32⟩
  | 21 => ⟨S_, .f32⟩
  | 22 => ⟨S2x8192x16x128, .f32⟩
  | 23 => ⟨S2x8192x16x128, .f32⟩
  | 24 => ⟨S2x8192x4x2x2x32, .f32⟩
  | 25 => ⟨S2x8192x4x2x2x32, .f32⟩
  | 26 => ⟨S2x8192x512, .f32⟩
  | 27 => ⟨S2x8192x512, .bf16⟩
  | 28 => ⟨S2x8192x512, .bf16⟩
  | 29 => ⟨S2x8192x16x2x2x32, .f32⟩
  | 30 => ⟨S2x8192x16x2x2x32, .f32⟩
  | 31 => ⟨S2x8192x2048, .f32⟩
  | 32 => ⟨S2x8192x2048, .bf16⟩
  | 33 => ⟨S2x8192x2048, .f32⟩
  | 34 => ⟨S2x8192x2048, .f32⟩
  | 35 => ⟨S_, .f32⟩
  | 36 => ⟨S2x8192x2048, .f32⟩
  | 37 => ⟨S2x8192x2048, .f32⟩
  | 38 => ⟨S_, .f32⟩
  | 39 => ⟨S2x8192x2048, .f32⟩
  | 40 => ⟨S2x8192x2048, .f32⟩
  | 41 => ⟨S2x8192x2048, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_cst_9 : Ref sig .tc := ⟨.hbm, 107, rfl⟩
abbrev main_v90 : Ref sig .tc := ⟨.hbm, 108, rfl⟩
abbrev main_v91 : Ref sig .tc := ⟨.hbm, 109, rfl⟩
abbrev main_cst_10 : Ref sig .tc := ⟨.hbm, 110, rfl⟩
abbrev main_v92 : Ref sig .tc := ⟨.hbm, 111, rfl⟩
abbrev main_v93 : Ref sig .tc := ⟨.hbm, 112, rfl⟩
abbrev main_cst_11 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_cst_12 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_cst_13 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_call0_v0 : Ref sig .tc := ⟨.hbm, 161, rfl⟩
abbrev main_call0_v1 : Ref sig .tc := ⟨.hbm, 162, rfl⟩
abbrev main_call0_cst : Ref sig .tc := ⟨.hbm, 163, rfl⟩
abbrev main_call0_v2 : Ref sig .tc := ⟨.hbm, 164, rfl⟩
abbrev main_call0_v3 : Ref sig .tc := ⟨.hbm, 165, rfl⟩
abbrev main_call0_cst_0 : Ref sig .tc := ⟨.hbm, 166, rfl⟩
abbrev main_call0_v4 : Ref sig .tc := ⟨.hbm, 167, rfl⟩
abbrev main_call0_v5 : Ref sig .tc := ⟨.hbm, 168, rfl⟩
abbrev main_v139 : Ref sig .tc := ⟨.hbm, 169, rfl⟩

abbrev nD : Nat := 1
abbrev τ : Topo := Topo.v7x

variable {F : FTy → Type} [FloatOps F]
-- ==== Proof.RefTerm.lean ====
module

public import proofs.«01_k».proof.Proof.Gen.ReferenceIdeal.Run
public import Idealize.ShloMosaic.Lib.Pointwise
public import Idealize.ShloMosaic.Lib.Tactic

/-! The reference's result, in named stages: scaled queries, padded windows of keys and values, the window's mask,
the scores, their maximum, the weights, the denominator and the gated output. -/

@[expose] public section

set_option maxRecDepth 16384

noncomputable section

namespace Cert.ReferenceIdeal.Att

open Cert.ReferenceIdeal Cert.ReferenceIdeal.Gen Idealize.ShloMosaic Idealize.ShloMosaic.TcCoe Idealize.SL.Sem

/-- The scaled queries, by block of 128 positions, key head and query head of the group. -/
def qs (q : FVec Ideal S2x8192x16x128 .f32) : FVec Ideal S2x64x128x4x4x128 .f32 :=
  shapeCast _ (mulf q (broadcastInDim S2x8192x16x128 ![] bcast_S_S2x8192x16x128 (constant S_ .f32 0x3DB504F3#32)))
    shapeCasts_S2x8192x16x128_S2x64x128x4x4x128

/-- Keys or values padded by one block of zeros at both ends. -/
def padded (x : FVec Ideal S2x8192x4x128 .f32) : FVec Ideal S2x8448x4x128 .f32 :=
  pad S2x8448x4x128 ![0, 128, 0, 0] ![0, 128, 0, 0] ![0, 0, 0, 0] x (sitofp .f32 (constantI S_ 32 0#32))
    pads_S2x8192x4x128_S2x8448x4x128_000_1281280_000_000 h_S_

/-- Three consecutive blocks around each block of positions. -/
def win (x : FVec Ideal S2x8192x4x128 .f32) : FVec Ideal S2x64x384x4x128 .f32 :=
  concatenate S2x64x384x4x128 2
    [⟨S2x64x128x4x128, extractStridedSlice S2x64x128x4x128 ![0, 0, 0, 0, 0] (shapeCast _ (padded x) shapeCasts_S2x8448x4x128_S2x66x128x4x128) slices_S2x66x128x4x128_S2x64x128x4x128_0_0_0_0_0⟩,
     ⟨S2x64x128x4x128, extractStridedSlice S2x64x128x4x128 ![0, 1, 0, 0, 0] (shapeCast _ (padded x) shapeCasts_S2x8448x4x128_S2x66x128x4x128) slices_S2x66x128x4x128_S2x64x128x4x128_0_1_0_0_0⟩,
     ⟨S2x64x128x4x128, extractStridedSlice S2x64x128x4x128 ![0, 2, 0, 0, 0] (shapeCast _ (padded x) shapeCasts_S2x8448x4x128_S2x66x128x4x128) slices_S2x66x128x4x128_S2x64x128x4x128_0_2_0_0_0⟩]
    concatenates_S2x64x128x4x128_S2x64x128x4x128_S2x64x128x4x128_S2x64x384x4x128_d2

/-- The position of each key of each window. -/
def kpos : IVec S64x384 32 :=
  addi (broadcastInDim S64x384 ![0, 1] bcast_S64x1_S64x384_0_1 (muli (subi (broadcastInDim S64x1 ![0] bcast_S64_S64x1_0 (iotaInDim S64 32 0)) (broadcastInDim S64x1 ![] bcast_S_S64x1 (constantI S_ 32 1#32))) (broadcastInDim S64x1 ![] bcast_S_S64x1 (constantI S_ 32 128#32))))
    (broadcastInDim S64x384 ![0, 1] bcast_S1x384_S64x384_0_1 (broadcastInDim S1x384 ![1] bcast_S384_S1x384_1 (iotaInDim S384 32 0)))

/-- The position of each query. -/
def qpos : IVec S64x128 32 :=
  addi (broadcastInDim S64x128 ![0, 1] bcast_S64x1_S64x128_0_1 (muli (broadcastInDim S64x1 ![0] bcast_S64_S64x1_0 (iotaInDim S64 32 0)) (broadcastInDim S64x1 ![] bcast_S_S64x1 (constantI S_ 32 128#32))))
    (broadcastInDim S64x128 ![0, 1] bcast_S1x128_S64x128_0_1 (broadcastInDim S1x128 ![1] bcast_S128_S1x128_1 (iotaInDim S128 32 0)))

/-- Which keys of its window a query sees. -/
def mask : IVec S64x128x384 1 :=
  andi (cmpi .sle (absi (subi (broadcastInDim S64x128x384 ![0, 1, 2] bcast_S64x128x1_S64x128x384_0_1_2 (broadcastInDim S64x128x1 ![0, 1] bcast_S64x128_S64x128x1_0_1 qpos)) (broadcastInDim S64x128x384 ![0, 1, 2] bcast_S64x1x384_S64x128x384_0_1_2 (broadcastInDim S64x1x384 ![0, 2] bcast_S64x384_S64x1x384_0_2 kpos)))) (broadcastInDim S64x128x384 ![] bcast_S_S64x128x384 (constantI S_ 32 128#32)))
    (broadcastInDim S64x128x384 ![0, 1, 2] bcast_S64x1x384_S64x128x384_0_1_2 (broadcastInDim S64x1x384 ![0, 2] bcast_S64x384_S64x1x384_0_2 (andi (cmpi .sge kpos (broadcastInDim S64x384 ![] bcast_S_S64x384 (constantI S_ 32 0#32))) (cmpi .slt kpos (broadcastInDim S64x384 ![] bcast_S_S64x384 (constantI S_ 32 8192#32))))))

/-- The scores of the window's keys, `-∞` where the query does not see the key. -/
def sBand (q : FVec Ideal S2x8192x16x128 .f32) (k : FVec Ideal S2x8192x4x128 .f32) : FVec Ideal S2x64x4x4x128x384 .f32 :=
  select (broadcastInDim S2x64x4x4x128x384 ![0, 1, 2, 3, 4, 5] bcast_S1x64x1x1x128x384_S2x64x4x4x128x384_0_1_2_3_4_5 (broadcastInDim S1x64x1x1x128x384 ![1, 4, 5] bcast_S64x128x384_S1x64x1x1x128x384_1_4_5 mask))
    (transpose S2x64x4x4x128x384 [0, 1, 2, 5, 4, 3] (Host.dotGeneral dot_S2x64x384x4x128_S2x64x128x4x4x128_S2x64x4x384x128x4_4_5_2_24_013_013 none (win k) (qs q)) transposes_S2x64x4x384x128x4_S2x64x4x4x128x384_0_1_2_5_4_3)
    (broadcastInDim S2x64x4x4x128x384 ![] bcast_S_S2x64x4x4x128x384 (id (constant S_ .f32 0xFF800000#32)))

/-- The scores of the context's keys. -/
def sCtx (q : FVec Ideal S2x8192x16x128 .f32) (kc : FVec Ideal S2x256x4x128 .f32) : FVec Ideal S2x64x4x4x128x256 .f32 :=
  transpose S2x64x4x4x128x256 [0, 3, 1, 5, 4, 2] (Host.dotGeneral dot_S2x256x4x128_S2x64x128x4x4x128_S2x4x256x64x128x4_3_5_1_124_02_03 none kc (qs q)) transposes_S2x4x256x64x128x4_S2x64x4x4x128x256_0_3_1_5_4_2

/-- The sink's score of each head. -/
def sSink (s : FVec Ideal S16 .f32) : FVec Ideal S2x64x4x4x128x1 .f32 :=
  broadcastInDim S2x64x4x4x128x1 ![0, 1, 2, 3, 4, 5] bcast_S1x1x4x4x1x1_S2x64x4x4x128x1_0_1_2_3_4_5 (broadcastInDim S1x1x4x4x1x1 ![2, 3] bcast_S4x4_S1x1x4x4x1x1_2_3 (shapeCast _ s shapeCasts_S16_S4x4))

/-- The largest score of a query, from the three kinds of scores. -/
def mx (s : FVec Ideal S2x64x4x4x128x1 .f32) (sb : FVec Ideal S2x64x4x4x128x384 .f32) (sc : FVec Ideal S2x64x4x4x128x256 .f32) : FVec Ideal S2x64x4x4x128x1 .f32 :=
  maximumf (maximumf s (broadcastInDim S2x64x4x4x128x1 ![0, 1, 2, 3, 4] bcast_S2x64x4x4x128_S2x64x4x4x128x1_0_1_2_3_4 (Host.reduce FloatOps.maximumf sb (constant S_ .f32 0xFF800000#32) reducesTo_S2x64x4x4x128x384_S2x64x4x4x128_d5 h_S_)))
    (broadcastInDim S2x64x4x4x128x1 ![0, 1, 2, 3, 4] bcast_S2x64x4x4x128_S2x64x4x4x128x1_0_1_2_3_4 (Host.reduce FloatOps.maximumf sc (constant S_ .f32 0xFF800000#32) reducesTo_S2x64x4x4x128x256_S2x64x4x4x128_d5 h_S_))

/-- The weights of the window's keys. -/
def pBand (sb : FVec Ideal S2x64x4x4x128x384 .f32) (mm : FVec Ideal S2x64x4x4x128x1 .f32) : FVec Ideal S2x64x4x4x128x384 .f32 :=
  Host.exp (subf sb (broadcastInDim S2x64x4x4x128x384 ![0, 1, 2, 3, 4, 5] bcast_S2x64x4x4x128x1_S2x64x4x4x128x384_0_1_2_3_4_5 mm))

/-- The weights of the context's keys. -/
def pCtx (sc : FVec Ideal S2x64x4x4x128x256 .f32) (mm : FVec Ideal S2x64x4x4x128x1 .f32) : FVec Ideal S2x64x4x4x128x256 .f32 :=
  Host.exp (subf sc (broadcastInDim S2x64x4x4x128x256 ![0, 1, 2, 3, 4, 5] bcast_S2x64x4x4x128x1_S2x64x4x4x128x256_0_1_2_3_4_5 mm))

/-- The denominator of a query: the sink's weight and the sums of the others. -/
def den (s mm : FVec Ideal S2x64x4x4x128x1 .f32) (pb : FVec Ideal S2x64x4x4x128x384 .f32) (pc : FVec Ideal S2x64x4x4x128x256 .f32) : FVec Ideal S2x64x4x4x128 .f32 :=
  addf (addf (shapeCast _ (Host.exp (subf s mm)) shapeCasts_S2x64x4x4x128x1_S2x64x4x4x128) (Host.reduceAdd pb (constant S_ .f32 0x00000000#32) reducesTo_S2x64x4x4x128x384_S2x64x4x4x128_d5 h_S_))
    (Host.reduceAdd pc (constant S_ .f32 0x00000000#32) reducesTo_S2x64x4x4x128x256_S2x64x4x4x128_d5 h_S_)

/-- The weighted values of a query. -/
def num (v : FVec Ideal S2x8192x4x128 .f32) (vc : FVec Ideal S2x256x4x128 .f32) (pb : FVec Ideal S2x64x4x4x128x384 .f32) (pc : FVec Ideal S2x64x4x4x128x256 .f32) : FVec Ideal S2x64x128x4x4x128 .f32 :=
  addf (addf (broadcastInDim S2x64x128x4x4x128 ![] bcast_S_S2x64x128x4x4x128 (constant S_ .f32 0x00000000#32))
      (transpose S2x64x128x4x4x128 [0, 1, 5, 2, 4, 3] (Host.dotGeneral dot_S2x64x384x4x128_S2x64x4x4x128x384_S2x64x4x128x4x128_2_5_4_34_013_012 none (win v) pb) transposes_S2x64x4x128x4x128_S2x64x128x4x4x128_0_1_5_2_4_3))
    (transpose S2x64x128x4x4x128 [0, 3, 5, 1, 4, 2] (Host.dotGeneral dot_S2x256x4x128_S2x64x4x4x128x256_S2x4x128x64x4x128_1_5_3_134_02_02 none vc pc) transposes_S2x4x128x64x4x128_S2x64x128x4x4x128_0_3_5_1_4_2)

/-- The gated output from numerator and denominator. -/
def out (nm : FVec Ideal S2x64x128x4x4x128 .f32) (dn : FVec Ideal S2x64x4x4x128 .f32) (gate : FVec Ideal S2x8192x2048 .f32) : FVec Ideal S2x8192x2048 .bf16 :=
  truncf .bf16 (mulf (shapeCast _ (Host.divf nm (broadcastInDim S2x64x128x4x4x128 ![0, 1, 2, 3, 4, 5] bcast_S2x64x128x4x4x1_S2x64x128x4x4x128_0_1_2_3_4_5 (broadcastInDim S2x64x128x4x4x1 ![0, 1, 2, 3, 4] bcast_S2x64x128x4x4_S2x64x128x4x4x1_0_1_2_3_4 (transpose S2x64x128x4x4 [0, 1, 4, 2, 3] dn transposes_S2x64x4x4x128_S2x64x128x4x4_0_1_4_2_3)))) shapeCasts_S2x64x128x4x4x128_S2x8192x2048) gate) bitsLt_bf16_f32

/-- The reference's result as a function of its arguments. -/
def ref (s : FVec Ideal S16 .f32) (q : FVec Ideal S2x8192x16x128 .f32) (k v : FVec Ideal S2x8192x4x128 .f32) (kc vc : FVec Ideal S2x256x4x128 .f32) (gate : FVec Ideal S2x8192x2048 .f32) : FVec Ideal S2x8192x2048 .bf16 :=
  out (num v vc (pBand (sBand q k) (mx (sSink s) (sBand q k) (sCtx q kc))) (pCtx (sCtx q kc) (mx (sSink s) (sBand q k) (sCtx q kc))))
    (den (sSink s) (mx (sSink s) (sBand q k) (sCtx q kc)) (pBand (sBand q k) (mx (sSink s) (sBand q k) (sCtx q kc))) (pCtx (sCtx q kc) (mx (sSink s) (sBand q k) (sCtx q kc)))) gate

theorem res_eq (m : (ℓ : Loc nD τ sig) → Buf (Elt Ideal) ℓ) (c : Dev nD) :
    Value.res_main_v93 (F := Ideal) m c = ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  sl_kernel_rfl

end Cert.ReferenceIdeal.Att

end
-- ==== Proof.Block.lean ====
module

public import proofs.«01_k».proof.Proof.Gen.KernelIdeal.Value
public import Idealize.ShloMosaic.Lib.Pipeline.ValueKit
public import Idealize.ShloMosaic.Lib.Tactic
public import Idealize.ShloMosaic.Lib.WholeRead

/-! The kernel's stores at one grid point: every one of the 32 blocks of 128 queries is computed by the same
function of its loads, and stored as four pieces, one for each query head of the group. -/

@[expose] public section

set_option maxRecDepth 16384

noncomputable section

namespace Cert.KernelIdeal.Att

open Cert.KernelIdeal Cert.KernelIdeal.Gen Idealize.ShloMosaic Idealize.ShloMosaic.TcCoe Idealize.SL.Sem

variable {F : FTy → Type} [FloatOps F] [Named F]

/-- The word of block `w` of the half of the sequence that grid point `i` works on. -/
def blkW (i : grid0.Coords) (w : BitVec 32) : BitVec 32 :=
  Scalar.addi (Scalar.muli (BitVec.ofNat 32 (i 2).val) 32#32) w

/-- Where the window of keys of a block starts. -/
def startW (b : BitVec 32) : BitVec 32 :=
  Scalar.minsi 7808#32 (Scalar.maxsi 0#32 (Scalar.muli (Scalar.subi b 1#32) 128#32))

/-- How far the block's first query lies behind its window's first key. -/
def shiftW (b : BitVec 32) : BitVec 32 := Scalar.subi (Scalar.muli b 128#32) (startW b)

/-- Which keys of the window a query sees. -/
def maskT (dl : BitVec 32) : IVec S128x384 1 :=
  cmpi .sle (absi (addi k0_pay3 (broadcast S128x384 dl))) (broadcast S128x384 128#32)

/-- The queries of the four heads, one below the other, against the window's keys. -/
def bandT (l0 l1 l2 l3 : Vec F S1x128x128 .bf16) (lk : Vec F S1x384x128 .bf16) : FVec F S512x384 .f32 :=
  matmul dot_S512x128_S384x128_S512x384_1_1_0_0_n_n none (k0_pay8 l0 l1 l2 l3) (shapeCast S384x128 lk shapeCasts_S1x384x128_S384x128) (constant S512x384 .f32 0x00000000#32)

/-- The same queries against the context's keys. -/
def ctxT (l0 l1 l2 l3 : Vec F S1x128x128 .bf16) (kc : FVec F S256x128 .bf16) : FVec F S512x256 .f32 :=
  matmul dot_S512x128_S256x128_S512x256_1_1_0_0_n_n none (k0_pay8 l0 l1 l2 l3) kc (constant S512x256 .f32 0x00000000#32)

/-- One tile of 128 columns of the window's scores, masked. -/
def colT (o : ℕ) (hm : S128x384.Slices ![0, o] S128x128) (h0 : S512x384.Slices ![0, o] S128x128) (h1 : S512x384.Slices ![128, o] S128x128)
    (h2 : S512x384.Slices ![256, o] S128x128) (h3 : S512x384.Slices ![384, o] S128x128) (mk : IVec S128x384 1) (sc : FVec F S512x384 .f32) : FVec F S512x128 .f32 :=
  concatenate S512x128 0
    [⟨S128x128, select (extractStridedSlice S128x128 ![0, o] mk hm) (extractStridedSlice S128x128 ![0, o] sc h0) (broadcast S128x128 (Scalar.ofBits .f32 0xFF800000#32))⟩,
     ⟨S128x128, select (extractStridedSlice S128x128 ![0, o] mk hm) (extractStridedSlice S128x128 ![128, o] sc h1) (broadcast S128x128 (Scalar.ofBits .f32 0xFF800000#32))⟩,
     ⟨S128x128, select (extractStridedSlice S128x128 ![0, o] mk hm) (extractStridedSlice S128x128 ![256, o] sc h2) (broadcast S128x128 (Scalar.ofBits .f32 0xFF800000#32))⟩,
     ⟨S128x128, select (extractStridedSlice S128x128 ![0, o] mk hm) (extractStridedSlice S128x128 ![384, o] sc h3) (broadcast S128x128 (Scalar.ofBits .f32 0xFF800000#32))⟩]
    concatenates_S128x128_S128x128_S128x128_S128x128_S512x128_d0

/-- The three tiles of the window's masked scores. -/
def col0 (mk : IVec S128x384 1) (sc : FVec F S512x384 .f32) : FVec F S512x128 .f32 :=
  colT 0 slices_S128x384_o0_0_S128x128 slices_S512x384_o0_0_S128x128 slices_S512x384_o128_0_S128x128 slices_S512x384_o256_0_S128x128 slices_S512x384_o384_0_S128x128 mk sc

@[inherit_doc col0] def col1 (mk : IVec S128x384 1) (sc : FVec F S512x384 .f32) : FVec F S512x128 .f32 :=
  colT 128 slices_S128x384_o0_128_S128x128 slices_S512x384_o0_128_S128x128 slices_S512x384_o128_128_S128x128 slices_S512x384_o256_128_S128x128 slices_S512x384_o384_128_S128x128 mk sc

@[inherit_doc col0] def col2 (mk : IVec S128x384 1) (sc : FVec F S512x384 .f32) : FVec F S512x128 .f32 :=
  colT 256 slices_S128x384_o0_256_S128x128 slices_S512x384_o0_256_S128x128 slices_S512x384_o128_256_S128x128 slices_S512x384_o256_256_S128x128 slices_S512x384_o384_256_S128x128 mk sc

/-- The two tiles of the context's scores. -/
def ctx0 (cx : FVec F S512x256 .f32) : FVec F S512x128 .f32 := extractStridedSlice S512x128 ![0, 0] cx slices_S512x256_o0_0_S512x128

@[inherit_doc ctx0] def ctx1 (cx : FVec F S512x256 .f32) : FVec F S512x128 .f32 := extractStridedSlice S512x128 ![0, 128] cx slices_S512x256_o0_128_S512x128

/-- The largest score of each query, over all lanes. -/
def topT (sk c0 c1 c2 x0 x1 : FVec F S512x128 .f32) : FVec F S512x128 .f32 :=
  maximumf sk (broadcastTo S512x128 (shapeCast S512x1 (multiReduction .maximumf [1] S512 (maximumf (maximumf (maximumf (maximumf c0 c1) c2) x0) x1) 0xFF800000#32 reduces_S512x128_S512 (.inl rfl) rfl) shapeCasts_S512_S512x1) broadcasts_S512x1_S512x128)

/-- The values of the window and of the context, with a column block of ones for the sums of the weights. -/
def valT (lv : Vec F S1x384x128 .bf16) (vc : FVec F S256x256 .bf16) : FVec F S640x256 .bf16 :=
  concatenate S640x256 0 [⟨S384x256, concatenate S384x256 1 [⟨S384x128, shapeCast S384x128 lv shapeCasts_S1x384x128_S384x128⟩, ⟨S384x128, k0_pay7⟩] concatenates_S384x128_S384x128_S384x256_d1⟩, ⟨S256x256, vc⟩]
    concatenates_S384x256_S256x256_S640x256_d0

/-- The weights, against values and ones. -/
def accT (c0 c1 c2 x0 x1 tp : FVec F S512x128 .f32) (vl : FVec F S640x256 .bf16) : FVec F S512x256 .f32 :=
  matmul dot_S512x640_S640x256_S512x256_1_0_0_1_n_n none
    (truncf .bf16 (concatenate S512x640 1 [⟨S512x128, exp2 (subf c0 tp)⟩, ⟨S512x128, exp2 (subf c1 tp)⟩, ⟨S512x128, exp2 (subf c2 tp)⟩, ⟨S512x128, exp2 (subf x0 tp)⟩, ⟨S512x128, exp2 (subf x1 tp)⟩]
      concatenates_S512x128_S512x128_S512x128_S512x128_S512x128_S512x640_d1) bitsLt_bf16_f32) vl (constant S512x256 .f32 0x00000000#32)

/-- Numerator over denominator. -/
def quoT (sk tp : FVec F S512x128 .f32) (ac : FVec F S512x256 .f32) : FVec F S512x128 .f32 :=
  divf (ctx0 ac) (addf (ctx1 ac) (exp2 (subf sk tp)))

/-- One block's output from its tiles of scores. -/
def softT (sk c0 c1 c2 x0 x1 : FVec F S512x128 .f32) (vl : FVec F S640x256 .bf16) : FVec F S512x128 .f32 :=
  quoT sk (topT sk c0 c1 c2 x0 x1) (accT c0 c1 c2 x0 x1 (topT sk c0 c1 c2 x0 x1) vl)

/-- One block's output from its scores. -/
def scoreT (sk : FVec F S512x128 .f32) (mk : IVec S128x384 1) (sc : FVec F S512x384 .f32) (cx : FVec F S512x256 .f32) (vl : FVec F S640x256 .bf16) : FVec F S512x128 .f32 :=
  softT sk (col0 mk sc) (col1 mk sc) (col2 mk sc) (ctx0 cx) (ctx1 cx) vl

/-- One block's output from its loads. -/
def blkT (sk : FVec F S512x128 .f32) (kc : FVec F S256x128 .bf16) (vc : FVec F S256x256 .bf16) (dl : BitVec 32)
    (l0 l1 l2 l3 : Vec F S1x128x128 .bf16) (lk lv : Vec F S1x384x128 .bf16) : FVec F S512x128 .f32 :=
  scoreT sk (maskT dl) (bandT l0 l1 l2 l3 lk) (ctxT l0 l1 l2 l3 kc) (valT lv vc)

/-- What is stored for query head `g` of the group: its rows, gated. -/
def finT (g : Fin 4) (h : S512x128.Slices ![128 * g.val, 0] S128x128) (bk : FVec F S512x128 .f32) (lg : Vec F S1x128x128 .f32) : FVec F S1x128x128 .bf16 :=
  shapeCast S1x128x128 (truncf .bf16 (mulf (extractStridedSlice S128x128 ![128 * g.val, 0] bk h) (shapeCast S128x128 lg shapeCasts_S1x128x128_S128x128)) bitsLt_bf16_f32) shapeCasts_S128x128_S1x128x128

theorem inbQ (b : Fin 32) (g : Fin 4) (a : Fin 3) : (![0, 128 * b.val, 128 * g.val] : Fin 3 → ℕ) a + S1x128x128.size a ≤ S1x4096x512.size a := by
  have := b.isLt
  have := g.isLt
  fin_cases a
  · show 0 + 1 ≤ 1; omega
  · show 128 * b.val + 128 ≤ 4096; omega
  · show 128 * g.val + 128 ≤ 512; omega

theorem slQ (g : Fin 4) : S512x128.Slices ![128 * g.val, 0] S128x128 := by
  fin_cases g
  · exact slices_S512x128_o0_0_S128x128
  · exact slices_S512x128_o128_0_S128x128
  · exact slices_S512x128_o256_0_S128x128
  · exact slices_S512x128_o384_0_S128x128

section

variable (i : grid0.Coords) (x0 : Vec F S16 .f32)

/-- The sink of query head `g` of the group that grid point `i` works on. -/
def ldS (g : Fin 4) : Elt F .f32 :=
  x0 ((Rect.unit (s := S16) (k0_off1 i (BitVec.ofNat 32 g.val)) S1.size (k0_off1_inb i g)).toLoadRect.idx (Shape.Idx.first (Nat.lt_of_lt_of_eq Nat.one_pos numel1_S1.symm)))

/-- A load of 128 rows of one head. -/
def ldQ {e : EltTy} (x : Vec F S1x4096x512 e) (b : Fin 32) (g : Fin 4) : Vec F S1x128x128 e :=
  fun y => x ((Rect.unit (s := S1x4096x512) ![0, 128 * b.val, 128 * g.val] S1x128x128.size (inbQ b g)).toLoadRect.idx y)

/-- A load of the window of a block. -/
def ldK (x : Vec F S1x8192x128 .bf16) (b : Fin 32) : Vec F S1x384x128 .bf16 :=
  fun y => x ((Rect.unit (s := S1x8192x128) (k0_off2 i (BitVec.ofNat 32 b.val)) S1x384x128.size (k0_off2_inb i b)).toLoadRect.idx y)

/-- A load of the whole context. -/
def ldC (x : Vec F S1x256x128 .bf16) : Vec F S1x256x128 .bf16 :=
  fun y => x ((Rect.unit (s := S1x256x128) ![0, 0, 0] S1x256x128.size inb_S1x256x128_S1x256x128_0_0_0).toLoadRect.idx y)

end

/-- The output of a block, of the loads. -/
def blkAt (i : grid0.Coords) (ss : Fin 4 → Elt F .f32) (qq : Fin 32 → Fin 4 → Vec F S1x128x128 .bf16) (kk vv : Fin 32 → Vec F S1x384x128 .bf16) (kc vc : Vec F S1x256x128 .bf16) (b : Fin 32) : FVec F S512x128 .f32 :=
  blkT (k0_pay4 (ss 0) (ss 1) (ss 2) (ss 3)) (k0_pay5 kc) (k0_pay6 vc) (shiftW (blkW i (BitVec.ofNat 32 b.val)))
    (qq b 0) (qq b 1) (qq b 2) (qq b 3) (kk b) (vv b)

/-- The store of query head `g` of block `b`. -/
def pieceAt (i : grid0.Coords) (ss : Fin 4 → Elt F .f32) (qq : Fin 32 → Fin 4 → Vec F S1x128x128 .bf16) (kk vv : Fin 32 → Vec F S1x384x128 .bf16) (kc vc : Vec F S1x256x128 .bf16) (gg : Fin 32 → Fin 4 → Vec F S1x128x128 .f32) (b : Fin 32) (g : Fin 4) : View.Piece (Elt F) S1x4096x512 .bf16 :=
  ⟨Rect.unit (s := S1x4096x512) ![0, 128 * b.val, 128 * g.val] S1x128x128.size (inbQ b g), finT g (slQ g) (blkAt i ss qq kk vv kc vc b) (gg b g)⟩

/-- All stores, the last first. -/
def pieces (i : grid0.Coords) (ss : Fin 4 → Elt F .f32) (qq : Fin 32 → Fin 4 → Vec F S1x128x128 .bf16) (kk vv : Fin 32 → Vec F S1x384x128 .bf16) (kc vc : Vec F S1x256x128 .bf16) (gg : Fin 32 → Fin 4 → Vec F S1x128x128 .f32) : List (View.Piece (Elt F) S1x4096x512 .bf16) :=
  List.ofFn fun p : Fin 128 => pieceAt i ss qq kk vv kc vc gg ⟨31 - p.val / 4, by omega⟩ ⟨3 - p.val % 4, by omega⟩

theorem run_pieces (c : Dev nD) (i : grid0.Coords) (arg3 : Memref sig .tc .smem S16 .f32) (harg3 : arg3.IsWhole) (arg4 : Memref sig .tc .vmem S1x4096x512 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x256x128 .bf16) (harg7 : arg7.IsWhole) (arg8 : Memref sig .tc .vmem S1x256x128 .bf16) (harg8 : arg8.IsWhole) (arg9 : Memref sig .tc .vmem S1x4096x512 .f32) (harg9 : arg9.IsWhole) (arg10 : Memref sig .tc .vmem S1x4096x512 .bf16) (harg10 : arg10.IsWhole)
    (x0 : Vec F S16 .f32) (x1 : Vec F S1x4096x512 .bf16) (x2 : Vec F S1x8192x128 .bf16) (x3 : Vec F S1x8192x128 .bf16) (x4 : Vec F S1x256x128 .bf16) (x5 : Vec F S1x256x128 .bf16) (x6 : Vec F S1x4096x512 .f32) :
    (kernelRun0_A c i arg3 harg3 arg4 harg4 arg5 harg5 arg6 harg6 arg7 harg7 arg8 harg8 arg9 harg9 arg10 harg10 x0 x1 x2 x3 x4 x5 x6).1
      = pieces i
          (fun g => View.readAt (Elt F) arg3.view (Rect.unit (s := S16) (k0_off1 i (BitVec.ofNat 32 g.val)) S1.size (k0_off1_inb i g)).toLoadRect (harg3.unread x0) (Shape.Idx.first (Nat.lt_of_lt_of_eq Nat.one_pos numel1_S1.symm)))
          (fun b g => View.readAt (Elt F) arg4.view (Rect.unit (s := S1x4096x512) ![0, 128 * b.val, 128 * g.val] S1x128x128.size (inbQ b g)).toLoadRect (harg4.unread x1))
          (fun b => View.readAt (Elt F) arg5.view (Rect.unit (s := S1x8192x128) (k0_off2 i (BitVec.ofNat 32 b.val)) S1x384x128.size (k0_off2_inb i b)).toLoadRect (harg5.unread x2))
          (fun b => View.readAt (Elt F) arg6.view (Rect.unit (s := S1x8192x128) (k0_off2 i (BitVec.ofNat 32 b.val)) S1x384x128.size (k0_off2_inb i b)).toLoadRect (harg6.unread x3))
          (View.readAt (Elt F) arg7.view (Rect.unit (s := S1x256x128) ![0, 0, 0] S1x256x128.size inb_S1x256x128_S1x256x128_0_0_0).toLoadRect (harg7.unread x4))
          (View.readAt (Elt F) arg8.view (Rect.unit (s := S1x256x128) ![0, 0, 0] S1x256x128.size inb_S1x256x128_S1x256x128_0_0_0).toLoadRect (harg8.unread x5))
          (fun b g => View.readAt (Elt F) arg9.view (Rect.unit (s := S1x4096x512) ![0, 128 * b.val, 128 * g.val] S1x128x128.size (inbQ b g)).toLoadRect (harg9.unread x6)) := by
  sl_kernel_rfl

/-- The stores, of the blocks that the point's memrefs hold. -/
theorem run_pieces' (c : Dev nD) (i : grid0.Coords) (arg3 : Memref sig .tc .smem S16 .f32) (harg3 : arg3.IsWhole) (arg4 : Memref sig .tc .vmem S1x4096x512 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x256x128 .bf16) (harg7 : arg7.IsWhole) (arg8 : Memref sig .tc .vmem S1x256x128 .bf16) (harg8 : arg8.IsWhole) (arg9 : Memref sig .tc .vmem S1x4096x512 .f32) (harg9 : arg9.IsWhole) (arg10 : Memref sig .tc .vmem S1x4096x512 .bf16) (harg10 : arg10.IsWhole)
    (x0 : Vec F S16 .f32) (x1 : Vec F S1x4096x512 .bf16) (x2 : Vec F S1x8192x128 .bf16) (x3 : Vec F S1x8192x128 .bf16) (x4 : Vec F S1x256x128 .bf16) (x5 : Vec F S1x256x128 .bf16) (x6 : Vec F S1x4096x512 .f32) :
    (kernelRun0_A c i arg3 harg3 arg4 harg4 arg5 harg5 arg6 harg6 arg7 harg7 arg8 harg8 arg9 harg9 arg10 harg10 x0 x1 x2 x3 x4 x5 x6).1
      = pieces i (ldS i x0) (ldQ x1) (ldK i x2) (ldK i x3) (ldC x4) (ldC x5) (ldQ x6) := by
  rw [run_pieces]
  congr 1
  · funext g; exact Memref.IsWhole.readAt_unread harg3 x0 _ _
  · funext b g y; exact Memref.IsWhole.readAt_unread harg4 x1 _ _
  · funext b y; exact Memref.IsWhole.readAt_unread harg5 x2 _ _
  · funext b y; exact Memref.IsWhole.readAt_unread harg6 x3 _ _
  · funext y; exact Memref.IsWhole.readAt_unread harg7 x4 _ _
  · funext y; exact Memref.IsWhole.readAt_unread harg8 x5 _ _
  · funext b g y; exact Memref.IsWhole.readAt_unread harg9 x6 _ _

end Cert.KernelIdeal.Att

end
-- ==== Proof.Softmax.lean ====
module

public import Idealize.ShloMosaic.PureOps.Ideal.Laws
public import Idealize.ShloMosaic.Lib.Pointwise

/-! Softmax over the extended reals, in base two with scores scaled by `1 / log 2` against base `e`; and sums and
maxima over two windows that both contain every position that counts. -/

@[expose] public section

noncomputable section

namespace Cert.Softmax

open Idealize.ShloMosaic

/-- `1 / log 2`. -/
def lam : EReal := (((Real.log 2)⁻¹ : ℝ) : EReal)

theorem neg_inf : Ideal.ofBits .f32 0xFF800000#32 = ⊥ := by simp [Ideal.ofBits, Ideal.ieee]

theorem log2_pos : 0 < Real.log 2 := Real.log_pos (by norm_num)
theorem lam_real_pos : 0 < (Real.log 2)⁻¹ := inv_pos.mpr log2_pos
theorem lam_pos : 0 < lam := EReal.coe_pos.mpr lam_real_pos

theorem exp2_mul_lam (x : EReal) : Ideal.exp2 (x * lam) = Ideal.exp x := by
  unfold lam
  induction x using EReal.rec with
  | bot => rw [EReal.bot_mul_coe_of_pos lam_real_pos]; rfl
  | top => rw [EReal.top_mul_coe_of_pos lam_real_pos]; rfl
  | coe r =>
    rw [← EReal.coe_mul, Ideal.exp2_coe, Ideal.exp_coe]
    congr 1
    show (2 : ℝ) ^ (r * (Real.log 2)⁻¹) = Real.exp r
    rw [Real.rpow_def_of_pos (by norm_num)]
    congr 1
    field_simp [log2_pos.ne']

theorem add_mul_lam (x y : EReal) : (x + y) * lam = x * lam + y * lam :=
  EReal.right_distrib_of_nonneg_of_ne_top lam_pos.le (EReal.coe_ne_top _) x y

theorem sub_mul_lam (x y : EReal) : (x - y) * lam = x * lam - y * lam := by
  rw [sub_eq_add_neg, add_mul_lam, EReal.neg_mul, sub_eq_add_neg]

theorem mul_lam_mono : Monotone fun x : EReal => x * lam := fun _ _ h => mul_le_mul_of_nonneg_right h lam_pos.le

theorem max_mul_lam (x y : EReal) : max (x * lam) (y * lam) = max x y * lam := (mul_lam_mono.map_max (a := x) (b := y)).symm

theorem bot_mul_lam : (⊥ : EReal) * lam = ⊥ := EReal.bot_mul_coe_of_pos lam_real_pos

theorem sum_mul_lam {n : ℕ} (f : Fin n → EReal) : ∑ k, f k * lam = (∑ k, f k) * lam := by
  classical
  refine Finset.induction_on (Finset.univ : Finset (Fin n)) (by simp) fun a s ha ih => ?_
  rw [Finset.sum_insert ha, Finset.sum_insert ha, ih, add_mul_lam]

theorem fold_mul_lam {n : ℕ} (f : Fin n → EReal) :
    (Finset.univ.fold max ⊥ fun k => f k * lam) = (Finset.univ.fold max ⊥ f) * lam := by
  classical
  refine Finset.induction_on (Finset.univ : Finset (Fin n)) (by simp [bot_mul_lam]) fun a s ha ih => ?_
  rw [Finset.fold_insert ha, Finset.fold_insert ha, ih, max_mul_lam]

theorem div_log2 (x : EReal) : Ideal.div x ((Real.log 2 : ℝ) : EReal) = x * lam := by
  unfold Ideal.div lam
  rw [if_neg (by exact_mod_cast log2_pos.ne'), EReal.coe_inv]

theorem fold_eq_iSup {n : ℕ} (f : Fin n → EReal) : (Finset.univ.fold max ⊥ f) = ⨆ k, f k := by
  rw [← Finset.sup_univ_eq_iSup]; rfl

/-- A sum over a window of `n` positions is the sum of all the terms, when the others are zero. -/
theorem sum_window {n : ℕ} (f : ℕ → EReal) (a : ℕ) (h : ∀ t, f t ≠ 0 → a ≤ t ∧ t < a + n) :
    ∑ k : Fin n, f (a + k) = ∑ᶠ t, f t := by
  rw [finsum_eq_sum_of_support_subset f (s := Finset.Ico a (a + n)) (fun t ht => by
      simpa using h t ht), Finset.sum_Ico_eq_sum_range, Nat.add_sub_cancel_left,
    Fin.sum_univ_eq_sum_range (fun k => f (a + k)) n]

/-- A maximum over a window is the maximum of all the terms, when the others are `-∞`. -/
theorem max_window {n : ℕ} (f : ℕ → EReal) (a : ℕ) (h : ∀ t, f t ≠ ⊥ → a ≤ t ∧ t < a + n) :
    (Finset.univ.fold max ⊥ fun k : Fin n => f (a + k)) = ⨆ t, f t := by
  rw [fold_eq_iSup]
  refine le_antisymm (iSup_le fun k => le_iSup f (a + k)) (iSup_le fun t => ?_)
  by_cases ht : f t = ⊥
  · rw [ht]; exact bot_le
  · obtain ⟨h1, h2⟩ := h t ht
    have e : f t = f (a + (⟨t - a, by omega⟩ : Fin n)) := by
      congr 1; show t = a + (t - a); omega
    rw [e]; exact le_iSup (fun k : Fin n => f (a + k)) ⟨t - a, by omega⟩

/-- The maximum taken lane by lane over five tiles of 128 lanes is the maximum over the 384 and the 256 entries. -/
theorem max_tiles (f : Fin 384 → EReal) (g : Fin 256 → EReal) :
    (Finset.univ.fold max ⊥ fun l : Fin 128 => max (max (max (max (f ⟨l, by omega⟩) (f ⟨128 + l, by omega⟩)) (f ⟨256 + l, by omega⟩)) (g ⟨l, by omega⟩)) (g ⟨128 + l, by omega⟩))
      = max (Finset.univ.fold max ⊥ f) (Finset.univ.fold max ⊥ g) := by
  rw [fold_eq_iSup, fold_eq_iSup, fold_eq_iSup]
  refine le_antisymm (iSup_le fun l => ?_) (max_le (iSup_le fun k => ?_) (iSup_le fun k => ?_))
  · exact max_le (max_le (max_le (max_le ((le_iSup f _).trans (le_max_left _ _)) ((le_iSup f _).trans (le_max_left _ _)))
      ((le_iSup f _).trans (le_max_left _ _))) ((le_iSup g _).trans (le_max_right _ _))) ((le_iSup g _).trans (le_max_right _ _))
  · rcases (by omega : k.val / 128 = 0 ∨ k.val / 128 = 1 ∨ k.val / 128 = 2) with h | h | h
    · obtain ⟨l, rfl⟩ : ∃ l : Fin 128, k = ⟨l, by have := l.isLt; clear h; clear k; omega⟩ := ⟨⟨k, by omega⟩, rfl⟩
      exact le_iSup_of_le l (by simp)
    · obtain ⟨l, rfl⟩ : ∃ l : Fin 128, k = ⟨128 + l, by have := l.isLt; clear h; clear k; omega⟩ := ⟨⟨k - 128, by omega⟩, Fin.ext (by simp; omega)⟩
      exact le_iSup_of_le l (by simp)
    · obtain ⟨l, rfl⟩ : ∃ l : Fin 128, k = ⟨256 + l, by have := l.isLt; clear h; clear k; omega⟩ := ⟨⟨k - 256, by omega⟩, Fin.ext (by simp; omega)⟩
      exact le_iSup_of_le l (by simp)
  · rcases (by omega : k.val / 128 = 0 ∨ k.val / 128 = 1) with h | h
    · obtain ⟨l, rfl⟩ : ∃ l : Fin 128, k = ⟨l, by have := l.isLt; clear h; clear k; omega⟩ := ⟨⟨k, by omega⟩, rfl⟩
      exact le_iSup_of_le l (by simp)
    · obtain ⟨l, rfl⟩ : ∃ l : Fin 128, k = ⟨128 + l, by have := l.isLt; clear h; clear k; omega⟩ := ⟨⟨k - 128, by omega⟩, Fin.ext (by simp; omega)⟩
      exact le_iSup_of_le l (by simp)

theorem exp_bot_sub (m : EReal) : Ideal.exp (⊥ - m) = 0 := by
  rw [EReal.bot_sub]; rfl

/-- One output element: scores `S t * lam` over the window at `a`, in base two, against scores `S t` over the
    window at `b`, in base `e`; `S` is `-∞` outside both windows. -/
theorem attend {n c : ℕ} (sink : EReal) (S V : ℕ → EReal) (C Vc : Fin c → EReal) (a b : ℕ)
    (ha : ∀ t, S t ≠ ⊥ → a ≤ t ∧ t < a + n) (hb : ∀ t, S t ≠ ⊥ → b ≤ t ∧ t < b + n) (m m' : EReal)
    (hm' : m' = max (sink * lam) (max (Finset.univ.fold max ⊥ fun k : Fin n => S (a + k) * lam) (Finset.univ.fold max ⊥ fun k => C k * lam)))
    (hm : m = max (max sink (Finset.univ.fold max ⊥ fun k : Fin n => S (b + k))) (Finset.univ.fold max ⊥ C)) :
    Ideal.div (∑ k : Fin n, Ideal.exp2 (S (a + k) * lam - m') * V (a + k) + ∑ k, Ideal.exp2 (C k * lam - m') * Vc k)
        ((∑ k : Fin n, Ideal.exp2 (S (a + k) * lam - m') + ∑ k, Ideal.exp2 (C k * lam - m')) + Ideal.exp2 (sink * lam - m'))
      = Ideal.div (∑ k : Fin n, V (b + k) * Ideal.exp (S (b + k) - m) + ∑ k, Vc k * Ideal.exp (C k - m))
        ((Ideal.exp (sink - m) + ∑ k : Fin n, Ideal.exp (S (b + k) - m)) + ∑ k, Ideal.exp (C k - m)) := by
  have hmm : m' = m * lam := by
    rw [hm', hm, fold_mul_lam, fold_mul_lam C, max_mul_lam, max_mul_lam, max_assoc,
      max_window S a ha, max_window S b hb]
  have he : ∀ x : EReal, Ideal.exp2 (x * lam - m') = Ideal.exp (x - m) := fun x => by
    rw [hmm, ← sub_mul_lam, exp2_mul_lam]
  simp only [he]
  have hz : ∀ t, S t = ⊥ → Ideal.exp (S t - m) = 0 := fun t h => by rw [h, exp_bot_sub]
  have h1 : ∑ k : Fin n, Ideal.exp (S (a + k) - m) * V (a + k) = ∑ k : Fin n, V (b + k) * Ideal.exp (S (b + k) - m) := by
    rw [sum_window (n := n) (fun t => Ideal.exp (S t - m) * V t) a fun t ht => ha t fun h => ht (by rw [hz t h, zero_mul]),
      sum_window (n := n) (fun t => V t * Ideal.exp (S t - m)) b fun t ht => hb t fun h => ht (by rw [hz t h, mul_zero])]
    exact finsum_congr fun t => mul_comm _ _
  have h2 : ∑ k : Fin n, Ideal.exp (S (a + k) - m) = ∑ k : Fin n, Ideal.exp (S (b + k) - m) := by
    rw [sum_window (n := n) (fun t => Ideal.exp (S t - m)) a fun t ht => ha t fun h => ht (hz t h),
      sum_window (n := n) (fun t => Ideal.exp (S t - m)) b fun t ht => hb t fun h => ht (hz t h)]
  rw [h1, h2, add_comm (Ideal.exp (sink - m)), add_right_comm]
  simp only [mul_comm (Vc _)]

/-- Does the query at position `p` see the key at position `t - 128`? -/
def Sees (p t : ℕ) : Prop := p ≤ t ∧ t ≤ p + 256 ∧ 128 ≤ t ∧ t < 8320

instance (p t : ℕ) : Decidable (Sees p t) := by unfold Sees; infer_instance

/-- The score of the key at position `t - 128` for the query at position `p`. -/
def score (K : ℕ → Fin 128 → EReal) (q : Fin 128 → EReal) (p t : ℕ) : EReal :=
  if Sees p t then ∑ e, K t e * q e else ⊥

/-- The score of the context's key `j`. -/
def cscore (Kc : Fin 256 → Fin 128 → EReal) (q : Fin 128 → EReal) (j : Fin 256) : EReal := ∑ e, Kc j e * q e

end Cert.Softmax

end
-- ==== Proof.Words.lean ====
module

public import Idealize.ShloMosaic.Lib.WordCmp
public import Mathlib.Algebra.Order.Group.Abs
public import Mathlib.Algebra.Order.Group.Int

/-! Arithmetic on 32-bit words that stand for integers of small size. -/

@[expose] public section

namespace Cert.Words

open Idealize.ShloMosaic

/-- The word of an integer. -/
def wd (z : ℤ) : BitVec 32 := BitVec.ofInt 32 z

theorem wd_nat (n : ℕ) : BitVec.ofNat 32 n = wd n := (BitVec.ofInt_natCast 32 n).symm

theorem wd_add (a b : ℤ) : IntOp.addi (wd a) (wd b) = wd (a + b) := (BitVec.ofInt_add a b).symm

theorem wd_mul (a b : ℤ) : IntOp.muli (wd a) (wd b) = wd (a * b) := (BitVec.ofInt_mul a b).symm

theorem wd_sub (a b : ℤ) : IntOp.subi (wd a) (wd b) = wd (a - b) := by
  show BitVec.ofInt 32 a - BitVec.ofInt 32 b = BitVec.ofInt 32 (a - b)
  rw [Int.sub_eq_add_neg, BitVec.ofInt_add, BitVec.ofInt_neg, BitVec.sub_eq_add_neg]

theorem wd_int {z : ℤ} (h : -2147483648 ≤ z) (h' : z < 2147483648) : (wd z).toInt = z := by
  unfold wd
  rw [BitVec.toInt_ofInt]
  exact Int.bmod_eq_of_le (by omega) (by omega)

theorem wd_max {a b : ℤ} (ha : -2147483648 ≤ a) (ha' : a < 2147483648) (hb : -2147483648 ≤ b) (hb' : b < 2147483648) :
    IntOp.maxsi (wd a) (wd b) = wd (max a b) := by
  unfold IntOp.maxsi
  rw [BitVec.slt_eq_decide, wd_int ha ha', wd_int hb hb']
  by_cases h : b < a
  · simp [h, max_eq_left h.le]
  · simp [h, max_eq_right (not_lt.mp h)]

theorem wd_min {a b : ℤ} (ha : -2147483648 ≤ a) (ha' : a < 2147483648) (hb : -2147483648 ≤ b) (hb' : b < 2147483648) :
    IntOp.minsi (wd a) (wd b) = wd (min a b) := by
  unfold IntOp.minsi
  rw [BitVec.slt_eq_decide, wd_int ha ha', wd_int hb hb']
  by_cases h : a < b
  · simp [h, min_eq_left h.le]
  · simp [h, min_eq_right (not_lt.mp h)]

theorem wd_abs {a : ℤ} (ha : -2147483648 < a) (ha' : a < 2147483648) : IntOp.absi (wd a) = wd |a| := by
  unfold IntOp.absi
  rw [BitVec.msb_eq_toInt, wd_int ha.le ha']
  by_cases h : a < 0
  · simp only [h, decide_true, if_true, abs_of_neg h]
    exact (BitVec.ofInt_neg).symm
  · simp [h, abs_of_nonneg (not_lt.mp h)]

theorem wd_sle {a b : ℤ} (ha : -2147483648 ≤ a) (ha' : a < 2147483648) (hb : -2147483648 ≤ b) (hb' : b < 2147483648) :
    IntOp.cmpi .sle (wd a) (wd b) = BitVec.ofBool (decide (a ≤ b)) := by
  rw [WordCmp.cmpi_sle_eq, wd_int ha ha', wd_int hb hb']

theorem wd_sge {a b : ℤ} (ha : -2147483648 ≤ a) (ha' : a < 2147483648) (hb : -2147483648 ≤ b) (hb' : b < 2147483648) :
    IntOp.cmpi .sge (wd a) (wd b) = BitVec.ofBool (decide (b ≤ a)) := by
  rw [WordCmp.cmpi_sge_eq, wd_int ha ha', wd_int hb hb']

theorem wd_slt {a b : ℤ} (ha : -2147483648 ≤ a) (ha' : a < 2147483648) (hb : -2147483648 ≤ b) (hb' : b < 2147483648) :
    IntOp.cmpi .slt (wd a) (wd b) = BitVec.ofBool (decide (a < b)) := by
  rw [WordCmp.cmpi_slt_eq, wd_int ha ha', wd_int hb hb']

theorem wd_near {a : ℤ} (ha : -2147483648 < a) (ha' : a < 2147483648) :
    IntOp.cmpi .sle (IntOp.absi (wd a)) (wd 128) = BitVec.ofBool (decide (-128 ≤ a ∧ a ≤ 128)) := by
  have h0 := abs_nonneg a
  have h1 : |a| < 2147483648 := abs_lt.mpr ⟨ha, ha'⟩
  rw [wd_abs ha ha', wd_sle (by omega) h1 (by omega) (by omega)]
  exact congrArg BitVec.ofBool (decide_eq_decide.mpr abs_le)

theorem wd_toNat {z : ℤ} (h : 0 ≤ z) (h' : z < 2147483648) : (wd z).toNat = z.toNat := by
  lift z to ℕ using h
  rw [← wd_nat, BitVec.toNat_ofNat, Int.toNat_natCast]
  omega

/-- Two bits that say two propositions say the conjunction. -/
theorem and_bits (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

end Cert.Words
-- ==== Proof.BlockRead.lean ====
module

public import proofs.«01_k».proof.Proof.Block
public import proofs.«01_k».proof.Proof.Softmax
public import proofs.«01_k».proof.Proof.Words

/-! One block of the kernel, read at an index over the extended reals. -/

@[expose] public section

set_option maxRecDepth 16384

noncomputable section

namespace Cert.KernelIdeal.Att

open Cert.KernelIdeal Cert.KernelIdeal.Gen Idealize.ShloMosaic Idealize.ShloMosaic.TcCoe Idealize.SL.Sem
open Cert.Softmax Cert.Words

theorem named_lam : (Named.named (F := Ideal) (φ := .f32) κ "log2e" 0x3FB8AA3B#32 : EReal) = lam := rfl

/-- Four blocks of 128 rows, read at row `r` of block `g`. -/
theorem row_cases {α : Type} (f : Fin 4 → Fin 128 → α) (g : Fin 4) (r : Fin 128) :
    (if h : g.val * 128 + r.val < 128 then f 0 ⟨g.val * 128 + r.val, by omega⟩
      else if h : g.val * 128 + r.val - 128 < 128 then f 1 ⟨g.val * 128 + r.val - 128, by omega⟩
      else if h : g.val * 128 + r.val - 128 - 128 < 128 then f 2 ⟨g.val * 128 + r.val - 128 - 128, by omega⟩
      else f 3 ⟨g.val * 128 + r.val - 128 - 128 - 128, by omega⟩) = f g r := by
  have hr := r.isLt
  fin_cases g
  · rw [dif_pos (by simp)]; exact congrArg (f 0) (Fin.ext (by simp))
  · rw [dif_neg (by simp), dif_pos (by simp)]; exact congrArg (f 1) (Fin.ext (by simp))
  · rw [dif_neg (by simp; omega), dif_neg (by simp; omega), dif_pos (by simp; omega)]; exact congrArg (f 2) (Fin.ext (by simp; omega))
  · rw [dif_neg (by simp; omega), dif_neg (by simp; omega), dif_neg (by simp; omega)]; exact congrArg (f 3) (Fin.ext (by simp; omega))

theorem sink_at (ss : Fin 4 → EReal) (g : Fin 4) (r d : Fin 128) :
    k0_pay4 (F := Ideal) (ss 0) (ss 1) (ss 2) (ss 3) (ix2 ⟨g.val * 128 + r.val, by omega⟩ d) = ss g * lam := by
  pointwise [k0_pay4]
  exact row_cases (fun g _ => ss g * lam) g r

theorem q_at (l : Fin 4 → Vec Ideal S1x128x128 .bf16) (g : Fin 4) (r d : Fin 128) :
    k0_pay8 (F := Ideal) (l 0) (l 1) (l 2) (l 3) (ix2 ⟨g.val * 128 + r.val, by omega⟩ d) = l g (ix3 0 r d) := by
  pointwise [k0_pay8]
  exact row_cases (fun g r => l g (ix3 0 r d)) g r

theorem band_at (l0 l1 l2 l3 : Vec Ideal S1x128x128 .bf16) (lk : Vec Ideal S1x384x128 .bf16) (x : Fin 512) (j : Fin 384) :
    bandT (F := Ideal) l0 l1 l2 l3 lk (ix2 x j) = ∑ e, k0_pay8 (F := Ideal) l0 l1 l2 l3 (ix2 x e) * lk (ix3 0 j e) := by
  pointwise [bandT]

theorem ctx_at (l0 l1 l2 l3 : Vec Ideal S1x128x128 .bf16) (kc : FVec Ideal S256x128 .bf16) (x : Fin 512) (j : Fin 256) :
    ctxT (F := Ideal) l0 l1 l2 l3 kc (ix2 x j) = ∑ e, k0_pay8 (F := Ideal) l0 l1 l2 l3 (ix2 x e) * kc (ix2 j e) := by
  pointwise [ctxT]

theorem mask_at (dl : ℤ) (h : -1000 ≤ dl) (h' : dl ≤ 1000) (r : Fin 128) (j : Fin 384) :
    maskT (wd dl) (ix2 r j) = BitVec.ofBool (decide (-128 ≤ (r.val : ℤ) - j.val + dl ∧ (r.val : ℤ) - j.val + dl ≤ 128)) := by
  have hr := r.isLt
  have hj := j.isLt
  pointwise [maskT, k0_pay3]
  simp only [wd_nat, wd_add, wd_sub]
  simp only [Nat.cast_ofNat]
  rw [wd_near (by omega) (by omega)]

/-- A window's masked score. -/
def masked (mk : IVec S128x384 1) (sc : FVec Ideal S512x384 .f32) (g : Fin 4) (r : Fin 128) (j : Fin 384) : EReal :=
  Scalar.select (mk (ix2 r j)) (sc (ix2 ⟨g.val * 128 + r.val, by omega⟩ j)) ⊥

theorem masked_eq (mk : IVec S128x384 1) (sc : FVec Ideal S512x384 .f32) (g : Fin 4) (r : Fin 128) (j : Fin 384) (x : Fin 512) (r' : Fin 128)
    (hx : x.val = g.val * 128 + r.val) (hr : r'.val = r.val) :
    Scalar.select (mk (ix2 r' j)) (sc (ix2 x j)) (Ideal.ofBits .f32 0xFF800000#32) = masked mk sc g r j := by
  obtain rfl : r' = r := Fin.ext hr
  have e : x = ⟨g.val * 128 + r'.val, by omega⟩ := Fin.ext hx
  rw [neg_inf, e]
  rfl

theorem colT_at (o : ℕ) (ho : o ≤ 256) (hm h0 h1 h2 h3) (mk : IVec S128x384 1) (sc : FVec Ideal S512x384 .f32) (g : Fin 4) (r : Fin 128) (l : Fin 128) :
    colT o hm h0 h1 h2 h3 mk sc (ix2 ⟨g.val * 128 + r.val, by omega⟩ l) = masked mk sc g r ⟨o + l.val, by omega⟩ := by
  pointwise [colT]
  have hg := g.isLt
  have hr := r.isLt
  split_ifs
  all_goals
    refine masked_eq mk sc g r _ _ _ ?_ ?_ <;> dsimp only <;> omega

theorem ctx0_at (sc : FVec Ideal S512x256 .f32) (x : Fin 512) (l : Fin 128) : ctx0 sc (ix2 x l) = sc (ix2 x ⟨l.val, by omega⟩) := by
  pointwise [ctx0]

theorem ctx1_at (sc : FVec Ideal S512x256 .f32) (x : Fin 512) (l : Fin 128) : ctx1 sc (ix2 x l) = sc (ix2 x ⟨128 + l.val, by omega⟩) := by
  pointwise [ctx1]

theorem top_at (sk c0 c1 c2 x0 x1 : FVec Ideal S512x128 .f32) (x : Fin 512) (l : Fin 128) :
    topT sk c0 c1 c2 x0 x1 (ix2 x l) = max (sk (ix2 x l)) (Finset.univ.fold max ⊥ fun l : Fin 128 =>
      max (max (max (max (c0 (ix2 x l)) (c1 (ix2 x l))) (c2 (ix2 x l))) (x0 (ix2 x l))) (x1 (ix2 x l))) := by
  rw [← neg_inf]
  pointwise [topT]

theorem val_at (lv : Vec Ideal S1x384x128 .bf16) (vc : FVec Ideal S256x256 .bf16) (k : Fin 640) (l : Fin 256) :
    valT lv vc (ix2 k l) = if h : k.val < 384 then if h' : l.val < 128 then lv (ix3 0 ⟨k.val, h⟩ ⟨l.val, h'⟩) else 1 else vc (ix2 ⟨k.val - 384, by omega⟩ l) := by
  pointwise [valT, k0_pay7]

/-- Tiles of 128 keys side by side, read at a key. -/
theorem tile_cases (S : Fin 384 → EReal) (C : Fin 256 → EReal) (k : Fin 640) :
    (if h : k.val < 128 then S ⟨k.val, by omega⟩
      else if h : k.val - 128 < 128 then S ⟨128 + (k.val - 128), by omega⟩
      else if h : k.val - 128 - 128 < 128 then S ⟨256 + (k.val - 128 - 128), by omega⟩
      else if h : k.val - 128 - 128 - 128 < 128 then C ⟨k.val - 128 - 128 - 128, by omega⟩
      else C ⟨128 + (k.val - 128 - 128 - 128 - 128), by omega⟩) = if h : k.val < 384 then S ⟨k.val, h⟩ else C ⟨k.val - 384, by omega⟩ := by
  split_ifs
  all_goals first
    | omega
    | exact congrArg S (Fin.ext (by dsimp only <;> omega))
    | exact congrArg C (Fin.ext (by dsimp only <;> omega))

theorem acc_at (c0 c1 c2 x0 x1 tp : FVec Ideal S512x128 .f32) (vl : FVec Ideal S640x256 .bf16) (x : Fin 512) (l : Fin 256)
    (S : Fin 384 → EReal) (C : Fin 256 → EReal) (t : EReal)
    (h0 : ∀ l : Fin 128, c0 (ix2 x l) = S ⟨l.val, by omega⟩) (h1 : ∀ l : Fin 128, c1 (ix2 x l) = S ⟨128 + l.val, by omega⟩) (h2 : ∀ l : Fin 128, c2 (ix2 x l) = S ⟨256 + l.val, by omega⟩)
    (h3 : ∀ l : Fin 128, x0 (ix2 x l) = C ⟨l.val, by omega⟩) (h4 : ∀ l : Fin 128, x1 (ix2 x l) = C ⟨128 + l.val, by omega⟩) (ht : ∀ l : Fin 128, tp (ix2 x l) = t) :
    accT c0 c1 c2 x0 x1 tp vl (ix2 x l) = (∑ j : Fin 384, Ideal.exp2 (S j - t) * vl (ix2 ⟨j.val, by omega⟩ l)) + ∑ j : Fin 256, Ideal.exp2 (C j - t) * vl (ix2 ⟨384 + j.val, by omega⟩ l) := by
  pointwise [accT]
  simp only [h0, h1, h2, h3, h4, ht]
  refine (Finset.sum_congr rfl fun k _ => congrArg (· * vl (ix2 k l)) (tile_cases (fun j => Ideal.exp2 (S j - t)) (fun j => Ideal.exp2 (C j - t)) k)).trans ?_
  refine (Fin.sum_univ_add (a := 384) (b := 256) _).trans ?_
  refine congrArg₂ (· + ·) (Finset.sum_congr rfl fun j _ => congrArg (· * _) ?_) (Finset.sum_congr rfl fun j _ => congrArg (· * _) ?_)
  · exact dif_pos (show (Fin.castAdd 256 j).val < 384 from j.isLt)
  · refine (dif_neg (show ¬ (Fin.natAdd 384 j).val < 384 by rw [Fin.val_natAdd]; omega)).trans ?_
    exact congrArg (fun j => Ideal.exp2 (C j - t)) (Fin.ext (show 384 + j.val - 384 = j.val by omega))

theorem quo_at (sk tp : FVec Ideal S512x128 .f32) (ac : FVec Ideal S512x256 .f32) (x : Fin 512) (l : Fin 128) :
    quoT sk tp ac (ix2 x l) = Ideal.div (ac (ix2 x ⟨l.val, by omega⟩)) (ac (ix2 x ⟨128 + l.val, by omega⟩) + Ideal.exp2 (sk (ix2 x l) - tp (ix2 x l))) := by
  pointwise [quoT, ctx0, ctx1]
  rfl

theorem fin_at (g : Fin 4) (bk : FVec Ideal S512x128 .f32) (lg : Vec Ideal S1x128x128 .f32) (z : Fin 1) (r d : Fin 128) :
    finT g (slQ g) bk lg (ix3 z r d) = bk (ix2 ⟨g.val * 128 + r.val, by omega⟩ d) * lg (ix3 0 r d) := by
  have e : (⟨128 * g.val + r.val, by omega⟩ : Fin 512) = ⟨g.val * 128 + r.val, by omega⟩ := Fin.ext (by dsimp only; omega)
  rw [← e]
  pointwise [finT]

theorem vc_at (x : Vec Ideal S1x256x128 .bf16) (j l : Fin 256) : k0_pay6 (F := Ideal) x (ix2 j l) = if h : l.val < 128 then x (ix3 0 j ⟨l.val, h⟩) else 1 := by
  pointwise [k0_pay6]

theorem kc_at (x : Vec Ideal S1x256x128 .bf16) (j : Fin 256) (l : Fin 128) : k0_pay5 (F := Ideal) x (ix2 j l) = x (ix3 0 j l) := by
  pointwise [k0_pay5]

theorem score_at (sk : FVec Ideal S512x128 .f32) (mk : IVec S128x384 1) (sc : FVec Ideal S512x384 .f32) (cx : FVec Ideal S512x256 .f32)
    (lv : Vec Ideal S1x384x128 .bf16) (vc : Vec Ideal S1x256x128 .bf16) (g : Fin 4) (r d : Fin 128) (s m : EReal)
    (hs : ∀ l : Fin 128, sk (ix2 ⟨g.val * 128 + r.val, by omega⟩ l) = s)
    (hm : m = max s (max (Finset.univ.fold max ⊥ (masked mk sc g r)) (Finset.univ.fold max ⊥ fun j : Fin 256 => cx (ix2 ⟨g.val * 128 + r.val, by omega⟩ j)))) :
    scoreT sk mk sc cx (valT lv (k0_pay6 (F := Ideal) vc)) (ix2 ⟨g.val * 128 + r.val, by omega⟩ d) =
      Ideal.div
        ((∑ j : Fin 384, Ideal.exp2 (masked mk sc g r j - m) * lv (ix3 0 j d)) +
          ∑ j : Fin 256, Ideal.exp2 (cx (ix2 ⟨g.val * 128 + r.val, by omega⟩ j) - m) * vc (ix3 0 j d))
        (((∑ j : Fin 384, Ideal.exp2 (masked mk sc g r j - m)) + ∑ j : Fin 256, Ideal.exp2 (cx (ix2 ⟨g.val * 128 + r.val, by omega⟩ j) - m)) +
          Ideal.exp2 (s - m)) := by
  have c0 : ∀ l : Fin 128, col0 mk sc (ix2 ⟨g.val * 128 + r.val, by omega⟩ l) = masked mk sc g r ⟨l.val, by omega⟩ := fun l =>
    (colT_at 0 (by omega) _ _ _ _ _ mk sc g r l).trans (congrArg _ (Fin.ext (by simp)))
  have c1 : ∀ l : Fin 128, col1 mk sc (ix2 ⟨g.val * 128 + r.val, by omega⟩ l) = masked mk sc g r ⟨128 + l.val, by omega⟩ := fun l =>
    colT_at 128 (by omega) _ _ _ _ _ mk sc g r l
  have c2 : ∀ l : Fin 128, col2 mk sc (ix2 ⟨g.val * 128 + r.val, by omega⟩ l) = masked mk sc g r ⟨256 + l.val, by omega⟩ := fun l =>
    colT_at 256 (by omega) _ _ _ _ _ mk sc g r l
  have tp : ∀ l : Fin 128, topT sk (col0 mk sc) (col1 mk sc) (col2 mk sc) (ctx0 cx) (ctx1 cx) (ix2 ⟨g.val * 128 + r.val, by omega⟩ l) = m := fun l => by
    rw [top_at, hs]
    simp only [c0, c1, c2, ctx0_at, ctx1_at]
    rw [max_tiles (masked mk sc g r) (fun j : Fin 256 => cx (ix2 ⟨g.val * 128 + r.val, by omega⟩ j)), hm]
  have ac := fun l : Fin 256 => acc_at (col0 mk sc) (col1 mk sc) (col2 mk sc) (ctx0 cx) (ctx1 cx) _ (valT lv (k0_pay6 (F := Ideal) vc)) ⟨g.val * 128 + r.val, by omega⟩ l
    (masked mk sc g r) (fun j : Fin 256 => cx (ix2 ⟨g.val * 128 + r.val, by omega⟩ j)) m c0 c1 c2 (ctx0_at cx _) (ctx1_at cx _) tp
  have v0 : ∀ j : Fin 384, valT lv (k0_pay6 (F := Ideal) vc) (ix2 ⟨j.val, by omega⟩ ⟨d.val, by omega⟩) = lv (ix3 0 j d) := fun j => by
    rw [val_at, dif_pos j.isLt, dif_pos d.isLt]
  have v1 : ∀ j : Fin 256, valT lv (k0_pay6 (F := Ideal) vc) (ix2 ⟨384 + j.val, by omega⟩ ⟨d.val, by omega⟩) = vc (ix3 0 j d) := fun j => by
    rw [val_at, dif_neg (by simp), vc_at, dif_pos d.isLt]
    exact congrArg (fun j => vc (ix3 0 j d)) (Fin.ext (by simp))
  have w0 : ∀ j : Fin 384, valT lv (k0_pay6 (F := Ideal) vc) (ix2 ⟨j.val, by omega⟩ ⟨128 + d.val, by omega⟩) = 1 := fun j => by
    rw [val_at, dif_pos j.isLt, dif_neg (by simp)]
  have w1 : ∀ j : Fin 256, valT lv (k0_pay6 (F := Ideal) vc) (ix2 ⟨384 + j.val, by omega⟩ ⟨128 + d.val, by omega⟩) = 1 := fun j => by
    rw [val_at, dif_neg (by simp), vc_at, dif_neg (by simp)]
  unfold scoreT softT
  rw [quo_at, ac, ac, hs, tp]
  simp only [v0, v1, w0, w1, mul_one]

end Cert.KernelIdeal.Att

end
-- ==== Proof.RefRead.lean ====
module

public import proofs.«01_k».proof.Proof.RefTerm
public import proofs.«01_k».proof.Proof.Softmax
public import proofs.«01_k».proof.Proof.Words

/-! The stages of the reference's result, each read at an index, and the result itself: softmax attention over the
window of three blocks and the context, with the head's sink in the denominator. -/

@[expose] public section

set_option maxRecDepth 16384

noncomputable section

namespace Cert.ReferenceIdeal.Att

open Cert.ReferenceIdeal Cert.ReferenceIdeal.Gen Idealize.ShloMosaic Idealize.ShloMosaic.TcCoe Idealize.SL.Sem
open Cert.Softmax Cert.Words

/-- The row of position `t - 128` of head `h`, zero outside the sequence. -/
def padAt (x : FVec Ideal S2x8192x4x128 .f32) (b : Fin 2) (h : Fin 4) (t : ℕ) (e : Fin 128) : EReal :=
  if ht : 128 ≤ t ∧ t < 8320 then x (ix4 b ⟨t - 128, by omega⟩ h e) else 0

theorem qs_at (q : FVec Ideal S2x8192x16x128 .f32) (b : Fin 2) (n : Fin 64) (r : Fin 128) (h g : Fin 4) (e : Fin 128) :
    qs q (ix6 b n r h g e) = q (ix4 b ⟨n * 128 + r, by omega⟩ ⟨h * 4 + g, by omega⟩ e) * Ideal.ofBits .f32 0x3DB504F3#32 := by
  pointwise [qs]

theorem sitofp_zero : (FloatOps.sitofp (F := Ideal) FTy.f32 0#32 : EReal) = 0 := by
  show (((0#32 : BitVec 32).toInt : ℝ) : EReal) = 0
  simp

/-- `padded` at any padding value. -/
def paddedBy (z : FVec Ideal S_ .f32) (x : FVec Ideal S2x8192x4x128 .f32) : FVec Ideal S2x8448x4x128 .f32 :=
  pad S2x8448x4x128 ![0, 128, 0, 0] ![0, 128, 0, 0] ![0, 0, 0, 0] x z pads_S2x8192x4x128_S2x8448x4x128_000_1281280_000_000 h_S_

theorem paddedBy_at (z : FVec Ideal S_ .f32) (x : FVec Ideal S2x8192x4x128 .f32) (b : Fin 2) (t : Fin 8448) (h : Fin 4) (e : Fin 128) :
    paddedBy z x (ix4 b t h e) = if ht : 128 ≤ t.val ∧ t.val - 128 < 8192 then x (ix4 b ⟨t.val - 128, by omega⟩ h e) else z (Shape.Idx.first h_S_) := by
  pointwise [paddedBy]

/-- `win` of any padded array. -/
def winOf (y : FVec Ideal S2x8448x4x128 .f32) : FVec Ideal S2x64x384x4x128 .f32 :=
  concatenate S2x64x384x4x128 2
    [⟨S2x64x128x4x128, extractStridedSlice S2x64x128x4x128 ![0, 0, 0, 0, 0] (shapeCast _ y shapeCasts_S2x8448x4x128_S2x66x128x4x128) slices_S2x66x128x4x128_S2x64x128x4x128_0_0_0_0_0⟩,
     ⟨S2x64x128x4x128, extractStridedSlice S2x64x128x4x128 ![0, 1, 0, 0, 0] (shapeCast _ y shapeCasts_S2x8448x4x128_S2x66x128x4x128) slices_S2x66x128x4x128_S2x64x128x4x128_0_1_0_0_0⟩,
     ⟨S2x64x128x4x128, extractStridedSlice S2x64x128x4x128 ![0, 2, 0, 0, 0] (shapeCast _ y shapeCasts_S2x8448x4x128_S2x66x128x4x128) slices_S2x66x128x4x128_S2x64x128x4x128_0_2_0_0_0⟩]
    concatenates_S2x64x128x4x128_S2x64x128x4x128_S2x64x128x4x128_S2x64x384x4x128_d2

theorem winOf_at (y : FVec Ideal S2x8448x4x128 .f32) (b : Fin 2) (n : Fin 64) (k : Fin 384) (h : Fin 4) (e : Fin 128) :
    winOf y (ix5 b n k h e) = y (ix4 b ⟨n.val * 128 + k.val, by omega⟩ h e) := by
  have heq : ∀ i j : Fin 8448, i.val = j.val → y (ix4 b i h e) = y (ix4 b j h e) := fun i j hij => by rw [Fin.ext hij]
  pointwise [winOf]
  split_ifs
  all_goals exact heq _ _ (by first | omega | (dsimp only; omega) | dsimp only)

theorem win_at (x : FVec Ideal S2x8192x4x128 .f32) (b : Fin 2) (n : Fin 64) (k : Fin 384) (h : Fin 4) (e : Fin 128) :
    win x (ix5 b n k h e) = padAt x b h (n.val * 128 + k.val) e := by
  refine (winOf_at (paddedBy (sitofp .f32 (constantI S_ 32 0#32)) x) b n k h e).trans ?_
  rw [paddedBy_at]
  unfold padAt
  by_cases ht : 128 ≤ n.val * 128 + k.val ∧ n.val * 128 + k.val < 8320
  · rw [dif_pos ht, dif_pos (by dsimp only; omega)]
  · rw [dif_neg ht, dif_neg (by dsimp only; omega)]
    exact sitofp_zero

theorem mask_at (n : Fin 64) (r : Fin 128) (k : Fin 384) :
    mask (ix3 n r k) = BitVec.ofBool (decide (Sees (n.val * 128 + r.val) (n.val * 128 + k.val))) := by
  pointwise [mask, kpos, qpos]
  have hn := n.isLt
  have hr := r.isLt
  have hk := k.isLt
  simp only [wd_nat, wd_add, wd_mul, wd_sub]
  simp only [Nat.cast_ofNat, Nat.cast_one, Nat.cast_zero]
  rw [wd_near (by omega) (by omega), wd_sge (by omega) (by omega) (by omega) (by omega), wd_slt (by omega) (by omega) (by omega) (by omega),
    and_bits, and_bits]
  congr 1
  apply decide_eq_decide.mpr
  unfold Sees
  omega

theorem sBand_at (q : FVec Ideal S2x8192x16x128 .f32) (k : FVec Ideal S2x8192x4x128 .f32) (b : Fin 2) (n : Fin 64) (h g : Fin 4) (r : Fin 128) (j : Fin 384) :
    sBand q k (ix6 b n h g r j) = score (padAt k b h) (fun e => qs q (ix6 b n r h g e)) (n.val * 128 + r.val) (n.val * 128 + j.val) := by
  pointwise [sBand]
  rw [mask_at]
  unfold score Scalar.select
  have hc : (id (constant (F := Ideal) S_ FTy.f32 4286578688#32) ix0 : EReal) = ⊥ := neg_inf
  rw [hc]
  by_cases hs : Sees (n.val * 128 + r.val) (n.val * 128 + j.val)
  · simp only [hs, decide_true, if_true, win_at]; rfl
  · simp only [hs, decide_false, if_false]; rfl

theorem sCtx_at (q : FVec Ideal S2x8192x16x128 .f32) (k : FVec Ideal S2x256x4x128 .f32) (b : Fin 2) (n : Fin 64) (h g : Fin 4) (r : Fin 128) (j : Fin 256) :
    sCtx q k (ix6 b n h g r j) = cscore (fun j e => k (ix4 b j h e)) (fun e => qs q (ix6 b n r h g e)) j := by
  unfold cscore
  pointwise [sCtx]

theorem sSink_at (s : FVec Ideal S16 .f32) (b : Fin 2) (n : Fin 64) (h g : Fin 4) (r : Fin 128) (j : Fin 1) :
    sSink s (ix6 b n h g r j) = s (ix1 ⟨h.val * 4 + g.val, by omega⟩) := by
  pointwise [sSink]

theorem red384 : S2x64x4x4x128x384.Reduces [5] S2x64x4x4x128 := by decide
theorem red256 : S2x64x4x4x128x256.Reduces [5] S2x64x4x4x128 := by decide

theorem lift384 (b : Fin 2) (n : Fin 64) (h g : Fin 4) (r : Fin 128) (k : Fin 384) : red384.lift (ix5 b n h g r) k = ix6 b n h g r k := by
  funext a; fin_cases a <;> rfl

theorem lift256 (b : Fin 2) (n : Fin 64) (h g : Fin 4) (r : Fin 128) (k : Fin 256) : red256.lift (ix5 b n h g r) k = ix6 b n h g r k := by
  funext a; fin_cases a <;> rfl

theorem maxBand_at (x : FVec Ideal S2x64x4x4x128x384 .f32) (b : Fin 2) (n : Fin 64) (h g : Fin 4) (r : Fin 128) :
    Host.reduce FloatOps.maximumf x (constant S_ .f32 0xFF800000#32) reducesTo_S2x64x4x4x128x384_S2x64x4x4x128_d5 h_S_ (ix5 b n h g r)
      = Finset.univ.fold max ⊥ fun j => x (ix6 b n h g r j) := by
  rw [Host.reduce_eq_fold_single _ _ _ _ red384]
  have e1 : (x ∘ red384.lift (ix5 b n h g r)) = fun j : Fin 384 => x (ix6 b n h g r j) := funext fun j => congrArg x (lift384 b n h g r j)
  have e2 : (constant (F := Ideal) S_ FTy.f32 (4286578688#32) (Shape.Idx.first h_S_) : EReal) = ⊥ := neg_inf
  rw [e1, e2]; rfl

theorem maxCtx_at (x : FVec Ideal S2x64x4x4x128x256 .f32) (b : Fin 2) (n : Fin 64) (h g : Fin 4) (r : Fin 128) :
    Host.reduce FloatOps.maximumf x (constant S_ .f32 0xFF800000#32) reducesTo_S2x64x4x4x128x256_S2x64x4x4x128_d5 h_S_ (ix5 b n h g r)
      = Finset.univ.fold max ⊥ fun j => x (ix6 b n h g r j) := by
  rw [Host.reduce_eq_fold_single _ _ _ _ red256]
  have e1 : (x ∘ red256.lift (ix5 b n h g r)) = fun j : Fin 256 => x (ix6 b n h g r j) := funext fun j => congrArg x (lift256 b n h g r j)
  have e2 : (constant (F := Ideal) S_ FTy.f32 (4286578688#32) (Shape.Idx.first h_S_) : EReal) = ⊥ := neg_inf
  rw [e1, e2]; rfl

theorem sumBand_at (x : FVec Ideal S2x64x4x4x128x384 .f32) (b : Fin 2) (n : Fin 64) (h g : Fin 4) (r : Fin 128) :
    Host.reduceAdd x (constant S_ .f32 0x00000000#32) reducesTo_S2x64x4x4x128x384_S2x64x4x4x128_d5 h_S_ (ix5 b n h g r) = ∑ j, x (ix6 b n h g r j) := by
  refine (Ideal.hostReduceAdd_single _ red384 _ _ _).trans ?_
  have e2 : (constant (F := Ideal) S_ FTy.f32 (0#32) (Shape.Idx.first h_S_) : EReal) = 0 := Ideal.ofBits_zero_f32
  rw [e2, zero_add]
  exact Finset.sum_congr rfl fun j _ => congrArg x (lift384 b n h g r j)

theorem sumCtx_at (x : FVec Ideal S2x64x4x4x128x256 .f32) (b : Fin 2) (n : Fin 64) (h g : Fin 4) (r : Fin 128) :
    Host.reduceAdd x (constant S_ .f32 0x00000000#32) reducesTo_S2x64x4x4x128x256_S2x64x4x4x128_d5 h_S_ (ix5 b n h g r) = ∑ j, x (ix6 b n h g r j) := by
  refine (Ideal.hostReduceAdd_single _ red256 _ _ _).trans ?_
  have e2 : (constant (F := Ideal) S_ FTy.f32 (0#32) (Shape.Idx.first h_S_) : EReal) = 0 := Ideal.ofBits_zero_f32
  rw [e2, zero_add]
  exact Finset.sum_congr rfl fun j _ => congrArg x (lift256 b n h g r j)

/-- The largest of a sink and two arrays of row maxima. -/
def max3 (s : FVec Ideal S2x64x4x4x128x1 .f32) (x y : FVec Ideal S2x64x4x4x128 .f32) : FVec Ideal S2x64x4x4x128x1 .f32 :=
  maximumf (maximumf s (broadcastInDim S2x64x4x4x128x1 ![0, 1, 2, 3, 4] bcast_S2x64x4x4x128_S2x64x4x4x128x1_0_1_2_3_4 x))
    (broadcastInDim S2x64x4x4x128x1 ![0, 1, 2, 3, 4] bcast_S2x64x4x4x128_S2x64x4x4x128x1_0_1_2_3_4 y)

theorem max3_at (s : FVec Ideal S2x64x4x4x128x1 .f32) (x y : FVec Ideal S2x64x4x4x128 .f32) (b : Fin 2) (n : Fin 64) (h g : Fin 4) (r : Fin 128) (j : Fin 1) :
    max3 s x y (ix6 b n h g r j) = max (max (s (ix6 b n h g r j)) (x (ix5 b n h g r))) (y (ix5 b n h g r)) := by
  pointwise [max3]

theorem mx_at (s : FVec Ideal S2x64x4x4x128x1 .f32) (sb : FVec Ideal S2x64x4x4x128x384 .f32) (sc : FVec Ideal S2x64x4x4x128x256 .f32) (b : Fin 2) (n : Fin 64) (h g : Fin 4) (r : Fin 128) (j : Fin 1) :
    mx s sb sc (ix6 b n h g r j) = max (max (s (ix6 b n h g r j)) (Finset.univ.fold max ⊥ fun j => sb (ix6 b n h g r j))) (Finset.univ.fold max ⊥ fun j => sc (ix6 b n h g r j)) := by
  refine (max3_at s _ _ b n h g r j).trans ?_
  rw [maxBand_at, maxCtx_at]

theorem pBand_at (sb : FVec Ideal S2x64x4x4x128x384 .f32) (mm : FVec Ideal S2x64x4x4x128x1 .f32) (b : Fin 2) (n : Fin 64) (h g : Fin 4) (r : Fin 128) (j : Fin 384) :
    pBand sb mm (ix6 b n h g r j) = Ideal.exp (sb (ix6 b n h g r j) - mm (ix6 b n h g r 0)) := by
  pointwise [pBand]

theorem pCtx_at (sc : FVec Ideal S2x64x4x4x128x256 .f32) (mm : FVec Ideal S2x64x4x4x128x1 .f32) (b : Fin 2) (n : Fin 64) (h g : Fin 4) (r : Fin 128) (j : Fin 256) :
    pCtx sc mm (ix6 b n h g r j) = Ideal.exp (sc (ix6 b n h g r j) - mm (ix6 b n h g r 0)) := by
  pointwise [pCtx]

/-- The sink's weight and two arrays of sums. -/
def sum3 (s mm : FVec Ideal S2x64x4x4x128x1 .f32) (x y : FVec Ideal S2x64x4x4x128 .f32) : FVec Ideal S2x64x4x4x128 .f32 :=
  addf (addf (shapeCast _ (Host.exp (subf s mm)) shapeCasts_S2x64x4x4x128x1_S2x64x4x4x128) x) y

theorem sum3_at (s mm : FVec Ideal S2x64x4x4x128x1 .f32) (x y : FVec Ideal S2x64x4x4x128 .f32) (b : Fin 2) (n : Fin 64) (h g : Fin 4) (r : Fin 128) :
    sum3 s mm x y (ix5 b n h g r) = Ideal.exp (s (ix6 b n h g r 0) - mm (ix6 b n h g r 0)) + x (ix5 b n h g r) + y (ix5 b n h g r) := by
  pointwise [sum3]

theorem den_at (s mm : FVec Ideal S2x64x4x4x128x1 .f32) (pb : FVec Ideal S2x64x4x4x128x384 .f32) (pc : FVec Ideal S2x64x4x4x128x256 .f32) (b : Fin 2) (n : Fin 64) (h g : Fin 4) (r : Fin 128) :
    den s mm pb pc (ix5 b n h g r) = Ideal.exp (s (ix6 b n h g r 0) - mm (ix6 b n h g r 0)) + (∑ j, pb (ix6 b n h g r j)) + ∑ j, pc (ix6 b n h g r j) := by
  refine (sum3_at s mm _ _ b n h g r).trans ?_
  rw [sumBand_at, sumCtx_at]

/-- The window's share of the weighted values. -/
def numBand (v : FVec Ideal S2x8192x4x128 .f32) (pb : FVec Ideal S2x64x4x4x128x384 .f32) : FVec Ideal S2x64x128x4x4x128 .f32 :=
  transpose S2x64x128x4x4x128 [0, 1, 5, 2, 4, 3] (Host.dotGeneral dot_S2x64x384x4x128_S2x64x4x4x128x384_S2x64x4x128x4x128_2_5_4_34_013_012 none (win v) pb) transposes_S2x64x4x128x4x128_S2x64x128x4x4x128_0_1_5_2_4_3

/-- The context's share of the weighted values. -/
def numCtx (vc : FVec Ideal S2x256x4x128 .f32) (pc : FVec Ideal S2x64x4x4x128x256 .f32) : FVec Ideal S2x64x128x4x4x128 .f32 :=
  transpose S2x64x128x4x4x128 [0, 3, 5, 1, 4, 2] (Host.dotGeneral dot_S2x256x4x128_S2x64x4x4x128x256_S2x4x128x64x4x128_1_5_3_134_02_02 none vc pc) transposes_S2x4x128x64x4x128_S2x64x128x4x4x128_0_3_5_1_4_2

/-- The two shares, added to a constant. -/
def add3 (x y : FVec Ideal S2x64x128x4x4x128 .f32) : FVec Ideal S2x64x128x4x4x128 .f32 :=
  addf (addf (broadcastInDim S2x64x128x4x4x128 ![] bcast_S_S2x64x128x4x4x128 (constant S_ .f32 0x00000000#32)) x) y

theorem numBand_at (v : FVec Ideal S2x8192x4x128 .f32) (pb : FVec Ideal S2x64x4x4x128x384 .f32) (b : Fin 2) (n : Fin 64) (h g : Fin 4) (r d : Fin 128) :
    numBand v pb (ix6 b n r h g d) = ∑ j, win v (ix5 b n j h d) * pb (ix6 b n h g r j) := by
  pointwise [numBand]

theorem numCtx_at (vc : FVec Ideal S2x256x4x128 .f32) (pc : FVec Ideal S2x64x4x4x128x256 .f32) (b : Fin 2) (n : Fin 64) (h g : Fin 4) (r d : Fin 128) :
    numCtx vc pc (ix6 b n r h g d) = ∑ j, vc (ix4 b j h d) * pc (ix6 b n h g r j) := by
  pointwise [numCtx]

theorem add3_at (x y : FVec Ideal S2x64x128x4x4x128 .f32) (b : Fin 2) (n : Fin 64) (h g : Fin 4) (r d : Fin 128) :
    add3 x y (ix6 b n r h g d) = x (ix6 b n r h g d) + y (ix6 b n r h g d) := by
  pointwise [add3]

theorem num_at (v : FVec Ideal S2x8192x4x128 .f32) (vc : FVec Ideal S2x256x4x128 .f32) (pb : FVec Ideal S2x64x4x4x128x384 .f32) (pc : FVec Ideal S2x64x4x4x128x256 .f32) (b : Fin 2) (n : Fin 64) (h g : Fin 4) (r d : Fin 128) :
    num v vc pb pc (ix6 b n r h g d) = (∑ j : Fin 384, padAt v b h (n.val * 128 + j.val) d * pb (ix6 b n h g r j)) + ∑ j, vc (ix4 b j h d) * pc (ix6 b n h g r j) := by
  refine (add3_at (numBand v pb) (numCtx vc pc) b n h g r d).trans ?_
  rw [numBand_at, numCtx_at]
  simp only [win_at]

theorem out_at (nm : FVec Ideal S2x64x128x4x4x128 .f32) (dn : FVec Ideal S2x64x4x4x128 .f32) (gate : FVec Ideal S2x8192x2048 .f32) (b : Fin 2) (r : Fin 8192) (l : Fin 2048) :
    out nm dn gate (ix3 b r l) = Ideal.div (nm (ix6 b ⟨r.val / 128, by omega⟩ ⟨r.val % 128, by omega⟩ ⟨l.val / 512, by omega⟩ ⟨l.val / 128 % 4, by omega⟩ ⟨l.val % 128, by omega⟩))
        (dn (ix5 b ⟨r.val / 128, by omega⟩ ⟨l.val / 512, by omega⟩ ⟨l.val / 128 % 4, by omega⟩ ⟨r.val % 128, by omega⟩)) * gate (ix3 b r l) := by
  pointwise [out]

/-- The reference's result at an index, before the gate: row `r` of block `n`, query head `g` of key head `h`. -/
def attAt (s : FVec Ideal S16 .f32) (q : FVec Ideal S2x8192x16x128 .f32) (k v : FVec Ideal S2x8192x4x128 .f32) (kc vc : FVec Ideal S2x256x4x128 .f32)
    (b : Fin 2) (n : Fin 64) (r : Fin 128) (h g : Fin 4) (d : Fin 128) : EReal :=
  let Q : Fin 128 → EReal := fun e => q (ix4 b ⟨n * 128 + r, by omega⟩ ⟨h * 4 + g, by omega⟩ e) * Ideal.ofBits .f32 0x3DB504F3#32
  let S : ℕ → EReal := score (padAt k b h) Q (n.val * 128 + r.val)
  let C : Fin 256 → EReal := cscore (fun j e => kc (ix4 b j h e)) Q
  let z : EReal := s (ix1 ⟨h.val * 4 + g.val, by omega⟩)
  let m : EReal := max (max z (Finset.univ.fold max ⊥ fun j : Fin 384 => S (n.val * 128 + j.val))) (Finset.univ.fold max ⊥ C)
  Ideal.div ((∑ j : Fin 384, padAt v b h (n.val * 128 + j.val) d * Ideal.exp (S (n.val * 128 + j.val) - m)) + ∑ j, vc (ix4 b j h d) * Ideal.exp (C j - m))
    ((Ideal.exp (z - m) + ∑ j : Fin 384, Ideal.exp (S (n.val * 128 + j.val) - m)) + ∑ j, Ideal.exp (C j - m))

theorem ref_at (s : FVec Ideal S16 .f32) (q : FVec Ideal S2x8192x16x128 .f32) (k v : FVec Ideal S2x8192x4x128 .f32) (kc vc : FVec Ideal S2x256x4x128 .f32) (gate : FVec Ideal S2x8192x2048 .f32)
    (b : Fin 2) (r : Fin 8192) (l : Fin 2048) :
    ref s q k v kc vc gate (ix3 b r l)
      = attAt s q k v kc vc b ⟨r.val / 128, by omega⟩ ⟨r.val % 128, by omega⟩ ⟨l.val / 512, by omega⟩ ⟨l.val / 128 % 4, by omega⟩ ⟨l.val % 128, by omega⟩ * gate (ix3 b r l) := by
  unfold ref
  rw [out_at, num_at, den_at]
  simp only [pBand_at, pCtx_at, mx_at, sBand_at, sCtx_at, sSink_at, qs_at]
  rfl

end Cert.ReferenceIdeal.Att

end
-- ==== Proof.Rows.lean ====
module

public import proofs.«01_k».proof.Proof.BlockRead
public import proofs.«01_k».proof.Proof.RefRead
public import Idealize.ShloMosaic.Lib.Pipeline.ValueKit

/-! What a grid point stores, of the arrays its blocks are cut from, over the extended reals. -/

@[expose] public section

set_option maxRecDepth 16384

noncomputable section

namespace Cert.KernelIdeal.Att

open Cert.KernelIdeal Cert.KernelIdeal.Gen Idealize.ShloMosaic Idealize.ShloMosaic.TcCoe Idealize.SL.Sem
open Cert.Softmax Cert.Words

/-- The first key of block `n`'s window. -/
def start (n : ℕ) : ℕ := min 7808 ((n - 1) * 128)

theorem blkW_eq (i : grid0.Coords) (b : Fin 32) : blkW i (BitVec.ofNat 32 b.val) = wd (((i 2).val * 32 + b.val : ℕ) : ℤ) := by
  unfold blkW
  show IntOp.addi (IntOp.muli _ (BitVec.ofNat 32 32)) _ = _
  simp only [wd_nat, wd_add, wd_mul]
  push_cast
  rfl

theorem startW_eq (n : ℕ) (hn : n < 64) : startW (wd (n : ℤ)) = wd (start n : ℤ) := by
  unfold startW
  show IntOp.minsi (BitVec.ofNat 32 7808) (IntOp.maxsi (BitVec.ofNat 32 0) (IntOp.muli (IntOp.subi (wd n) (BitVec.ofNat 32 1)) (BitVec.ofNat 32 128))) = _
  simp only [wd_nat, wd_add, wd_mul, wd_sub]
  simp only [Nat.cast_ofNat, Nat.cast_one, Nat.cast_zero]
  rw [wd_max (by omega) (by omega) (by omega) (by omega), wd_min (by omega) (by omega) (by omega) (by omega)]
  congr 1
  unfold start
  omega

theorem shiftW_eq (n : ℕ) (hn : n < 64) : shiftW (wd (n : ℤ)) = wd ((n : ℤ) * 128 - start n) := by
  unfold shiftW
  rw [startW_eq n hn]
  show IntOp.subi (IntOp.muli (wd n) (BitVec.ofNat 32 128)) _ = _
  simp only [wd_nat, wd_mul, wd_sub]
  rfl

theorem start_toNat (n : ℕ) : (wd (start n : ℤ)).toNat = start n := by
  have : start n ≤ 7808 := min_le_left _ _
  rw [wd_toNat (by omega) (by omega), Int.toNat_natCast]

theorem start_lt (n : ℕ) (j : Fin 384) : start n + j.val < 8192 := by
  have : start n ≤ 7808 := min_le_left _ _
  omega

theorem blk_lt (i : grid0.Coords) (b : Fin 32) : (i 2).val * 32 + b.val < 64 := by
  have : (i 2).val < 2 := (i 2).isLt
  omega

/-- The block of queries number `b` at grid point `i`. -/
def blkOf (i : grid0.Coords) (b : Fin 32) : Fin 64 := ⟨(i 2).val * 32 + b.val, blk_lt i b⟩

theorem off2_eq (i : grid0.Coords) (b : Fin 32) : k0_off2 i (BitVec.ofNat 32 b.val) = ![0, start (blkOf i b), 0] := by
  show ![0, (startW (blkW i (BitVec.ofNat 32 b.val))).toNat, 0] = _
  rw [blkW_eq, startW_eq _ (blk_lt i b), start_toNat]
  rfl

theorem off1_eq (i : grid0.Coords) (g : Fin 4) : k0_off1 i (BitVec.ofNat 32 g.val) = ![(i 1).val * 4 + g.val] := by
  have h : (i 1).val < 4 := (i 1).isLt
  show ![(IntOp.addi (IntOp.muli (BitVec.ofNat 32 (i 1).val) (BitVec.ofNat 32 4)) (BitVec.ofNat 32 g.val)).toNat] = _
  simp only [wd_nat, wd_add, wd_mul]
  rw [wd_toNat (by simp; omega) (by simp; omega)]
  congr 1

theorem ldS_at (i : grid0.Coords) (x : Vec Ideal S16 .f32) (g : Fin 4) (h : Fin 16) (hh : h.val = (i 1).val * 4 + g.val) :
    ldS (F := Ideal) i x g = x (ix1 h) := by
  refine congrArg x (funext fun a => Fin.ext ?_)
  fin_cases a
  show k0_off1 i (BitVec.ofNat 32 g.val) 0 + 0 * 1 = h.val
  rw [off1_eq, hh]
  rfl

theorem ldQ_at {e : EltTy} (x : Vec Ideal S1x4096x512 e) (b : Fin 32) (g : Fin 4) (r d : Fin 128) :
    ldQ (F := Ideal) x b g (ix3 0 r d) = x (ix3 0 ⟨128 * b.val + r.val, by omega⟩ ⟨128 * g.val + d.val, by omega⟩) := by
  refine congrArg x (funext fun a => Fin.ext ?_)
  fin_cases a
  · rfl
  · show 128 * b.val + 1 * r.val = 128 * b.val + r.val
    omega
  · show 128 * g.val + 1 * d.val = 128 * g.val + d.val
    omega

theorem ldK_at (i : grid0.Coords) (x : Vec Ideal S1x8192x128 .bf16) (b : Fin 32) (j : Fin 384) (d : Fin 128) :
    ldK (F := Ideal) i x b (ix3 0 j d) = x (ix3 0 ⟨start (blkOf i b) + j.val, start_lt _ j⟩ d) := by
  refine congrArg x (funext fun a => Fin.ext ?_)
  have e := off2_eq i b
  fin_cases a
  · show k0_off2 i (BitVec.ofNat 32 b.val) 0 + 1 * 0 = 0
    rw [e]
    rfl
  · show k0_off2 i (BitVec.ofNat 32 b.val) 1 + 1 * j.val = start (blkOf i b) + j.val
    rw [e, Nat.one_mul]
    rfl
  · show k0_off2 i (BitVec.ofNat 32 b.val) 2 + 1 * d.val = d.val
    rw [e, Nat.one_mul]
    exact Nat.zero_add _

theorem ldC_at (x : Vec Ideal S1x256x128 .bf16) (j : Fin 256) (d : Fin 128) : ldC (F := Ideal) x (ix3 0 j d) = x (ix3 0 j d) := by
  refine congrArg x (funext fun a => Fin.ext ?_)
  fin_cases a
  · rfl
  · show 0 + 1 * j.val = j.val
    omega
  · show 0 + 1 * d.val = d.val
    omega

theorem select_ofBool (P : Prop) [Decidable P] (a b : EReal) : Scalar.select (BitVec.ofBool (decide P)) a b = if P then a else b := by
  unfold Scalar.select
  by_cases h : P <;> simp [h]

/-- A block's masked scores are the scores, in the window of the block, by twos. -/
theorem masked_at (n : Fin 64) (K : ℕ → Fin 128 → EReal) (Q : Fin 128 → EReal) (sc : FVec Ideal S512x384 .f32) (g : Fin 4) (r : Fin 128) (j : Fin 384)
    (hsc : sc (ix2 ⟨g.val * 128 + r.val, by omega⟩ j) = (∑ e, K (start n + 128 + j.val) e * Q e) * lam) :
    masked (maskT (wd ((n.val : ℤ) * 128 - start n))) sc g r j = score K Q (n.val * 128 + r.val) (start n + 128 + j.val) * lam := by
  have hst : start n = min 7808 ((n.val - 1) * 128) := rfl
  have hn := n.isLt
  have hr := r.isLt
  have hj := j.isLt
  unfold masked
  rw [mask_at _ (by omega) (by omega), select_ofBool, hsc]
  unfold score
  by_cases hs : Sees (n.val * 128 + r.val) (start n + 128 + j.val)
  · rw [if_pos hs, if_pos]
    unfold Sees at hs
    omega
  · rw [if_neg hs, if_neg, bot_mul_lam]
    intro hc
    apply hs
    unfold Sees
    omega

theorem block_at (i : grid0.Coords) (x0 : Vec Ideal S16 .f32) (x1 : Vec Ideal S1x4096x512 .bf16) (x2 x3 : Vec Ideal S1x8192x128 .bf16) (x4 x5 : Vec Ideal S1x256x128 .bf16)
    (s : FVec Ideal S16 .f32) (q : FVec Ideal S2x8192x16x128 .f32) (k v : FVec Ideal S2x8192x4x128 .f32) (kc vc : FVec Ideal S2x256x4x128 .f32)
    (b : Fin 2) (h : Fin 4) (hh : h.val = (i 1).val)
    (hs : x0 = s)
    (hq : ∀ (w : Fin 32) (g : Fin 4) (r e : Fin 128), x1 (ix3 0 ⟨128 * w.val + r.val, by omega⟩ ⟨128 * g.val + e.val, by omega⟩)
      = q (ix4 b ⟨(blkOf i w).val * 128 + r.val, by omega⟩ ⟨h.val * 4 + g.val, by omega⟩ e) * Ideal.ofBits .f32 0x3DB504F3#32 * lam)
    (hk : ∀ (t : Fin 8192) (e : Fin 128), x2 (ix3 0 t e) = k (ix4 b t h e))
    (hv : ∀ (t : Fin 8192) (e : Fin 128), x3 (ix3 0 t e) = v (ix4 b t h e))
    (hkc : ∀ (t : Fin 256) (e : Fin 128), x4 (ix3 0 t e) = kc (ix4 b t h e))
    (hvc : ∀ (t : Fin 256) (e : Fin 128), x5 (ix3 0 t e) = vc (ix4 b t h e))
    (w : Fin 32) (g : Fin 4) (r d : Fin 128) :
    blkAt (F := Ideal) i (ldS i x0) (ldQ x1) (ldK i x2) (ldK i x3) (ldC x4) (ldC x5) w (ix2 ⟨g.val * 128 + r.val, by omega⟩ d)
      = Cert.ReferenceIdeal.Att.attAt s q k v kc vc b (blkOf i w) r h g d := by
  have hst : start (blkOf i w) = min 7808 (((blkOf i w).val - 1) * 128) := rfl
  have hn := (blkOf i w).isLt
  have hr := r.isLt
  let Q : Fin 128 → EReal := fun e => q (ix4 b ⟨(blkOf i w).val * 128 + r.val, by omega⟩ ⟨h.val * 4 + g.val, by omega⟩ e) * Ideal.ofBits .f32 0x3DB504F3#32
  have pk : ∀ (y : FVec Ideal S2x8192x4x128 .f32) (j : Fin 384) (e : Fin 128), y (ix4 b ⟨start (blkOf i w) + j.val, start_lt _ j⟩ h e)
      = Cert.ReferenceIdeal.Att.padAt y b h (start (blkOf i w) + 128 + j.val) e := fun y j e => by
    unfold Cert.ReferenceIdeal.Att.padAt
    have := start_lt (blkOf i w) j
    rw [dif_pos (by omega)]
    exact congrArg (fun t => y (ix4 b t h e)) (Fin.ext (by dsimp only; omega))
  have hQ : ∀ e, k0_pay8 (F := Ideal) (ldQ x1 w 0) (ldQ x1 w 1) (ldQ x1 w 2) (ldQ x1 w 3) (ix2 ⟨g.val * 128 + r.val, by omega⟩ e) = Q e * lam := fun e =>
    (q_at (ldQ x1 w) g r e).trans ((ldQ_at x1 w g r e).trans (hq w g r e))
  have swap : ∀ X : Fin 128 → EReal, (∑ e, Q e * lam * X e) = (∑ e, X e * Q e) * lam := fun X => by
    rw [← sum_mul_lam]
    exact Finset.sum_congr rfl fun e _ => by rw [mul_right_comm, mul_comm (Q e)]
  have hS : masked (maskT (shiftW (blkW i (BitVec.ofNat 32 w.val)))) (bandT (F := Ideal) (ldQ x1 w 0) (ldQ x1 w 1) (ldQ x1 w 2) (ldQ x1 w 3) (ldK i x2 w)) g r
      = fun j => score (Cert.ReferenceIdeal.Att.padAt k b h) Q ((blkOf i w).val * 128 + r.val) (start (blkOf i w) + 128 + j.val) * lam := funext fun j => by
    rw [blkW_eq, shiftW_eq _ (blk_lt i w)]
    refine masked_at (blkOf i w) _ Q _ g r j ?_
    rw [band_at]
    simp only [hQ, ldK_at, hk, pk]
    exact swap _
  have hC : ∀ j, ctxT (F := Ideal) (ldQ x1 w 0) (ldQ x1 w 1) (ldQ x1 w 2) (ldQ x1 w 3) (k0_pay5 (ldC x4)) (ix2 ⟨g.val * 128 + r.val, by omega⟩ j)
      = cscore (fun j e => kc (ix4 b j h e)) Q j * lam := fun j => by
    rw [ctx_at]
    simp only [hQ, kc_at, ldC_at, hkc]
    exact swap _
  have hz : ∀ l : Fin 128, k0_pay4 (F := Ideal) (ldS i x0 0) (ldS i x0 1) (ldS i x0 2) (ldS i x0 3) (ix2 ⟨g.val * 128 + r.val, by omega⟩ l)
      = s (ix1 ⟨h.val * 4 + g.val, by omega⟩) * lam := fun l => by
    rw [sink_at, ldS_at i x0 g ⟨h.val * 4 + g.val, by omega⟩ (congrArg (fun n => n * 4 + g.val) hh), hs]
  unfold blkAt blkT
  rw [score_at _ _ _ _ _ _ g r d _ _ hz rfl, hS]
  simp only [hC, ldK_at, hv, pk, ldC_at, hvc]
  refine (attend (n := 384) (c := 256) (s (ix1 ⟨h.val * 4 + g.val, by omega⟩))
    (score (Cert.ReferenceIdeal.Att.padAt k b h) Q ((blkOf i w).val * 128 + r.val)) (fun t => Cert.ReferenceIdeal.Att.padAt v b h t d)
    (cscore (fun j e => kc (ix4 b j h e)) Q) (fun j => vc (ix4 b j h d)) (start (blkOf i w) + 128) ((blkOf i w).val * 128) ?_ ?_ _ _ rfl rfl).trans rfl
  · intro t ht
    have hs : Sees ((blkOf i w).val * 128 + r.val) t := by
      by_contra hc
      exact ht (if_neg hc)
    unfold Sees at hs
    omega
  · intro t ht
    have hs : Sees ((blkOf i w).val * 128 + r.val) t := by
      by_contra hc
      exact ht (if_neg hc)
    unfold Sees at hs
    omega

end Cert.KernelIdeal.Att

end
-- ==== Proof.Result.lean ====
module

public import proofs.«01_k».proof.Proof.Rows
public import proofs.«01_k».proof.Proof.Gen.KernelIdeal.Frame

/-! The kernel's result array is the reference's attention. -/

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)
open Cert.Softmax

variable (m : (ℓ : Loc nD τ sig) → Buf (Elt Ideal) ℓ)

theorem idx : ∀ t : Fin cfg0.N, win0_0.index t = ![0]
    ∧ win0_1.index t = ![(grid0.coords t 0).val, (grid0.coords t 2).val, (grid0.coords t 1).val]
    ∧ win0_2.index t = ![(grid0.coords t 0).val, 0, (grid0.coords t 1).val]
    ∧ win0_3.index t = ![(grid0.coords t 0).val, 0, (grid0.coords t 1).val]
    ∧ win0_4.index t = ![(grid0.coords t 0).val, 0, (grid0.coords t 1).val]
    ∧ win0_5.index t = ![(grid0.coords t 0).val, 0, (grid0.coords t 1).val]
    ∧ win0_6.index t = ![(grid0.coords t 0).val, (grid0.coords t 2).val, (grid0.coords t 1).val]
    ∧ win0_7.index t = ![(grid0.coords t 0).val, (grid0.coords t 2).val, (grid0.coords t 1).val] :=
  (by decide +kernel : ∀ t : Fin grid0.N, _)

section

variable (c : Dev nD) (t : Fin cfg0.N)

/-- The batch that point `t` works on. -/
def batch : Fin 2 := grid0.coords t 0

/-- The group of heads that point `t` works on. -/
def group : Fin 4 := grid0.coords t 1

/-- The arguments: sink, queries, keys, values, the context's keys and values, the gate. -/
abbrev aS : FVec Ideal S16 .f32 := m ((c : Thread nD τ).loc main_arg0)

@[inherit_doc aS] abbrev aQ : FVec Ideal S2x8192x16x128 .f32 := m ((c : Thread nD τ).loc main_arg1)

@[inherit_doc aS] abbrev aK : FVec Ideal S2x8192x4x128 .f32 := m ((c : Thread nD τ).loc main_arg2)

@[inherit_doc aS] abbrev aV : FVec Ideal S2x8192x4x128 .f32 := m ((c : Thread nD τ).loc main_arg3)

@[inherit_doc aS] abbrev aKc : FVec Ideal S2x256x4x128 .f32 := m ((c : Thread nD τ).loc main_arg4)

@[inherit_doc aS] abbrev aVc : FVec Ideal S2x256x4x128 .f32 := m ((c : Thread nD τ).loc main_arg5)

@[inherit_doc aS] abbrev aG : FVec Ideal S2x8192x2048 .f32 := m ((c : Thread nD τ).loc main_arg6)

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee]
    rw [← EReal.coe_mul]
    norm_num
  rw [h, Ideal.log_coe, if_neg (by norm_num)]

/-- A column is a head and a place in it. -/
theorem head_col {a : ℕ} {α : Type} (f : Fin a → Fin 128 → α) (h : Fin a) (e : Fin 128) (p : (h.val * 128 + e.val) / 128 < a) (p' : (h.val * 128 + e.val) % 128 < 128) :
    f ⟨(h.val * 128 + e.val) / 128, p⟩ ⟨(h.val * 128 + e.val) % 128, p'⟩ = f h e :=
  congrArg₂ f (Fin.ext (by dsimp only; omega)) (Fin.ext (by dsimp only; omega))

theorem s_block : (iblk m c 0 t : Vec Ideal S16 .f32) = aS m c := by
  funext y
  blk_ext [iblk, V, idx t]

theorem q_entry (b : Fin 2) (n : Fin 8192) (h : Fin 16) (e : Fin 128) :
    (V m c main_v6 : FVec Ideal S2x8192x2048 .bf16) (ix3 b n ⟨h.val * 128 + e.val, by omega⟩)
      = aQ m c (ix4 b n h e) * Ideal.ofBits .f32 0x3DB504F3#32 * lam := by
  entry_read
  pointwise
  rw [log_two, div_log2]
  exact head_col (fun h e => aQ m c (ix4 b n h e) * Ideal.ofBits .f32 0x3DB504F3#32 * lam) h e _ _

theorem k_entry (b : Fin 2) (n : Fin 8192) (h : Fin 4) (e : Fin 128) :
    (V m c main_v8 : FVec Ideal S2x8192x512 .bf16) (ix3 b n ⟨h.val * 128 + e.val, by omega⟩) = aK m c (ix4 b n h e) := by
  entry_read
  pointwise
  exact head_col (fun h e => aK m c (ix4 b n h e)) h e _ _

theorem k_block (n : Fin 8192) (e : Fin 128) : (iblk m c 2 t : Vec Ideal S1x8192x128 .bf16) (ix3 0 n e)
    = aK m c (ix4 (batch t) n (group t) e) := by
  rw [← k_entry m c]
  blk_ext [iblk, idx t, batch, group]

theorem v_entry (b : Fin 2) (n : Fin 8192) (h : Fin 4) (e : Fin 128) :
    (V m c main_v10 : FVec Ideal S2x8192x512 .bf16) (ix3 b n ⟨h.val * 128 + e.val, by omega⟩) = aV m c (ix4 b n h e) := by
  entry_read
  pointwise
  exact head_col (fun h e => aV m c (ix4 b n h e)) h e _ _

theorem v_block (n : Fin 8192) (e : Fin 128) : (iblk m c 3 t : Vec Ideal S1x8192x128 .bf16) (ix3 0 n e)
    = aV m c (ix4 (batch t) n (group t) e) := by
  rw [← v_entry m c]
  blk_ext [iblk, idx t, batch, group]

theorem kc_entry (b : Fin 2) (n : Fin 256) (h : Fin 4) (e : Fin 128) :
    (V m c main_v12 : FVec Ideal S2x256x512 .bf16) (ix3 b n ⟨h.val * 128 + e.val, by omega⟩) = aKc m c (ix4 b n h e) := by
  entry_read
  pointwise
  exact head_col (fun h e => aKc m c (ix4 b n h e)) h e _ _

theorem kc_block (n : Fin 256) (e : Fin 128) : (iblk m c 4 t : Vec Ideal S1x256x128 .bf16) (ix3 0 n e)
    = aKc m c (ix4 (batch t) n (group t) e) := by
  rw [← kc_entry m c]
  blk_ext [iblk, idx t, batch, group]

theorem vc_entry (b : Fin 2) (n : Fin 256) (h : Fin 4) (e : Fin 128) :
    (V m c main_v14 : FVec Ideal S2x256x512 .bf16) (ix3 b n ⟨h.val * 128 + e.val, by omega⟩) = aVc m c (ix4 b n h e) := by
  entry_read
  pointwise
  exact head_col (fun h e => aVc m c (ix4 b n h e)) h e _ _

theorem vc_block (n : Fin 256) (e : Fin 128) : (iblk m c 5 t : Vec Ideal S1x256x128 .bf16) (ix3 0 n e)
    = aVc m c (ix4 (batch t) n (group t) e) := by
  rw [← vc_entry m c]
  blk_ext [iblk, idx t, batch, group]

theorem q_block (w : Fin 32) (g : Fin 4) (r e : Fin 128) : (iblk m c 1 t : Vec Ideal S1x4096x512 .bf16) (ix3 0 ⟨128 * w.val + r.val, by omega⟩ ⟨128 * g.val + e.val, by omega⟩)
    = aQ m c (ix4 (batch t) ⟨(blkOf (grid0.coords t) w).val * 128 + r.val, by omega⟩ ⟨(group t).val * 4 + g.val, by omega⟩ e) * Ideal.ofBits .f32 0x3DB504F3#32 * lam := by
  rw [← q_entry m c]
  blk_ext [iblk, idx t, batch, group, blkOf]

theorem g_block (w : Fin 32) (g : Fin 4) (r e : Fin 128) (R : Fin 8192) (C : Fin 2048) (hR : R.val = (blkOf (grid0.coords t) w).val * 128 + r.val) (hC : C.val = (group t).val * 512 + g.val * 128 + e.val) :
    (iblk m c 6 t : Vec Ideal S1x4096x512 .f32) (ix3 0 ⟨128 * w.val + r.val, by omega⟩ ⟨128 * g.val + e.val, by omega⟩) = aG m c (ix3 (batch t) R C) := by
  simp only [blkOf, group] at hR hC
  blk_ext [iblk, V, idx t, batch]

/-- What the store of query head `g` of block `w` holds. -/
theorem store_at (w : Fin 32) (g : Fin 4) (z : Fin 1) (r d : Fin 128) (R : Fin 8192) (C : Fin 2048) (hR : R.val = (blkOf (grid0.coords t) w).val * 128 + r.val) (hC : C.val = (group t).val * 512 + g.val * 128 + d.val) :
    finT (F := Ideal) g (slQ g) (blkAt (F := Ideal) (grid0.coords t) (ldS (grid0.coords t) (iblk m c 0 t)) (ldQ (iblk m c 1 t)) (ldK (grid0.coords t) (iblk m c 2 t)) (ldK (grid0.coords t) (iblk m c 3 t)) (ldC (iblk m c 4 t)) (ldC (iblk m c 5 t)) w)
        (ldQ (F := Ideal) (e := .f32) (iblk m c 6 t) w g) (ix3 z r d)
      = Cert.ReferenceIdeal.Att.ref (aS m c) (aQ m c) (aK m c) (aV m c) (aKc m c) (aVc m c) (aG m c) (ix3 (batch t) R C) := by
  rw [fin_at, block_at (grid0.coords t) _ _ _ _ _ _ (aS m c) (aQ m c) (aK m c) (aV m c) (aKc m c) (aVc m c) (batch t) (group t) rfl
    (s_block m c t) (q_block m c t) (k_block m c t) (v_block m c t) (kc_block m c t) (vc_block m c t), ldQ_at, g_block m c t w g r d R C hR hC, Cert.ReferenceIdeal.Att.ref_at]
  have e1 : (⟨R.val / 128, by omega⟩ : Fin 64) = blkOf (grid0.coords t) w := Fin.ext (by dsimp only; omega)
  have e2 : (⟨R.val % 128, by omega⟩ : Fin 128) = r := Fin.ext (by dsimp only; omega)
  have e3 : (⟨C.val / 512, by omega⟩ : Fin 4) = group t := Fin.ext (by dsimp only; omega)
  have e4 : (⟨C.val / 128 % 4, by omega⟩ : Fin 4) = g := Fin.ext (by dsimp only; omega)
  have e5 : (⟨C.val % 128, by omega⟩ : Fin 128) = d := Fin.ext (by dsimp only; omega)
  rw [e1, e2, e3, e4, e5]

theorem piece_at (w : Fin 32) (g : Fin 4) (x : S1x128x128.Idx) :
    finT (F := Ideal) g (slQ g) (blkAt (F := Ideal) (grid0.coords t) (ldS (grid0.coords t) (iblk m c 0 t)) (ldQ (iblk m c 1 t)) (ldK (grid0.coords t) (iblk m c 2 t)) (ldK (grid0.coords t) (iblk m c 3 t)) (ldC (iblk m c 4 t)) (ldC (iblk m c 5 t)) w)
        (ldQ (F := Ideal) (e := .f32) (iblk m c 6 t) w g) x
      = Cert.ReferenceIdeal.Att.ref (aS m c) (aQ m c) (aK m c) (aV m c) (aKc m c) (aVc m c) (aG m c)
          (((cfg0.win 7).blk t).view.emb ((Rect.unit (s := S1x4096x512) ![0, 128 * w.val, 128 * g.val] S1x128x128.size (inbQ w g)).emb x)) := by
  obtain ⟨z, r, d, rfl⟩ : ∃ (z : Fin 1) (r d : Fin 128), x = ix3 z r d := ⟨x 0, x 1, x 2, funext fun a => by fin_cases a <;> rfl⟩
  have hn := blk_lt (grid0.coords t) w
  have hg : (grid0.coords t 1).val < 4 := (grid0.coords t 1).isLt
  rw [store_at m c t w g z r d ⟨(blkOf (grid0.coords t) w).val * 128 + r.val, by omega⟩ ⟨(group t).val * 512 + g.val * 128 + d.val, by omega⟩ rfl rfl]
  refine congrArg _ ?_
  blk_ext [idx t, batch, group, blkOf]

theorem point (y : S1x4096x512.Idx) : outsAt0 m c t y
    = Cert.ReferenceIdeal.Att.ref (aS m c) (aQ m c) (aK m c) (aV m c) (aKc m c) (aVc m c) (aG m c) (((cfg0.win 7).blk t).view.emb y) := by
  unfold outsAt0 out0_A_7
  rw [View.read_writes_eq_canon _ _ _ (cover0_A_7 c _ _ _ _ _ _ _ _ _ _ _ _ _ _ _ _ _ _ _ _ _ _ _ _)]
  refine View.canon_apply_of_pieces (Val := Elt Ideal) (S := S1x4096x512) (e := .bf16) (fun y => Cert.ReferenceIdeal.Att.ref (aS m c) (aQ m c) (aK m c) (aV m c) (aKc m c) (aVc m c) (aG m c) (((cfg0.win 7).blk t).view.emb y)) _ ?_ y
    (cover0_A_7 c _ _ _ _ _ _ _ _ _ _ _ _ _ _ _ _ _ _ _ _ _ _ _ _ y)
  rw [run_pieces']
  intro p hp
  unfold pieces at hp
  rw [List.mem_ofFn] at hp
  obtain ⟨n, rfl⟩ := hp
  exact piece_at m c t _ _

theorem final : (dats m 0 c).arrAt 7 cfg0.N
    = Cert.ReferenceIdeal.Att.ref (aS m c) (aQ m c) (aK m c) (aV m c) (aKc m c) (aVc m c) (aG m c) := by
  refine (dats m 0 c).arrAt_eq_of_covers 7 _ (by decide +kernel) fun t hf y => ?_
  blk_simp
  rw [after0_7]
  exact point m c t y

end

end Cert.KernelIdeal.Att

end
-- ==== Proof.OutProj.lean ====
module

public import proofs.«01_k».proof.Proof.Gen.OutKernelIdeal.Frame
public import proofs.«01_k».proof.Proof.Gen.OutReferenceIdeal
public import Idealize.ShloMosaic.Lib.Pipeline.ValueKit

/-! The output projection with its gate and residual: what the kernel's array holds. -/

@[expose] public section

set_option maxRecDepth 16384

noncomputable section

namespace Cert.OutKernelIdeal.Proj

open Cert.OutKernelIdeal Cert.OutKernelIdeal.Gen Idealize.ShloMosaic Idealize.ShloMosaic.TcCoe Idealize.SL.Sem
open Idealize.ShloMosaic.Pipeline (Dat)

variable (m : (ℓ : Loc nD τ sig) → Buf (Elt Ideal) ℓ)

/-- The residual stream plus the gate times the product of the attention's output and the weights. -/
abbrev ref (x : FVec Ideal S2x8192x1024 .f32) (g : FVec Ideal S2x1x1024 .f32) (o : FVec Ideal S2x8192x2048 .bf16) (w : FVec Ideal S2048x1024 .f32) : FVec Ideal S2x8192x1024 .f32 :=
  addf x (mulf (broadcastInDim Cert.OutReferenceIdeal.S2x8192x1024 ![0, 1, 2] Cert.OutReferenceIdeal.Gen.bcast_S2x1x1024_S2x8192x1024_0_1_2 g)
    (Host.dotGeneral Cert.OutReferenceIdeal.dot_S2x8192x2048_S2048x1024_S2x8192x1024_2_0_01_1_n_n none (extf .f32 o Cert.OutReferenceIdeal.Gen.bitsLt_bf16_f32) w))

theorem idx : ∀ t : Fin cfg0.N, win0_0.index t = ![(grid0.coords t 0).val, (grid0.coords t 1).val, 0]
    ∧ win0_1.index t = ![(grid0.coords t 0).val, 0, 0]
    ∧ win0_2.index t = ![(grid0.coords t 0).val, (grid0.coords t 1).val, 0]
    ∧ win0_3.index t = ![0, 0]
    ∧ win0_4.index t = ![(grid0.coords t 0).val, (grid0.coords t 1).val, 0] :=
  (by decide +kernel : ∀ t : Fin grid0.N, _)

/-- What a grid point stores at an index of its block is the reference at the index of the array. -/
theorem point (c : Dev nD) (t : Fin cfg0.N) (y : S1x1024x1024.Idx) : k0_pay1 (iblk m c 2 t) (iblk m c 3 t) (iblk m c 0 t) (iblk m c 1 t) y
    = ref (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, ref]
  blk_point [iblk, V, idx t]

/-- The array after the run. -/
theorem final (c : Dev nD) : (dats m 0 c).arrAt 4 cfg0.N
    = ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]; frame_out
  exact point m c t y

end Cert.OutKernelIdeal.Proj

end
-- ==== Proof.EvenRef.lean ====
module

public import proofs.«01_k».proof.Proof.Gen.EvenReferenceIdeal
public import Idealize.ShloMosaic.Lib.Pipeline.ValueKit

/-! The even layer's input projection as the reference computes it: a modulated norm, one product, and the product's columns. -/

@[expose] public section

set_option maxRecDepth 16384

noncomputable section

namespace Cert.EvenReferenceIdeal.Proj

open Cert.EvenReferenceIdeal Cert.EvenReferenceIdeal.Gen Idealize.ShloMosaic Idealize.ShloMosaic.TcCoe Idealize.SL.Sem

/-- The tokens, normed, times the gain, modulated by scale and shift. -/
def normed (x : FVec Ideal S2x8192x1024 .f32) (sh sc : FVec Ideal S2x1x1024 .f32) (g : FVec Ideal S1024 .f32) : FVec Ideal S2x8192x1024 .f32 :=
  addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g)))
    (broadcastInDim S2x8192x1024 ![0, 1, 2] bcast_S2x1x1024_S2x8192x1024_0_1_2 (addf (broadcastInDim S2x1x1024 ![] bcast_S_S2x1x1024 (constant S_ .f32 0x3F800000#32)) sc)))
    (broadcastInDim S2x8192x1024 ![0, 1, 2] bcast_S2x1x1024_S2x8192x1024_0_1_2 sh)

/-- All columns of the product. -/
def prod (x : FVec Ideal S2x8192x1024 .f32) (sh sc : FVec Ideal S2x1x1024 .f32) (g : FVec Ideal S1024 .f32) (w : FVec Ideal S1024x5696 .f32) : FVec Ideal S2x8192x5696 .f32 :=
  Host.dotGeneral dot_S2x8192x1024_S1024x5696_S2x8192x5696_2_0_01_1_n_n none (normed x sh sc g) w

variable (x : FVec Ideal S2x8192x1024 .f32) (sh sc : FVec Ideal S2x1x1024 .f32) (g : FVec Ideal S1024 .f32) (w : FVec Ideal S1024x5696 .f32)

/-- The seven results: z, the convolution's input, q, k, v, the gate, and the time steps beside the low-rank decays. -/
def res0 : FVec Ideal S2x8192x1024 .bf16 := truncf .bf16 (extractStridedSlice S2x8192x1024 ![0, 0, 0] (prod x sh sc g w) slices_S2x8192x5696_S2x8192x1024_0_0_0) bitsLt_bf16_f32

@[inherit_doc res0] def res1 : FVec Ideal S2x8192x1536 .bf16 := truncf .bf16 (extractStridedSlice S2x8192x1536 ![0, 0, 1024] (prod x sh sc g w) slices_S2x8192x5696_S2x8192x1536_0_0_1024) bitsLt_bf16_f32

@[inherit_doc res0] def res2 : FVec Ideal S2x8192x512 .bf16 := truncf .bf16 (extractStridedSlice S2x8192x512 ![0, 0, 2592] (prod x sh sc g w) slices_S2x8192x5696_S2x8192x512_0_0_2592) bitsLt_bf16_f32

@[inherit_doc res0] def res3 : FVec Ideal S2x8192x512 .bf16 := truncf .bf16 (extractStridedSlice S2x8192x512 ![0, 0, 3104] (prod x sh sc g w) slices_S2x8192x5696_S2x8192x512_0_0_3104) bitsLt_bf16_f32

@[inherit_doc res0] def res4 : FVec Ideal S2x8192x1024 .bf16 := truncf .bf16 (extractStridedSlice S2x8192x1024 ![0, 0, 3616] (prod x sh sc g w) slices_S2x8192x5696_S2x8192x1024_0_0_3616) bitsLt_bf16_f32

@[inherit_doc res0] def res5 : FVec Ideal S2x8192x1024 .bf16 := truncf .bf16 (extractStridedSlice S2x8192x1024 ![0, 0, 4640] (prod x sh sc g w) slices_S2x8192x5696_S2x8192x1024_0_0_4640) bitsLt_bf16_f32

@[inherit_doc res0] def res6 : FVec Ideal S2x8192x128 .f32 :=
  concatenate S2x8192x128 2 [⟨S2x8192x32, extractStridedSlice S2x8192x32 ![0, 0, 2560] (prod x sh sc g w) slices_S2x8192x5696_S2x8192x32_0_0_2560⟩, ⟨S2x8192x32, extractStridedSlice S2x8192x32 ![0, 0, 5664] (prod x sh sc g w) slices_S2x8192x5696_S2x8192x32_0_0_5664⟩, ⟨S2x8192x64, broadcastInDim S2x8192x64 ![] bcast_S_S2x8192x64 (constant S_ .f32 0x00000000#32)⟩] concatenates_S2x8192x32_S2x8192x32_S2x8192x64_S2x8192x128_d2

variable (b : Fin 2) (n : Fin 8192)

theorem prod_at (j : Fin 5696) : prod x sh sc g w (ix3 b n j) = ∑ k : Fin 1024, normed x sh sc g (ix3 b n k) * w (ix2 k j) := by
  pointwise [prod]

theorem res0_at (j : Fin 1024) : res0 x sh sc g w (ix3 b n j) = prod x sh sc g w (ix3 b n ⟨j.val, by omega⟩) := by
  pointwise [res0]

theorem res1_at (j : Fin 1536) : res1 x sh sc g w (ix3 b n j) = prod x sh sc g w (ix3 b n ⟨1024 + j.val, by omega⟩) := by
  pointwise [res1]

theorem res2_at (j : Fin 512) : res2 x sh sc g w (ix3 b n j) = prod x sh sc g w (ix3 b n ⟨2592 + j.val, by omega⟩) := by
  pointwise [res2]

theorem res3_at (j : Fin 512) : res3 x sh sc g w (ix3 b n j) = prod x sh sc g w (ix3 b n ⟨3104 + j.val, by omega⟩) := by
  pointwise [res3]

theorem res4_at (j : Fin 1024) : res4 x sh sc g w (ix3 b n j) = prod x sh sc g w (ix3 b n ⟨3616 + j.val, by omega⟩) := by
  pointwise [res4]

theorem res5_at (j : Fin 1024) : res5 x sh sc g w (ix3 b n j) = prod x sh sc g w (ix3 b n ⟨4640 + j.val, by omega⟩) := by
  pointwise [res5]

/-- Where a column of the last result comes from: the time steps, the decays, or nothing. -/
theorem res6_at (j : Fin 128) : res6 x sh sc g w (ix3 b n j)
    = if h : j.val < 32 then prod x sh sc g w (ix3 b n ⟨2560 + j.val, by omega⟩)
      else if h' : j.val - 32 < 32 then prod x sh sc g w (ix3 b n ⟨5664 + (j.val - 32), by omega⟩) else 0 := by
  pointwise [res6]

end Cert.EvenReferenceIdeal.Proj

end
-- ==== Proof.EvenProj.lean ====
module

public import proofs.«01_k».proof.Proof.EvenRef
public import proofs.«01_k».proof.Proof.Gen.EvenKernelIdeal.Frame

/-! The even layer's input projection: what the kernel's seven arrays hold. -/

@[expose] public section

set_option maxRecDepth 16384

noncomputable section

namespace Cert.EvenKernelIdeal.Proj

open Cert.EvenKernelIdeal Cert.EvenKernelIdeal.Gen Idealize.ShloMosaic Idealize.ShloMosaic.TcCoe Idealize.SL.Sem
open Idealize.ShloMosaic.Pipeline (Dat)
open Cert.EvenReferenceIdeal.Proj

variable (m : (ℓ : Loc nD τ sig) → Buf (Elt Ideal) ℓ)

theorem idx : ∀ t : Fin cfg0.N, win0_0.index t = ![(grid0.coords t 0).val, (grid0.coords t 1).val, 0]
    ∧ win0_1.index t = ![0, 0]
    ∧ win0_2.index t = ![(grid0.coords t 0).val, 0, 0]
    ∧ win0_3.index t = ![(grid0.coords t 0).val, 0, 0]
    ∧ win0_4.index t = ![0, 0]
    ∧ win0_5.index t = ![(grid0.coords t 0).val, (grid0.coords t 1).val, 0]
    ∧ win0_6.index t = ![(grid0.coords t 0).val, (grid0.coords t 1).val, 0]
    ∧ win0_7.index t = ![(grid0.coords t 0).val, (grid0.coords t 1).val, 0]
    ∧ win0_8.index t = ![(grid0.coords t 0).val, (grid0.coords t 1).val, 0]
    ∧ win0_9.index t = ![(grid0.coords t 0).val, (grid0.coords t 1).val, 0]
    ∧ win0_10.index t = ![(grid0.coords t 0).val, (grid0.coords t 1).val, 0]
    ∧ win0_11.index t = ![(grid0.coords t 0).val, (grid0.coords t 1).val, 0] :=
  (by decide +kernel : ∀ t : Fin grid0.N, _)

theorem inbX (p : Fin 4) (a : Fin 3) : (![0, 128 * p.val, 0] : Fin 3 → ℕ) a + S1x128x1024.size a ≤ S1x512x1024.size a := by
  have := p.isLt
  fin_cases a
  · show 0 + 1 ≤ 1; omega
  · show 128 * p.val + 128 ≤ 512; omega
  · show 0 + 1024 ≤ 1024; omega

/-- The normed rows of part `p` of a block. -/
def rowsT (x0 : Vec Ideal S1x512x1024 .f32) (x1 : Vec Ideal S1x1024 .f32) (x2 x3 : Vec Ideal S1x1x1024 .f32) (p : Fin 4) : FVec Ideal S128x1024 .bf16 :=
  k0_pay2 (View.ld x0 (Rect.unit (s := S1x512x1024) ![0, 128 * p.val, 0] S1x128x1024.size (inbX p))) (View.ld x1 r0_1) (View.ld x2 r0_2) (View.ld x3 r0_2)

variable (c : Dev nD) (t : Fin cfg0.N)

/-- The batch that point `t` works on. -/
def batch : Fin 2 := grid0.coords t 0

/-- The block of rows that point `t` works on. -/
def tile : Fin 16 := grid0.coords t 1

/-- The arguments: the tokens, shift, scale, the norm's gain, the weights. -/
abbrev aX : FVec Ideal S2x8192x1024 .f32 := m ((c : Thread nD τ).loc main_arg0)

@[inherit_doc aX] abbrev aSh : FVec Ideal S2x1x1024 .f32 := m ((c : Thread nD τ).loc main_arg1)

@[inherit_doc aX] abbrev aSc : FVec Ideal S2x1x1024 .f32 := m ((c : Thread nD τ).loc main_arg2)

@[inherit_doc aX] abbrev aG : FVec Ideal S1024 .f32 := m ((c : Thread nD τ).loc main_arg3)

@[inherit_doc aX] abbrev aW : FVec Ideal S1024x5696 .f32 := m ((c : Thread nD τ).loc main_arg4)

/-- The row of the array at row `r` of part `p` of point `t`'s block. -/
def row (p : Fin 4) (r : Fin 128) : Fin 8192 := ⟨512 * (tile t).val + 128 * p.val + r.val, by omega⟩

theorem rows_at (p : Fin 4) (r : Fin 128) (k : Fin 1024) :
    rowsT (iblk m c 0 t) (iblk m c 1 t) (iblk m c 2 t) (iblk m c 3 t) p (ix2 r k) = normed (aX m c) (aSh m c) (aSc m c) (aG m c) (ix3 (batch t) (row t p r) k) := by
  pointwise [rowsT, k0_pay2, normed]
  blk_point [iblk, V, idx t, batch, row, tile]

/-- The packed weights: the wide columns first, then the time steps, the decays and zeros. -/
def packed (w : FVec Ideal S1024x5696 .f32) : FVec Ideal S1024x5760 .bf16 :=
  truncf .bf16 (concatenate S1024x5760 1 [⟨S1024x2560, extractStridedSlice S1024x2560 ![0, 0] w slices_S1024x5696_S1024x2560_0_0⟩, ⟨S1024x3072, extractStridedSlice S1024x3072 ![0, 2592] w slices_S1024x5696_S1024x3072_0_2592⟩,
    ⟨S1024x128, concatenate S1024x128 1 [⟨S1024x32, extractStridedSlice S1024x32 ![0, 2560] w slices_S1024x5696_S1024x32_0_2560⟩, ⟨S1024x32, extractStridedSlice S1024x32 ![0, 5664] w slices_S1024x5696_S1024x32_0_5664⟩, ⟨S1024x64, broadcastInDim S1024x64 ![] bcast_S_S1024x64 (constant S_ .f32 0x00000000#32)⟩] concatenates_S1024x32_S1024x32_S1024x64_S1024x128_d1⟩]
    concatenates_S1024x2560_S1024x3072_S1024x128_S1024x5760_d1) bitsLt_bf16_f32

theorem packed_entry : (V m c main_v7 : FVec Ideal S1024x5760 .bf16) = packed (aW m c) := by
  unfold V
  after_results_simp <;> (try dsimp only [Matrix.cons_val]) <;> (try after_results_simp) <;> rfl

theorem packed_at (w : FVec Ideal S1024x5696 .f32) (k : Fin 1024) (j : Fin 5760) : packed w (ix2 k j)
    = if h : j.val < 2560 then w (ix2 k ⟨j.val, by omega⟩)
      else if h : j.val - 2560 < 3072 then w (ix2 k ⟨2592 + (j.val - 2560), by omega⟩)
      else if h_1 : j.val - 2560 - 3072 < 32 then w (ix2 k ⟨2560 + (j.val - 2560 - 3072), by omega⟩)
      else if h_2 : j.val - 2560 - 3072 - 32 < 32 then w (ix2 k ⟨5664 + (j.val - 2560 - 3072 - 32), by omega⟩) else 0 := by
  pointwise [packed]

/-- Where a wide column of the packed weights comes from. -/
theorem packed_wide (w : FVec Ideal S1024x5696 .f32) (k : Fin 1024) (j : Fin 5760) (e : Fin 5696)
    (h : j.val < 2560 ∧ e.val = j.val ∨ 2560 ≤ j.val ∧ j.val < 5632 ∧ e.val = j.val + 32) : packed w (ix2 k j) = w (ix2 k e) := by
  rw [packed_at]
  rcases h with ⟨h, he⟩ | ⟨h, h', he⟩
  · rw [dif_pos h]
    exact congrArg (fun e => w (ix2 k e)) (Fin.ext he.symm)
  · rw [dif_neg (by omega), dif_pos (by omega)]
    exact congrArg (fun e => w (ix2 k e)) (Fin.ext (by dsimp only <;> omega))

theorem inbW (o : ℕ) (h : o + 512 ≤ 5760) (a : Fin 2) : (![0, o] : Fin 2 → ℕ) a + S1024x512.size a ≤ S1024x5760.size a := by
  fin_cases a
  · show 0 + 1024 ≤ 1024; omega
  · show o + 512 ≤ 5760; exact h

/-- The product of the rows of part `p` and 512 columns from `o` on. -/
def chunkT (x0 : Vec Ideal S1x512x1024 .f32) (x1 : Vec Ideal S1x1024 .f32) (x2 x3 : Vec Ideal S1x1x1024 .f32) (x4 : Vec Ideal S1024x5760 .bf16) (p : Fin 4) (o : ℕ) (h : o + 512 ≤ 5760) : FVec Ideal S1x128x512 .bf16 :=
  k0_pay4 (rowsT x0 x1 x2 x3 p) (View.ld x4 (Rect.unit (s := S1024x5760) ![0, o] S1024x512.size (inbW o h)))

theorem pay4_at (h : FVec Ideal S128x1024 .bf16) (w : Vec Ideal S1024x512 .bf16) (z : Fin 1) (r : Fin 128) (d : Fin 512) :
    k0_pay4 h w (ix3 z r d) = ∑ k : Fin 1024, h (ix2 r k) * (w : FVec Ideal S1024x512 .bf16) (ix2 k d) := by
  pointwise [k0_pay4]

theorem w_whole (k : Fin 1024) (j : Fin 5760) : (iblk m c 4 t : FVec Ideal S1024x5760 .bf16) (ix2 k j) = packed (aW m c) (ix2 k j) := by
  rw [← packed_entry]
  show V m c main_v7 (((cfg0.win 4).blk t).view.emb (ix2 k j)) = V m c main_v7 (ix2 k j)
  refine congrArg (V m c main_v7) ?_
  blk_ext [idx t]

theorem w_block (o : ℕ) (h : o + 512 ≤ 5760) (k : Fin 1024) (d : Fin 512) :
    (View.ld (Val := Elt Ideal) (iblk m c 4 t) (Rect.unit (s := S1024x5760) ![0, o] S1024x512.size (inbW o h)) : FVec Ideal S1024x512 .bf16) (ix2 k d)
      = packed (aW m c) (ix2 k ⟨o + d.val, by omega⟩) := by
  rw [← w_whole m c t]
  refine congrArg (iblk m c 4 t) (funext fun a => Fin.ext ?_)
  fin_cases a
  · show 0 + 1 * k.val = k.val; omega
  · show o + 1 * d.val = o + d.val; omega

theorem chunk_at (p : Fin 4) (o : ℕ) (ho : o + 512 ≤ 5760) (z : Fin 1) (r : Fin 128) (d : Fin 512) (e : Fin 5696)
    (h : o + d.val < 2560 ∧ e.val = o + d.val ∨ 2560 ≤ o + d.val ∧ o + d.val < 5632 ∧ e.val = o + d.val + 32) :
    chunkT (iblk m c 0 t) (iblk m c 1 t) (iblk m c 2 t) (iblk m c 3 t) (iblk m c 4 t) p o ho (ix3 z r d)
      = prod (aX m c) (aSh m c) (aSc m c) (aG m c) (aW m c) (ix3 (batch t) (row t p r) e) := by
  rw [chunkT, pay4_at, prod_at]
  refine Finset.sum_congr rfl fun k _ => ?_
  rw [rows_at, w_block m c t o ho, packed_wide _ k _ e h]

section

variable (x0 : Vec Ideal S1x512x1024 .f32) (x1 : Vec Ideal S1x1024 .f32) (x2 x3 : Vec Ideal S1x1x1024 .f32) (x4 : Vec Ideal S1024x5760 .bf16)

theorem inb2 (p : Fin 4) (s : Fin 2) (a : Fin 3) : (![0, 128 * p.val, 512 * s.val] : Fin 3 → ℕ) a + S1x128x512.size a ≤ S1x512x1024.size a := by
  have := p.isLt
  have := s.isLt
  fin_cases a
  · show 0 + 1 ≤ 1; omega
  · show 128 * p.val + 128 ≤ 512; omega
  · show 512 * s.val + 512 ≤ 1024; omega

theorem inb3 (p : Fin 4) (s : Fin 3) (a : Fin 3) : (![0, 128 * p.val, 512 * s.val] : Fin 3 → ℕ) a + S1x128x512.size a ≤ S1x512x1536.size a := by
  have := p.isLt
  have := s.isLt
  fin_cases a
  · show 0 + 1 ≤ 1; omega
  · show 128 * p.val + 128 ≤ 512; omega
  · show 512 * s.val + 512 ≤ 1536; omega

theorem inb1 (p : Fin 4) (a : Fin 3) : (![0, 128 * p.val, 0] : Fin 3 → ℕ) a + S1x128x512.size a ≤ S1x512x512.size a := by
  have := p.isLt
  fin_cases a
  · show 0 + 1 ≤ 1; omega
  · show 128 * p.val + 128 ≤ 512; omega
  · show 0 + 512 ≤ 512; omega

/-- The stores of a window of 1024 columns that start at column `o`, the last first. -/
def pieces2 (o : ℕ) (ho : o + 1024 ≤ 5760) : List (View.Piece (Elt Ideal) S1x512x1024 .bf16) :=
  List.ofFn fun q : Fin 8 => ⟨Rect.unit (s := S1x512x1024) ![0, 128 * (3 - q.val / 2), 512 * (1 - q.val % 2)] S1x128x512.size (inb2 ⟨3 - q.val / 2, by omega⟩ ⟨1 - q.val % 2, by omega⟩),
    chunkT x0 x1 x2 x3 x4 ⟨3 - q.val / 2, by omega⟩ (o + 512 * (1 - q.val % 2)) (by omega)⟩

@[inherit_doc pieces2] def pieces3 (o : ℕ) (ho : o + 1536 ≤ 5760) : List (View.Piece (Elt Ideal) S1x512x1536 .bf16) :=
  List.ofFn fun q : Fin 12 => ⟨Rect.unit (s := S1x512x1536) ![0, 128 * (3 - q.val / 3), 512 * (2 - q.val % 3)] S1x128x512.size (inb3 ⟨3 - q.val / 3, by omega⟩ ⟨2 - q.val % 3, by omega⟩),
    chunkT x0 x1 x2 x3 x4 ⟨3 - q.val / 3, by omega⟩ (o + 512 * (2 - q.val % 3)) (by omega)⟩

@[inherit_doc pieces2] def pieces1 (o : ℕ) (ho : o + 512 ≤ 5760) : List (View.Piece (Elt Ideal) S1x512x512 .bf16) :=
  List.ofFn fun q : Fin 4 => ⟨Rect.unit (s := S1x512x512) ![0, 128 * (3 - q.val), 0] S1x128x512.size (inb1 ⟨3 - q.val, by omega⟩),
    chunkT x0 x1 x2 x3 x4 ⟨3 - q.val, by omega⟩ o ho⟩

theorem out5 : out0_5 x0 x1 x2 x3 x4 = View.canon (pieces2 x0 x1 x2 x3 x4 0 (by omega)) := by
  sl_kernel_rfl

theorem out6 : out0_6 x0 x1 x2 x3 x4 = View.canon (pieces3 x0 x1 x2 x3 x4 1024 (by omega)) := by
  sl_kernel_rfl

theorem out7 : out0_7 x0 x1 x2 x3 x4 = View.canon (pieces1 x0 x1 x2 x3 x4 2560 (by omega)) := by
  sl_kernel_rfl

theorem out8 : out0_8 x0 x1 x2 x3 x4 = View.canon (pieces1 x0 x1 x2 x3 x4 3072 (by omega)) := by
  sl_kernel_rfl

theorem out9 : out0_9 x0 x1 x2 x3 x4 = View.canon (pieces2 x0 x1 x2 x3 x4 3584 (by omega)) := by
  sl_kernel_rfl

theorem out10 : out0_10 x0 x1 x2 x3 x4 = View.canon (pieces2 x0 x1 x2 x3 x4 4608 (by omega)) := by
  sl_kernel_rfl

end

/-- Row `r` of the tile of step `t`. -/
def line (t : Fin cfg0.N) (r : Fin 512) : Fin 8192 := ⟨512 * (tile t).val + r.val, by have := (tile t).isLt; omega⟩

theorem line_eq (t : Fin cfg0.N) (r : Fin 512) : (grid0.coords t 1).val * 512 + r.val = (line t r).val := by
  show (tile t).val * 512 + r.val = 512 * (tile t).val + r.val
  omega

/-- Column `j` of a run of `n` columns that starts at column `e`. -/
def shift (e n : ℕ) (h : e + n ≤ 5696) (j : Fin n) : Fin 5696 := ⟨e + j.val, by omega⟩

/-- A window of 1024 columns holds the product at the columns they come from. -/
theorem pieces2_apply (o e₀ : ℕ) (ho : o + 1024 ≤ 5760) (he : e₀ + 1024 ≤ 5696) (h : o + 1024 ≤ 2560 ∧ e₀ = o ∨ 2560 ≤ o ∧ o + 1024 ≤ 5632 ∧ e₀ = o + 32) (y : S1x512x1024.Idx) :
    View.canon (pieces2 (iblk m c 0 t) (iblk m c 1 t) (iblk m c 2 t) (iblk m c 3 t) (iblk m c 4 t) o ho) y
      = prod (aX m c) (aSh m c) (aSc m c) (aG m c) (aW m c) (ix3 (batch t) (line t (y 1)) (shift e₀ 1024 he (y 2))) := by
  refine View.canon_apply_of_pieces (Val := Elt Ideal) (S := S1x512x1024) (e := .bf16)
    (fun y => prod (aX m c) (aSh m c) (aSc m c) (aG m c) (aW m c) (ix3 (batch t) (line t (y 1)) (shift e₀ 1024 he (y 2))))
    _ (fun p hp => ?_) y (View.cover_of_tiled (pieces2 (iblk m c 0 t) (iblk m c 1 t) (iblk m c 2 t) (iblk m c 3 t) (iblk m c 4 t) o ho) S1x128x512.size (by rfl) y)
  obtain ⟨q, rfl⟩ := List.mem_ofFn.1 hp
  intro x
  obtain ⟨z, r, d, rfl⟩ : ∃ (z : Fin 1) (r : Fin 128) (d : Fin 512), x = ix3 z r d := ⟨_, _, _, eq_ix3 (n0 := 1) (n1 := 128) (n2 := 512) x⟩
  refine (chunk_at m c t ⟨3 - q.val / 2, by omega⟩ (o + 512 * (1 - q.val % 2)) (by omega) z r d ⟨e₀ + (512 * (1 - q.val % 2) + d.val), by omega⟩ (by dsimp only; omega)).trans ?_
  exact congrArg₂ (fun a b => prod (aX m c) (aSh m c) (aSc m c) (aG m c) (aW m c) (ix3 (batch t) a b))
    (Fin.ext (show 512 * (tile t).val + 128 * (3 - q.val / 2) + r.val = 512 * (tile t).val + (128 * (3 - q.val / 2) + 1 * r.val) by omega))
    (Fin.ext (show e₀ + (512 * (1 - q.val % 2) + d.val) = e₀ + (512 * (1 - q.val % 2) + 1 * d.val) by omega))

@[inherit_doc pieces2_apply] theorem pieces3_apply (o e₀ : ℕ) (ho : o + 1536 ≤ 5760) (he : e₀ + 1536 ≤ 5696) (h : o + 1536 ≤ 2560 ∧ e₀ = o ∨ 2560 ≤ o ∧ o + 1536 ≤ 5632 ∧ e₀ = o + 32) (y : S1x512x1536.Idx) :
    View.canon (pieces3 (iblk m c 0 t) (iblk m c 1 t) (iblk m c 2 t) (iblk m c 3 t) (iblk m c 4 t) o ho) y
      = prod (aX m c) (aSh m c) (aSc m c) (aG m c) (aW m c) (ix3 (batch t) (line t (y 1)) (shift e₀ 1536 he (y 2))) := by
  refine View.canon_apply_of_pieces (Val := Elt Ideal) (S := S1x512x1536) (e := .bf16)
    (fun y => prod (aX m c) (aSh m c) (aSc m c) (aG m c) (aW m c) (ix3 (batch t) (line t (y 1)) (shift e₀ 1536 he (y 2))))
    _ (fun p hp => ?_) y (View.cover_of_tiled (pieces3 (iblk m c 0 t) (iblk m c 1 t) (iblk m c 2 t) (iblk m c 3 t) (iblk m c 4 t) o ho) S1x128x512.size (by rfl) y)
  obtain ⟨q, rfl⟩ := List.mem_ofFn.1 hp
  intro x
  obtain ⟨z, r, d, rfl⟩ : ∃ (z : Fin 1) (r : Fin 128) (d : Fin 512), x = ix3 z r d := ⟨_, _, _, eq_ix3 (n0 := 1) (n1 := 128) (n2 := 512) x⟩
  refine (chunk_at m c t ⟨3 - q.val / 3, by omega⟩ (o + 512 * (2 - q.val % 3)) (by omega) z r d ⟨e₀ + (512 * (2 - q.val % 3) + d.val), by omega⟩ (by dsimp only; omega)).trans ?_
  exact congrArg₂ (fun a b => prod (aX m c) (aSh m c) (aSc m c) (aG m c) (aW m c) (ix3 (batch t) a b))
    (Fin.ext (show 512 * (tile t).val + 128 * (3 - q.val / 3) + r.val = 512 * (tile t).val + (128 * (3 - q.val / 3) + 1 * r.val) by omega))
    (Fin.ext (show e₀ + (512 * (2 - q.val % 3) + d.val) = e₀ + (512 * (2 - q.val % 3) + 1 * d.val) by omega))

@[inherit_doc pieces2_apply] theorem pieces1_apply (o e₀ : ℕ) (ho : o + 512 ≤ 5760) (he : e₀ + 512 ≤ 5696) (h : o + 512 ≤ 2560 ∧ e₀ = o ∨ 2560 ≤ o ∧ o + 512 ≤ 5632 ∧ e₀ = o + 32) (y : S1x512x512.Idx) :
    View.canon (pieces1 (iblk m c 0 t) (iblk m c 1 t) (iblk m c 2 t) (iblk m c 3 t) (iblk m c 4 t) o ho) y
      = prod (aX m c) (aSh m c) (aSc m c) (aG m c) (aW m c) (ix3 (batch t) (line t (y 1)) (shift e₀ 512 he (y 2))) := by
  refine View.canon_apply_of_pieces (Val := Elt Ideal) (S := S1x512x512) (e := .bf16)
    (fun y => prod (aX m c) (aSh m c) (aSc m c) (aG m c) (aW m c) (ix3 (batch t) (line t (y 1)) (shift e₀ 512 he (y 2))))
    _ (fun p hp => ?_) y (View.cover_of_tiled (pieces1 (iblk m c 0 t) (iblk m c 1 t) (iblk m c 2 t) (iblk m c 3 t) (iblk m c 4 t) o ho) S1x128x512.size (by rfl) y)
  obtain ⟨q, rfl⟩ := List.mem_ofFn.1 hp
  intro x
  obtain ⟨z, r, d, rfl⟩ : ∃ (z : Fin 1) (r : Fin 128) (d : Fin 512), x = ix3 z r d := ⟨_, _, _, eq_ix3 (n0 := 1) (n1 := 128) (n2 := 512) x⟩
  refine (chunk_at m c t ⟨3 - q.val, by omega⟩ (o) (by omega) z r d ⟨e₀ + (0 + d.val), by omega⟩ (by dsimp only; omega)).trans ?_
  exact congrArg₂ (fun a b => prod (aX m c) (aSh m c) (aSc m c) (aG m c) (aW m c) (ix3 (batch t) a b))
    (Fin.ext (show 512 * (tile t).val + 128 * (3 - q.val) + r.val = 512 * (tile t).val + (128 * (3 - q.val) + 1 * r.val) by omega))
    (Fin.ext (show e₀ + (0 + d.val) = e₀ + (0 + 1 * d.val) by omega))

theorem shift_zero (n : ℕ) (h : 0 + n ≤ 5696) (j : Fin n) : shift 0 n h j = ⟨j.val, by omega⟩ := Fin.ext (Nat.zero_add _)

theorem emb5 (y : S1x512x1024.Idx) : (((cfg0.win 5).blk t).view.emb y : S2x8192x1024.Idx) = ix3 (n0 := 2) (n1 := 8192) (n2 := 1024) (batch t) (line t (y 1)) (y 2) := by
  blk_ext [idx t]
  · rfl
  · exact line_eq t _

theorem point5 (y : S1x512x1024.Idx) : out0_5 (iblk m c 0 t) (iblk m c 1 t) (iblk m c 2 t) (iblk m c 3 t) (iblk m c 4 t) y
    = res0 (aX m c) (aSh m c) (aSc m c) (aG m c) (aW m c) (ix3 (batch t) (line t (y 1)) (y 2)) := by
  rw [out5]
  refine (pieces2_apply m c t 0 0 (by omega) (by omega) (by omega) y).trans ?_
  exact (congrArg (fun b => prod (aX m c) (aSh m c) (aSc m c) (aG m c) (aW m c) (ix3 (batch t) (line t (y 1)) b)) (shift_zero 1024 (by omega) (y 2))).trans (res0_at ..).symm

theorem final5 : (dats m 0 c).arrAt 5 cfg0.N = res0 (aX m c) (aSh m c) (aSc m c) (aG m c) (aW m c) := by
  refine (dats m 0 c).arrAt_eq_of_covers 5 _ (by decide +kernel) fun t hf y => ?_
  blk_simp
  rw [after0_5]
  exact (point5 m c t y).trans (congrArg (res0 (aX m c) (aSh m c) (aSc m c) (aG m c) (aW m c)) (emb5 t y)).symm

theorem final6 : (dats m 0 c).arrAt 6 cfg0.N = res1 (aX m c) (aSh m c) (aSc m c) (aG m c) (aW m c) := by
  refine (dats m 0 c).arrAt_eq_of_covers 6 _ (by decide +kernel) fun t hf y => ?_
  blk_simp
  rw [after0_6, out6]
  refine (pieces3_apply m c t 1024 1024 (by omega) (by omega) (by omega) y).trans ?_
  have hy : ((cfg0.win 6).blk t).view.emb y = ix3 (n0 := 2) (n1 := 8192) (n2 := 1536) (batch t) (line t (y 1)) (y 2) := by
    blk_ext [idx t]
    · rfl
    · exact line_eq t _
  exact ((congrArg (res1 (aX m c) (aSh m c) (aSc m c) (aG m c) (aW m c)) hy).trans (res1_at ..)).symm

theorem final7 : (dats m 0 c).arrAt 7 cfg0.N = res2 (aX m c) (aSh m c) (aSc m c) (aG m c) (aW m c) := by
  refine (dats m 0 c).arrAt_eq_of_covers 7 _ (by decide +kernel) fun t hf y => ?_
  blk_simp
  rw [after0_7, out7]
  refine (pieces1_apply m c t 2560 2592 (by omega) (by omega) (by omega) y).trans ?_
  have hy : ((cfg0.win 7).blk t).view.emb y = ix3 (n0 := 2) (n1 := 8192) (n2 := 512) (batch t) (line t (y 1)) (y 2) := by
    blk_ext [idx t]
    · rfl
    · exact line_eq t _
  exact ((congrArg (res2 (aX m c) (aSh m c) (aSc m c) (aG m c) (aW m c)) hy).trans (res2_at ..)).symm

theorem final8 : (dats m 0 c).arrAt 8 cfg0.N = res3 (aX m c) (aSh m c) (aSc m c) (aG m c) (aW m c) := by
  refine (dats m 0 c).arrAt_eq_of_covers 8 _ (by decide +kernel) fun t hf y => ?_
  blk_simp
  rw [after0_8, out8]
  refine (pieces1_apply m c t 3072 3104 (by omega) (by omega) (by omega) y).trans ?_
  have hy : ((cfg0.win 8).blk t).view.emb y = ix3 (n0 := 2) (n1 := 8192) (n2 := 512) (batch t) (line t (y 1)) (y 2) := by
    blk_ext [idx t]
    · rfl
    · exact line_eq t _
  exact ((congrArg (res3 (aX m c) (aSh m c) (aSc m c) (aG m c) (aW m c)) hy).trans (res3_at ..)).symm

theorem final9 : (dats m 0 c).arrAt 9 cfg0.N = res4 (aX m c) (aSh m c) (aSc m c) (aG m c) (aW m c) := by
  refine (dats m 0 c).arrAt_eq_of_covers 9 _ (by decide +kernel) fun t hf y => ?_
  blk_simp
  rw [after0_9, out9]
  refine (pieces2_apply m c t 3584 3616 (by omega) (by omega) (by omega) y).trans ?_
  have hy : ((cfg0.win 9).blk t).view.emb y = ix3 (n0 := 2) (n1 := 8192) (n2 := 1024) (batch t) (line t (y 1)) (y 2) := by
    blk_ext [idx t]
    · rfl
    · exact line_eq t _
  exact ((congrArg (res4 (aX m c) (aSh m c) (aSc m c) (aG m c) (aW m c)) hy).trans (res4_at ..)).symm

theorem final10 : (dats m 0 c).arrAt 10 cfg0.N = res5 (aX m c) (aSh m c) (aSc m c) (aG m c) (aW m c) := by
  refine (dats m 0 c).arrAt_eq_of_covers 10 _ (by decide +kernel) fun t hf y => ?_
  blk_simp
  rw [after0_10, out10]
  refine (pieces2_apply m c t 4608 4640 (by omega) (by omega) (by omega) y).trans ?_
  have hy : ((cfg0.win 10).blk t).view.emb y = ix3 (n0 := 2) (n1 := 8192) (n2 := 1024) (batch t) (line t (y 1)) (y 2) := by
    blk_ext [idx t]
    · rfl
    · exact line_eq t _
  exact ((congrArg (res5 (aX m c) (aSh m c) (aSc m c) (aG m c) (aW m c)) hy).trans (res5_at ..)).symm

/-! The window of the small columns. -/

theorem inb0 (p : Fin 4) (a : Fin 3) : (![0, 128 * p.val, 0] : Fin 3 → ℕ) a + S1x128x128.size a ≤ S1x512x128.size a := by
  have := p.isLt
  fin_cases a
  · show 0 + 1 ≤ 1; omega
  · show 128 * p.val + 128 ≤ 512; omega
  · show 0 + 128 ≤ 128; omega

theorem pay1_at (h : FVec Ideal S128x1024 .bf16) (w : Vec Ideal S1024x128 .bf16) (z : Fin 1) (r : Fin 128) (d : Fin 128) :
    k0_pay1 h w (ix3 z r d) = ∑ k : Fin 1024, h (ix2 r k) * (w : FVec Ideal S1024x128 .bf16) (ix2 k d) := by
  pointwise [k0_pay1]

theorem w_small (k : Fin 1024) (d : Fin 128) :
    (View.ld (Val := Elt Ideal) (iblk m c 4 t) r0_20 : FVec Ideal S1024x128 .bf16) (ix2 k d) = packed (aW m c) (ix2 k ⟨5632 + d.val, by omega⟩) := by
  rw [← w_whole m c t]
  refine congrArg (iblk m c 4 t) (funext fun a => Fin.ext ?_)
  fin_cases a
  · show 0 + 1 * k.val = k.val; omega
  · show 5632 + 1 * d.val = 5632 + d.val; omega

/-- The stores of the window of small columns, the last first. -/
def pieces0 (x0 : Vec Ideal S1x512x1024 .f32) (x1 : Vec Ideal S1x1024 .f32) (x2 x3 : Vec Ideal S1x1x1024 .f32) (x4 : Vec Ideal S1024x5760 .bf16) : List (View.Piece (Elt Ideal) S1x512x128 .f32) :=
  List.ofFn fun q : Fin 4 => ⟨Rect.unit (s := S1x512x128) ![0, 128 * (3 - q.val), 0] S1x128x128.size (inb0 ⟨3 - q.val, by omega⟩),
    k0_pay1 (rowsT x0 x1 x2 x3 ⟨3 - q.val, by omega⟩) (View.ld x4 r0_20)⟩

theorem out11 (x0 : Vec Ideal S1x512x1024 .f32) (x1 : Vec Ideal S1x1024 .f32) (x2 x3 : Vec Ideal S1x1x1024 .f32) (x4 : Vec Ideal S1024x5760 .bf16) : out0_11 x0 x1 x2 x3 x4 = View.canon (pieces0 x0 x1 x2 x3 x4) := by
  sl_kernel_rfl

theorem small_at (p : Fin 4) (z : Fin 1) (r : Fin 128) (d : Fin 128) :
    k0_pay1 (rowsT (iblk m c 0 t) (iblk m c 1 t) (iblk m c 2 t) (iblk m c 3 t) p) (View.ld (iblk m c 4 t) r0_20) (ix3 z r d)
      = res6 (aX m c) (aSh m c) (aSc m c) (aG m c) (aW m c) (ix3 (batch t) (row t p r) d) := by
  rw [pay1_at, res6_at]
  have h : ∀ k : Fin 1024, packed (aW m c) (ix2 k ⟨5632 + d.val, by omega⟩)
      = if h : d.val < 32 then aW m c (ix2 k ⟨2560 + d.val, by omega⟩)
        else if h' : d.val - 32 < 32 then aW m c (ix2 k ⟨5664 + (d.val - 32), by omega⟩) else 0 := fun k => by
    rw [packed_at, dif_neg (by dsimp only; omega), dif_neg (by dsimp only; omega)]
    by_cases h1 : d.val < 32
    · rw [dif_pos h1]
      exact (dif_pos (show 5632 + d.val - 2560 - 3072 < 32 by omega)).trans
        (congrArg (fun e => aW m c (ix2 k e)) (Fin.ext (show 2560 + (5632 + d.val - 2560 - 3072) = 2560 + d.val by omega)))
    rw [dif_neg h1]
    refine (dif_neg (show ¬ 5632 + d.val - 2560 - 3072 < 32 by omega)).trans ?_
    by_cases h2 : d.val - 32 < 32
    · rw [dif_pos h2]
      exact (dif_pos (show 5632 + d.val - 2560 - 3072 - 32 < 32 by omega)).trans
        (congrArg (fun e => aW m c (ix2 k e)) (Fin.ext (show 5664 + (5632 + d.val - 2560 - 3072 - 32) = 5664 + (d.val - 32) by omega)))
    · rw [dif_neg h2]
      exact dif_neg (show ¬ 5632 + d.val - 2560 - 3072 - 32 < 32 by omega)
  split_ifs with h1 h2
  · rw [prod_at]
    exact Finset.sum_congr rfl fun k _ => by rw [rows_at, w_small, h k, dif_pos h1]
  · rw [prod_at]
    exact Finset.sum_congr rfl fun k _ => by rw [rows_at, w_small, h k, dif_neg h1, dif_pos h2]
  · exact Finset.sum_eq_zero fun k _ => by rw [w_small, h k, dif_neg h1, dif_neg h2, mul_zero]

theorem pieces0_apply (y : S1x512x128.Idx) :
    View.canon (pieces0 (iblk m c 0 t) (iblk m c 1 t) (iblk m c 2 t) (iblk m c 3 t) (iblk m c 4 t)) y
      = res6 (aX m c) (aSh m c) (aSc m c) (aG m c) (aW m c) (ix3 (n0 := 2) (n1 := 8192) (n2 := 128) (batch t) (line t (y 1)) (y 2)) := by
  refine View.canon_apply_of_pieces (Val := Elt Ideal) (S := S1x512x128) (e := .f32)
    (fun y => res6 (aX m c) (aSh m c) (aSc m c) (aG m c) (aW m c) (ix3 (n0 := 2) (n1 := 8192) (n2 := 128) (batch t) (line t (y 1)) (y 2)))
    _ (fun p hp => ?_) y (View.cover_of_tiled (pieces0 (iblk m c 0 t) (iblk m c 1 t) (iblk m c 2 t) (iblk m c 3 t) (iblk m c 4 t)) S1x128x128.size (by rfl) y)
  obtain ⟨q, rfl⟩ := List.mem_ofFn.1 hp
  intro x
  obtain ⟨z, r, d, rfl⟩ : ∃ (z : Fin 1) (r : Fin 128) (d : Fin 128), x = ix3 z r d := ⟨_, _, _, eq_ix3 (n0 := 1) (n1 := 128) (n2 := 128) x⟩
  refine (small_at m c t ⟨3 - q.val, by omega⟩ z r d).trans ?_
  exact congrArg₂ (fun a b => res6 (aX m c) (aSh m c) (aSc m c) (aG m c) (aW m c) (ix3 (batch t) a b))
    (Fin.ext (show 512 * (tile t).val + 128 * (3 - q.val) + r.val = 512 * (tile t).val + (128 * (3 - q.val) + 1 * r.val) by omega))
    (Fin.ext (show d.val = 0 + 1 * d.val by omega))

theorem final11 : (dats m 0 c).arrAt 11 cfg0.N = res6 (aX m c) (aSh m c) (aSc m c) (aG m c) (aW m c) := by
  refine (dats m 0 c).arrAt_eq_of_covers 11 _ (by decide +kernel) fun t hf y => ?_
  blk_simp
  rw [after0_11, out11]
  refine (pieces0_apply m c t y).trans ?_
  have hy : ((cfg0.win 11).blk t).view.emb y = ix3 (n0 := 2) (n1 := 8192) (n2 := 128) (batch t) (line t (y 1)) (y 2) := by
    blk_ext [idx t]
    · rfl
    · exact line_eq t _
  exact (congrArg (res6 (aX m c) (aSh m c) (aSc m c) (aG m c) (aW m c)) hy).symm

end Cert.EvenKernelIdeal.Proj

end
-- ==== Proof.OddRef.lean ====
module

public import proofs.«01_k».proof.Proof.Gen.OddReferenceIdeal
public import proofs.«01_k».proof.Proof.EvenRef
public import Idealize.ShloMosaic.Lib.Pipeline.ValueKit

/-! The odd layer's input projection as the reference computes it. -/

@[expose] public section

set_option maxRecDepth 16384

noncomputable section

namespace Cert.OddReferenceIdeal.Proj

open Cert.OddReferenceIdeal Cert.OddReferenceIdeal.Gen Idealize.ShloMosaic Idealize.ShloMosaic.TcCoe Idealize.SL.Sem
open Cert.EvenReferenceIdeal.Proj (normed)

def prod (x : FVec Ideal S2x8192x1024 .f32) (sh sc : FVec Ideal S2x1x1024 .f32) (g : FVec Ideal S1024 .f32) (w : FVec Ideal S1024x5120 .f32) : FVec Ideal S2x8192x5120 .f32 :=
  Host.dotGeneral dot_S2x8192x1024_S1024x5120_S2x8192x5120_2_0_01_1_n_n none (normed x sh sc g) w

/-- The frequencies of the rotation. -/
def freqs : FVec Ideal S32 .f32 :=
  Host.divf (broadcastInDim S32 ![] bcast_S_S32 (constant S_ .f32 0x3F800000#32)) (Host.powf (broadcastInDim S32 ![] bcast_S_S32 (constant S_ .f32 0x461C4000#32)) (Host.divf (sitofp .f32 (iotaInDim S32 32 0)) (broadcastInDim S32 ![] bcast_S_S32 (constant S_ .f32 0x42000000#32))))

/-- The angles of a token's row and of its column. -/
def rowAngles : FVec Ideal S8192x32 .f32 :=
  mulf (broadcastInDim S8192x32 ![0, 1] bcast_S8192x1_S8192x32_0_1 (broadcastInDim S8192x1 ![0] bcast_S8192_S8192x1_0 (shapeCast S8192 (broadcastInDim S128x64 ![0] bcast_S128_S128x64_0 (sitofp .f32 (iotaInDim S128 32 0))) shapeCasts_S128x64_S8192)))
    (broadcastInDim S8192x32 ![0, 1] bcast_S1x32_S8192x32_0_1 (broadcastInDim S1x32 ![1] bcast_S32_S1x32_1 freqs))

@[inherit_doc rowAngles] def colAngles : FVec Ideal S8192x32 .f32 :=
  mulf (broadcastInDim S8192x32 ![0, 1] bcast_S8192x1_S8192x32_0_1 (broadcastInDim S8192x1 ![0] bcast_S8192_S8192x1_0 (shapeCast S8192 (broadcastInDim S128x64 ![0, 1] bcast_S1x64_S128x64_0_1 (shapeCast S1x64 (sitofp .f32 (iotaInDim S64 32 0)) shapeCasts_S64_S1x64)) shapeCasts_S128x64_S8192)))
    (broadcastInDim S8192x32 ![0, 1] bcast_S1x32_S8192x32_0_1 (broadcastInDim S1x32 ![1] bcast_S32_S1x32_1 freqs))

/-- Both angles, side by side. -/
def angles : FVec Ideal S8192x2x32 .f32 :=
  concatenate S8192x2x32 1 [⟨S8192x1x32, broadcastInDim S8192x1x32 ![0, 2] bcast_S8192x32_S8192x1x32_0_2 rowAngles⟩, ⟨S8192x1x32, broadcastInDim S8192x1x32 ![0, 2] bcast_S8192x32_S8192x1x32_0_2 colAngles⟩] concatenates_S8192x1x32_S8192x1x32_S8192x2x32_d1

/-- The heads of the keys, normed. -/
def normK (p : FVec Ideal S2x8192x512 .f32) (g : FVec Ideal S128 .f32) : FVec Ideal S2x8192x4x128 .f32 :=
  mulf (mulf (shapeCast S2x8192x4x128 p shapeCasts_S2x8192x512_S2x8192x4x128) (broadcastInDim S2x8192x4x128 ![0, 1, 2, 3] bcast_S2x8192x4x1_S2x8192x4x128_0_1_2_3 (Host.rsqrt (addf (Host.divf (broadcastInDim S2x8192x4x1 ![0, 1, 2] bcast_S2x8192x4_S2x8192x4x1_0_1_2 (Host.reduceAdd (mulf (shapeCast S2x8192x4x128 p shapeCasts_S2x8192x512_S2x8192x4x128) (shapeCast S2x8192x4x128 p shapeCasts_S2x8192x512_S2x8192x4x128)) (constant S_ .f32 0x00000000#32) reducesTo_S2x8192x4x128_S2x8192x4_d3 h_S_)) (broadcastInDim S2x8192x4x1 ![] bcast_S_S2x8192x4x1 (constant S_ .f32 0x43000000#32))) (broadcastInDim S2x8192x4x1 ![] bcast_S_S2x8192x4x1 (constant S_ .f32 0x358637BD#32))))))
    (broadcastInDim S2x8192x4x128 ![0, 1, 2, 3] bcast_S1x1x1x128_S2x8192x4x128_0_1_2_3 (broadcastInDim S1x1x1x128 ![3] bcast_S128_S1x1x1x128_3 g))

@[inherit_doc normK] def normQ (p : FVec Ideal S2x8192x2048 .f32) (g : FVec Ideal S128 .f32) : FVec Ideal S2x8192x16x128 .f32 :=
  mulf (mulf (shapeCast S2x8192x16x128 p shapeCasts_S2x8192x2048_S2x8192x16x128) (broadcastInDim S2x8192x16x128 ![0, 1, 2, 3] bcast_S2x8192x16x1_S2x8192x16x128_0_1_2_3 (Host.rsqrt (addf (Host.divf (broadcastInDim S2x8192x16x1 ![0, 1, 2] bcast_S2x8192x16_S2x8192x16x1_0_1_2 (Host.reduceAdd (mulf (shapeCast S2x8192x16x128 p shapeCasts_S2x8192x2048_S2x8192x16x128) (shapeCast S2x8192x16x128 p shapeCasts_S2x8192x2048_S2x8192x16x128)) (constant S_ .f32 0x00000000#32) reducesTo_S2x8192x16x128_S2x8192x16_d3 h_S_)) (broadcastInDim S2x8192x16x1 ![] bcast_S_S2x8192x16x1 (constant S_ .f32 0x43000000#32))) (broadcastInDim S2x8192x16x1 ![] bcast_S_S2x8192x16x1 (constant S_ .f32 0x358637BD#32))))))
    (broadcastInDim S2x8192x16x128 ![0, 1, 2, 3] bcast_S1x1x1x128_S2x8192x16x128_0_1_2_3 (broadcastInDim S1x1x1x128 ![3] bcast_S128_S1x1x1x128_3 g))

/-- One of the two halves of every part of the keys' heads. -/
def firstK (v : FVec Ideal S2x8192x4x128 .f32) : FVec Ideal S2x8192x4x2x32 .f32 :=
  shapeCast S2x8192x4x2x32 (extractStridedSlice S2x8192x4x2x1x32 ![0, 0, 0, 0, 0, 0] (shapeCast S2x8192x4x2x2x32 v shapeCasts_S2x8192x4x128_S2x8192x4x2x2x32) slices_S2x8192x4x2x2x32_S2x8192x4x2x1x32_0_0_0_0_0_0) shapeCasts_S2x8192x4x2x1x32_S2x8192x4x2x32

@[inherit_doc firstK] def secondK (v : FVec Ideal S2x8192x4x128 .f32) : FVec Ideal S2x8192x4x2x32 .f32 :=
  shapeCast S2x8192x4x2x32 (extractStridedSlice S2x8192x4x2x1x32 ![0, 0, 0, 0, 1, 0] (shapeCast S2x8192x4x2x2x32 v shapeCasts_S2x8192x4x128_S2x8192x4x2x2x32) slices_S2x8192x4x2x2x32_S2x8192x4x2x1x32_0_0_0_0_1_0) shapeCasts_S2x8192x4x2x1x32_S2x8192x4x2x32

/-- A table of the rotation, for every head of the keys. -/
def tableK (a : FVec Ideal S8192x2x32 .f32) : FVec Ideal S2x8192x4x2x32 .f32 :=
  broadcastInDim S2x8192x4x2x32 ![0, 1, 2, 3, 4] bcast_S1x8192x1x2x32_S2x8192x4x2x32_0_1_2_3_4 (broadcastInDim S1x8192x1x2x32 ![1, 3, 4] bcast_S8192x2x32_S1x8192x1x2x32_1_3_4 a)

/-- The rotated keys. -/
def ropeK (v : FVec Ideal S2x8192x4x128 .f32) : FVec Ideal S2x8192x4x128 .f32 :=
  shapeCast S2x8192x4x128 (concatenate S2x8192x4x2x2x32 4 [⟨S2x8192x4x2x1x32, broadcastInDim S2x8192x4x2x1x32 ![0, 1, 2, 3, 5] bcast_S2x8192x4x2x32_S2x8192x4x2x1x32_0_1_2_3_5 (subf (mulf (firstK v) (tableK (Host.cos angles))) (mulf (secondK v) (tableK (Host.sin angles))))⟩,
    ⟨S2x8192x4x2x1x32, broadcastInDim S2x8192x4x2x1x32 ![0, 1, 2, 3, 5] bcast_S2x8192x4x2x32_S2x8192x4x2x1x32_0_1_2_3_5 (addf (mulf (secondK v) (tableK (Host.cos angles))) (mulf (firstK v) (tableK (Host.sin angles))))⟩]
    concatenates_S2x8192x4x2x1x32_S2x8192x4x2x1x32_S2x8192x4x2x2x32_d4) shapeCasts_S2x8192x4x2x2x32_S2x8192x4x128

/-- The heads of the keys with both halves of the parts apart. -/
def apartK (v : FVec Ideal S2x8192x4x128 .f32) : FVec Ideal S2x8192x512 .f32 :=
  shapeCast S2x8192x512 (transpose S2x8192x4x2x2x32 [0, 1, 2, 4, 3, 5] (shapeCast S2x8192x4x2x2x32 v shapeCasts_S2x8192x4x128_S2x8192x4x2x2x32) transposes_S2x8192x4x2x2x32_S2x8192x4x2x2x32_0_1_2_4_3_5) shapeCasts_S2x8192x4x2x2x32_S2x8192x512

/-- One of the two halves of every part of the queries' heads. -/
def firstQ (v : FVec Ideal S2x8192x16x128 .f32) : FVec Ideal S2x8192x16x2x32 .f32 :=
  shapeCast S2x8192x16x2x32 (extractStridedSlice S2x8192x16x2x1x32 ![0, 0, 0, 0, 0, 0] (shapeCast S2x8192x16x2x2x32 v shapeCasts_S2x8192x16x128_S2x8192x16x2x2x32) slices_S2x8192x16x2x2x32_S2x8192x16x2x1x32_0_0_0_0_0_0) shapeCasts_S2x8192x16x2x1x32_S2x8192x16x2x32

@[inherit_doc firstQ] def secondQ (v : FVec Ideal S2x8192x16x128 .f32) : FVec Ideal S2x8192x16x2x32 .f32 :=
  shapeCast S2x8192x16x2x32 (extractStridedSlice S2x8192x16x2x1x32 ![0, 0, 0, 0, 1, 0] (shapeCast S2x8192x16x2x2x32 v shapeCasts_S2x8192x16x128_S2x8192x16x2x2x32) slices_S2x8192x16x2x2x32_S2x8192x16x2x1x32_0_0_0_0_1_0) shapeCasts_S2x8192x16x2x1x32_S2x8192x16x2x32

/-- A table of the rotation, for every head of the queries. -/
def tableQ (a : FVec Ideal S8192x2x32 .f32) : FVec Ideal S2x8192x16x2x32 .f32 :=
  broadcastInDim S2x8192x16x2x32 ![0, 1, 2, 3, 4] bcast_S1x8192x1x2x32_S2x8192x16x2x32_0_1_2_3_4 (broadcastInDim S1x8192x1x2x32 ![1, 3, 4] bcast_S8192x2x32_S1x8192x1x2x32_1_3_4 a)

/-- The rotated queries. -/
def ropeQ (v : FVec Ideal S2x8192x16x128 .f32) : FVec Ideal S2x8192x16x128 .f32 :=
  shapeCast S2x8192x16x128 (concatenate S2x8192x16x2x2x32 4 [⟨S2x8192x16x2x1x32, broadcastInDim S2x8192x16x2x1x32 ![0, 1, 2, 3, 5] bcast_S2x8192x16x2x32_S2x8192x16x2x1x32_0_1_2_3_5 (subf (mulf (firstQ v) (tableQ (Host.cos angles))) (mulf (secondQ v) (tableQ (Host.sin angles))))⟩,
    ⟨S2x8192x16x2x1x32, broadcastInDim S2x8192x16x2x1x32 ![0, 1, 2, 3, 5] bcast_S2x8192x16x2x32_S2x8192x16x2x1x32_0_1_2_3_5 (addf (mulf (secondQ v) (tableQ (Host.cos angles))) (mulf (firstQ v) (tableQ (Host.sin angles))))⟩]
    concatenates_S2x8192x16x2x1x32_S2x8192x16x2x1x32_S2x8192x16x2x2x32_d4) shapeCasts_S2x8192x16x2x2x32_S2x8192x16x128

/-- The heads of the queries with both halves of the parts apart. -/
def apartQ (v : FVec Ideal S2x8192x16x128 .f32) : FVec Ideal S2x8192x2048 .f32 :=
  shapeCast S2x8192x2048 (transpose S2x8192x16x2x2x32 [0, 1, 2, 4, 3, 5] (shapeCast S2x8192x16x2x2x32 v shapeCasts_S2x8192x16x128_S2x8192x16x2x2x32) transposes_S2x8192x16x2x2x32_S2x8192x16x2x2x32_0_1_2_4_3_5) shapeCasts_S2x8192x16x2x2x32_S2x8192x2048

/-- The rotated queries divided by the root of their length and by the logarithm of two. -/
def scaled (v : FVec Ideal S2x8192x16x128 .f32) : FVec Ideal S2x8192x16x128 .f32 :=
  Host.divf (Host.divf v (broadcastInDim S2x8192x16x128 ![] bcast_S_S2x8192x16x128 (Host.sqrt (constant S_ .f32 0x43000000#32)))) (broadcastInDim S2x8192x16x128 ![] bcast_S_S2x8192x16x128 (id (Host.log (constant S_ .f32 0x40000000#32))))

variable (x : FVec Ideal S2x8192x1024 .f32) (sh sc : FVec Ideal S2x1x1024 .f32) (g : FVec Ideal S1024 .f32) (w : FVec Ideal S1024x5120 .f32) (gq gk : FVec Ideal S128 .f32)

/-- The four results: the keys, the values, the queries, the gate. -/
def res0 : FVec Ideal S2x8192x512 .bf16 :=
  truncf .bf16 (apartK (ropeK (normK (extractStridedSlice S2x8192x512 ![0, 0, 0] (prod x sh sc g w) slices_S2x8192x5120_S2x8192x512_0_0_0) gk))) bitsLt_bf16_f32

@[inherit_doc res0] def res1 : FVec Ideal S2x8192x512 .bf16 :=
  truncf .bf16 (extractStridedSlice S2x8192x512 ![0, 0, 512] (prod x sh sc g w) slices_S2x8192x5120_S2x8192x512_0_0_512) bitsLt_bf16_f32

@[inherit_doc res0] def res2 : FVec Ideal S2x8192x2048 .bf16 :=
  truncf .bf16 (apartQ (scaled (ropeQ (normQ (extractStridedSlice S2x8192x2048 ![0, 0, 1024] (prod x sh sc g w) slices_S2x8192x5120_S2x8192x2048_0_0_1024) gq)))) bitsLt_bf16_f32

/-- The gate's columns of the product. -/
def gates : FVec Ideal S2x8192x2048 .f32 := extractStridedSlice S2x8192x2048 ![0, 0, 3072] (prod x sh sc g w) slices_S2x8192x5120_S2x8192x2048_0_0_3072

@[inherit_doc res0] def res3 : FVec Ideal S2x8192x2048 .f32 :=
  mulf (gates x sh sc g w) (Host.divf (broadcastInDim S2x8192x2048 ![] bcast_S_S2x8192x2048 (constant S_ .f32 0x3F800000#32)) (addf (broadcastInDim S2x8192x2048 ![] bcast_S_S2x8192x2048 (constant S_ .f32 0x3F800000#32)) (Host.exp (Host.negf (gates x sh sc g w)))))

/-! One head at a time, with the two halves of its parts apart. -/

/-- Where lane `d` of a head with its halves apart comes from. -/
def src (d : Fin 128) : Fin 128 := ⟨d.val / 32 % 2 * 64 + d.val / 64 * 32 + d.val % 32, by omega⟩

/-- The lane that lane `d` is rotated with. -/
def other (d : Fin 128) : Fin 128 := ⟨(d.val + 64) % 128, by omega⟩

/-- Lane `i` of the normed head that starts at column `o`. -/
def headAt (p : Fin 5120 → EReal) (gain : FVec Ideal S128 .f32) (o : ℕ) (ho : o + 128 ≤ 5120) (i : Fin 128) : EReal :=
  p ⟨o + i.val, by omega⟩ * Ideal.rsqrt (Ideal.div (∑ k : Fin 128, p ⟨o + k.val, by omega⟩ * p ⟨o + k.val, by omega⟩) (Ideal.ofBits .f32 0x43000000#32) + Ideal.ofBits .f32 0x358637BD#32) * gain (ix1 i)

/-- The angle at lane `d` of token `n`. -/
def angleAt (n : Fin 8192) (d : Fin 128) : EReal := angles (ix3 n ⟨d.val / 32 % 2, by omega⟩ ⟨d.val % 32, by omega⟩)

/-- Lane `d` of a head after the rotation, its halves apart. -/
def turned (v : Fin 128 → EReal) (n : Fin 8192) (d : Fin 128) : EReal :=
  if d.val < 64 then v (src d) * Ideal.cos (angleAt n d) - v (src (other d)) * Ideal.sin (angleAt n d)
  else v (src d) * Ideal.cos (angleAt n d) + v (src (other d)) * Ideal.sin (angleAt n d)

/-- The rotation with the halves of every part beside each other, read at column `j` of the heads. -/
theorem turned_eq (v : Fin 128 → EReal) (n : Fin 8192) (j : ℕ) :
    (if h : j / 64 % 2 < 1 then
      v ⟨j / 32 % 2 * 64 + j % 32, by omega⟩ * Ideal.cos (angles (ix3 n ⟨j / 32 % 2, by omega⟩ ⟨j % 32, by omega⟩)) - v ⟨j / 32 % 2 * 64 + 32 + j % 32, by omega⟩ * Ideal.sin (angles (ix3 n ⟨j / 32 % 2, by omega⟩ ⟨j % 32, by omega⟩))
    else
      v ⟨j / 32 % 2 * 64 + 32 + j % 32, by omega⟩ * Ideal.cos (angles (ix3 n ⟨j / 32 % 2, by omega⟩ ⟨j % 32, by omega⟩)) + v ⟨j / 32 % 2 * 64 + j % 32, by omega⟩ * Ideal.sin (angles (ix3 n ⟨j / 32 % 2, by omega⟩ ⟨j % 32, by omega⟩)))
      = turned v n ⟨j % 128, by omega⟩ := by
  have ha : angleAt n ⟨j % 128, by omega⟩ = angles (ix3 n ⟨j / 32 % 2, by omega⟩ ⟨j % 32, by omega⟩) :=
    congrArg₂ (fun a f => angles (ix3 n a f)) (Fin.ext (show j % 128 / 32 % 2 = j / 32 % 2 by omega)) (Fin.ext (show j % 128 % 32 = j % 32 by omega))
  unfold turned
  rw [ha]
  by_cases h : j / 64 % 2 < 1
  · have e1 : src ⟨j % 128, by omega⟩ = ⟨j / 32 % 2 * 64 + j % 32, by omega⟩ := Fin.ext (show j % 128 / 32 % 2 * 64 + j % 128 / 64 * 32 + j % 128 % 32 = _ by dsimp only; omega)
    have e2 : src (other ⟨j % 128, by omega⟩) = ⟨j / 32 % 2 * 64 + 32 + j % 32, by omega⟩ :=
      Fin.ext (show (j % 128 + 64) % 128 / 32 % 2 * 64 + (j % 128 + 64) % 128 / 64 * 32 + (j % 128 + 64) % 128 % 32 = _ by dsimp only; omega)
    rw [dif_pos h, if_pos (by dsimp only; omega), e1, e2]
  · have e1 : src ⟨j % 128, by omega⟩ = ⟨j / 32 % 2 * 64 + 32 + j % 32, by omega⟩ := Fin.ext (show j % 128 / 32 % 2 * 64 + j % 128 / 64 * 32 + j % 128 % 32 = _ by dsimp only; omega)
    have e2 : src (other ⟨j % 128, by omega⟩) = ⟨j / 32 % 2 * 64 + j % 32, by omega⟩ :=
      Fin.ext (show (j % 128 + 64) % 128 / 32 % 2 * 64 + (j % 128 + 64) % 128 / 64 * 32 + (j % 128 + 64) % 128 % 32 = _ by dsimp only; omega)
    rw [dif_neg h, if_neg (by dsimp only; omega), e1, e2]

variable (b : Fin 2) (n : Fin 8192)

theorem prod_at (j : Fin 5120) : prod x sh sc g w (ix3 b n j) = ∑ k : Fin 1024, normed x sh sc g (ix3 b n k) * w (ix2 k j) := by
  pointwise [prod]

theorem normK_at (h : Fin 4) (i : Fin 128) (o : ℕ) (ho : o + 128 ≤ 5120) (e : o = h.val * 128) :
    normK (extractStridedSlice S2x8192x512 ![0, 0, 0] (prod x sh sc g w) slices_S2x8192x5120_S2x8192x512_0_0_0) gk (ix4 b n h i)
      = headAt (fun j => prod x sh sc g w (ix3 b n j)) gk o ho i := by
  subst e
  pointwise [normK, headAt]

theorem normQ_at (h : Fin 16) (i : Fin 128) (o : ℕ) (ho : o + 128 ≤ 5120) (e : o = 1024 + h.val * 128) :
    normQ (extractStridedSlice S2x8192x2048 ![0, 0, 1024] (prod x sh sc g w) slices_S2x8192x5120_S2x8192x2048_0_0_1024) gq (ix4 b n h i)
      = headAt (fun j => prod x sh sc g w (ix3 b n j)) gq o ho i := by
  subst e
  pointwise [normQ, headAt]
  simp only [Nat.add_assoc]

theorem rotK (v : FVec Ideal S2x8192x4x128 .f32) (j : Fin 512) : apartK (ropeK v) (ix3 b n j)
    = turned (fun i => v (ix4 b n ⟨j.val / 128, by omega⟩ i)) n ⟨j.val % 128, by omega⟩ := by
  pointwise [apartK, ropeK, tableK, firstK, secondK]
  exact turned_eq (fun i => v (ix4 b n ⟨j.val / 128, by omega⟩ i)) n j.val

theorem rotQ (v : FVec Ideal S2x8192x16x128 .f32) (j : Fin 2048) : apartQ (ropeQ v) (ix3 b n j)
    = turned (fun i => v (ix4 b n ⟨j.val / 128, by omega⟩ i)) n ⟨j.val % 128, by omega⟩ := by
  pointwise [apartQ, ropeQ, tableQ, firstQ, secondQ]
  exact turned_eq (fun i => v (ix4 b n ⟨j.val / 128, by omega⟩ i)) n j.val

/-- The two numbers that the queries are divided by. -/
def rootAt : EReal := Ideal.sqrt (Ideal.ofBits .f32 0x43000000#32)

@[inherit_doc rootAt] def lnAt : EReal := Ideal.log (Ideal.ofBits .f32 0x40000000#32)

theorem scaled_at (v : FVec Ideal S2x8192x16x128 .f32) (j : Fin 2048) : apartQ (scaled v) (ix3 b n j) = Ideal.div (Ideal.div (apartQ v (ix3 b n j)) rootAt) lnAt := by
  pointwise [apartQ, scaled, rootAt, lnAt, id]

/-- Narrowing changes no number. -/
theorem narrow {s : Shape} (v : FVec Ideal s .f32) (i : s.Idx) : truncf .bf16 v bitsLt_bf16_f32 i = v i := by
  pointwise

theorem res0_at (j : Fin 512) : res0 x sh sc g w gk (ix3 b n j)
    = turned (headAt (fun j => prod x sh sc g w (ix3 b n j)) gk (j.val / 128 * 128) (by omega)) n ⟨j.val % 128, by omega⟩ := by
  unfold res0
  rw [narrow, rotK]
  refine congrArg (fun v => turned v n ⟨j.val % 128, by omega⟩) (funext fun i => ?_)
  exact normK_at x sh sc g w gk b n ⟨j.val / 128, by omega⟩ i _ _ (by dsimp only)

theorem res2_at (j : Fin 2048) : res2 x sh sc g w gq (ix3 b n j)
    = Ideal.div (Ideal.div (turned (headAt (fun j => prod x sh sc g w (ix3 b n j)) gq (1024 + j.val / 128 * 128) (by omega)) n ⟨j.val % 128, by omega⟩) rootAt) lnAt := by
  unfold res2
  rw [narrow, scaled_at, rotQ]
  refine congrArg (fun v => Ideal.div (Ideal.div (turned v n ⟨j.val % 128, by omega⟩) rootAt) lnAt) (funext fun i => ?_)
  exact normQ_at x sh sc g w gq b n ⟨j.val / 128, by omega⟩ i _ _ (by dsimp only)

theorem res1_at (j : Fin 512) : res1 x sh sc g w (ix3 b n j) = prod x sh sc g w (ix3 b n ⟨512 + j.val, by omega⟩) := by
  pointwise [res1]

theorem res3_at (j : Fin 2048) : res3 x sh sc g w (ix3 b n j) = prod x sh sc g w (ix3 b n ⟨3072 + j.val, by omega⟩) * Ideal.div 1 (1 + Ideal.exp (-prod x sh sc g w (ix3 b n ⟨3072 + j.val, by omega⟩))) := by
  pointwise [res3, gates]

end Cert.OddReferenceIdeal.Proj

end
-- ==== Proof.OddWords.lean ====
module

public import proofs.«01_k».proof.Proof.OddRef
public import proofs.«01_k».proof.Proof.Softmax
public import Idealize.ShloMosaic.Lib.Pipeline.ValueKit

/-! Numbers and sums of the odd layer's input projection. -/

@[expose] public section

set_option maxRecDepth 16384

noncomputable section

namespace Cert.OddReferenceIdeal.Proj

open Idealize.ShloMosaic

theorem bits_128 : Ideal.ofBits .f32 0x43000000#32 = ((128 : ℝ) : EReal) := by
  simp [Ideal.ofBits, Ideal.ieee]
  rw [← EReal.coe_mul]
  norm_num

theorem bits_inv_128 : Ideal.ofBits .f32 0x3C000000#32 = ((1 / 128 : ℝ) : EReal) := by
  simp [Ideal.ofBits, Ideal.ieee]
  rw [← EReal.coe_mul]
  norm_num

theorem bits_two : Ideal.ofBits .f32 0x40000000#32 = ((2 : ℝ) : EReal) := by
  simp [Ideal.ofBits, Ideal.ieee]
  rw [← EReal.coe_mul]
  norm_num

theorem bits_half : Ideal.ofBits .f32 0x3F000000#32 = ((1 / 2 : ℝ) : EReal) := by
  simp [Ideal.ofBits, Ideal.ieee]
  rw [← EReal.coe_mul]
  norm_num

theorem mean_eq (x : EReal) : x * Ideal.ofBits .f32 0x3C000000#32 = Ideal.div x (Ideal.ofBits .f32 0x43000000#32) := by
  rw [bits_128, bits_inv_128, Ideal.div_coe (by norm_num)]

theorem rootAt_eq : rootAt = ((Real.sqrt 128 : ℝ) : EReal) := by
  rw [rootAt, bits_128, Ideal.sqrt_coe, if_neg (by norm_num)]

theorem lnAt_eq : lnAt = ((Real.log 2 : ℝ) : EReal) := by
  rw [lnAt, bits_two, Ideal.log_coe, if_neg (by norm_num)]

/-- The scale of the queries is the two quotients. -/
theorem scale_eq (x : EReal) : x * (((Real.sqrt 128)⁻¹ * (Real.log 2)⁻¹ : ℝ) : EReal) = Ideal.div (Ideal.div x rootAt) lnAt := by
  rw [rootAt_eq, lnAt_eq, Ideal.div_coe (Real.sqrt_ne_zero'.2 (by norm_num)), Ideal.div_coe Cert.Softmax.log2_pos.ne', EReal.coe_mul, one_div, one_div, mul_assoc]

theorem real_silu (r : ℝ) : r / 2 + r / 2 * Real.tanh (r / 2) = r * (1 / (1 + Real.exp (-r))) := by
  have h : Real.exp (-r) = Real.exp (-(r / 2)) * Real.exp (-(r / 2)) := by rw [← Real.exp_add]; congr 1; ring
  have h' : Real.exp (r / 2) * Real.exp (-(r / 2)) = 1 := by rw [← Real.exp_add]; simp
  rw [Real.tanh_eq_sinh_div_cosh, Real.sinh_eq, Real.cosh_eq, h]
  have p := Real.exp_pos (r / 2)
  have q := Real.exp_pos (-(r / 2))
  generalize Real.exp (r / 2) = a at *
  generalize Real.exp (-(r / 2)) = b at *
  have hb : b = 1 / a := by field_simp; linarith
  subst hb
  field_simp
  ring

/-- Half of a number, and the half times its hyperbolic tangent, are the number times its logistic function, unless it is `-∞`. -/
theorem silu_eq (v : EReal) (h : v ≠ ⊥) :
    Ideal.ofBits .f32 0x3F000000#32 * v + Ideal.ofBits .f32 0x3F000000#32 * v * Ideal.tanh (Ideal.ofBits .f32 0x3F000000#32 * v) = v * Ideal.div 1 (1 + Ideal.exp (-v)) := by
  rw [bits_half]
  induction v using EReal.rec with
  | bot => exact absurd rfl h
  | top =>
    rw [EReal.coe_mul_top_of_pos (by norm_num)]
    show ⊤ + ⊤ * (1 : EReal) = ⊤ * Ideal.div 1 (1 + Ideal.exp (-⊤))
    rw [EReal.neg_top]
    show ⊤ + ⊤ * (1 : EReal) = ⊤ * Ideal.div 1 (1 + 0)
    rw [mul_one, add_zero, show (1 : EReal) = ((1 : ℝ) : EReal) from rfl, Ideal.div_coe (by norm_num)]
    norm_num
  | coe r =>
    rw [← EReal.coe_mul, Ideal.tanh_coe, ← EReal.coe_neg, Ideal.exp_coe, show (1 : EReal) = ((1 : ℝ) : EReal) from rfl, ← EReal.coe_add,
      Ideal.div_coe (by have := Real.exp_pos (-r); positivity), ← EReal.coe_mul, ← EReal.coe_add, ← EReal.coe_mul, ← EReal.coe_mul, one_mul]
    refine congrArg _ ?_
    rw [← real_silu, show 1 / 2 * r = r / 2 by ring]

/-- A sum over two heads that keeps one of them. -/
theorem sum_head (f : Fin 256 → EReal) (c : Fin 256) :
    ∑ k : Fin 256, f k * (if k.val / 128 = c.val / 128 then 1 else 0) = ∑ x : Fin 128, f ⟨c.val / 128 * 128 + x.val, by omega⟩ := by
  rw [Fin.sum_univ_add (a := 128) (b := 128) (fun k : Fin (128 + 128) => f k * (if k.val / 128 = c.val / 128 then 1 else 0))]
  have z : ∀ {ι : Type} [Fintype ι] (g : ι → EReal) (p : ι → Prop) [DecidablePred p], (∀ i, ¬ p i) → ∑ i, g i * (if p i then 1 else 0) = 0 :=
    fun g p _ hp => Finset.sum_eq_zero fun i _ => by rw [if_neg (hp i), mul_zero]
  by_cases h : c.val < 128
  · rw [z (fun x : Fin 128 => f (Fin.natAdd 128 x)) (fun x => (Fin.natAdd 128 x).val / 128 = c.val / 128) (fun x => by rw [Fin.val_natAdd]; omega), add_zero]
    refine Finset.sum_congr rfl fun x _ => ?_
    rw [if_pos (by rw [Fin.val_castAdd]; omega), mul_one]
    exact congrArg f (Fin.ext (show x.val = c.val / 128 * 128 + x.val by omega))
  · rw [z (fun x : Fin 128 => f (Fin.castAdd 128 x)) (fun x => (Fin.castAdd 128 x).val / 128 = c.val / 128) (fun x => by rw [Fin.val_castAdd]; omega), zero_add]
    refine Finset.sum_congr rfl fun x _ => ?_
    rw [if_pos (by rw [Fin.val_natAdd]; omega), mul_one]
    exact congrArg f (Fin.ext (show 128 + x.val = c.val / 128 * 128 + x.val by omega))

theorem src_src : ∀ d : Fin 128, src (src d) = d := by
  decide +kernel

/-- A sum over a head does not depend on the order of its lanes. -/
theorem sum_src (f : Fin 128 → EReal) : ∑ d, f (src d) = ∑ d, f d :=
  Equiv.sum_comp (Function.Involutive.toPerm src src_src) f

end Cert.OddReferenceIdeal.Proj

end
-- ==== Proof.OddTables.lean ====
module

public import proofs.«01_k».proof.Proof.OddWords
public import proofs.«01_k».proof.Proof.Gen.OddKernelIdeal.Frame
public import Idealize.ShloMosaic.Lib.StableHlo.Predicate

/-! The odd layer's input projection: the kernel's packed weights, tables and gains. -/

@[expose] public section

set_option maxRecDepth 16384

noncomputable section

namespace Cert.OddKernelIdeal.Proj

open Cert.OddKernelIdeal Cert.OddKernelIdeal.Gen Idealize.ShloMosaic
open Idealize.ShloMosaic.StableHlo.Predicate (gather_take)
open Cert.OddReferenceIdeal.Proj

/-- The packed weights: the heads of the keys with their halves apart, the values, the heads of the queries with their halves apart, the gate. -/
def packed (w : FVec Ideal S1024x5120 .f32) : FVec Ideal S1024x5120 .bf16 :=
  truncf .bf16 (concatenate S1024x5120 1 [⟨S1024x512, shapeCast S1024x512 (transpose S1024x4x2x2x32 [0, 1, 3, 2, 4] (shapeCast S1024x4x2x2x32 (extractStridedSlice S1024x512 ![0, 0] w slices_S1024x5120_S1024x512_0_0) shapeCasts_S1024x512_S1024x4x2x2x32) transposes_S1024x4x2x2x32_S1024x4x2x2x32_0_1_3_2_4) shapeCasts_S1024x4x2x2x32_S1024x512⟩,
    ⟨S1024x512, extractStridedSlice S1024x512 ![0, 512] w slices_S1024x5120_S1024x512_0_512⟩,
    ⟨S1024x2048, shapeCast S1024x2048 (transpose S1024x16x2x2x32 [0, 1, 3, 2, 4] (shapeCast S1024x16x2x2x32 (extractStridedSlice S1024x2048 ![0, 1024] w slices_S1024x5120_S1024x2048_0_1024) shapeCasts_S1024x2048_S1024x16x2x2x32) transposes_S1024x16x2x2x32_S1024x16x2x2x32_0_1_3_2_4) shapeCasts_S1024x16x2x2x32_S1024x2048⟩,
    ⟨S1024x2048, extractStridedSlice S1024x2048 ![0, 3072] w slices_S1024x5120_S1024x2048_0_3072⟩]
    concatenates_S1024x512_S1024x512_S1024x2048_S1024x2048_S1024x5120_d1) bitsLt_bf16_f32

/-- The column that column `j` of the packed weights comes from. -/
def from' (j : Fin 5120) : Fin 5120 :=
  if j.val < 512 ∨ 1024 ≤ j.val ∧ j.val < 3072 then ⟨j.val / 128 * 128 + (src ⟨j.val % 128, by omega⟩).val, by have := (src ⟨j.val % 128, by omega⟩).isLt; omega⟩ else j

theorem from_val (j : Fin 5120) : (from' j).val = if j.val < 512 ∨ 1024 ≤ j.val ∧ j.val < 3072 then j.val / 128 * 128 + (j.val % 128 / 32 % 2 * 64 + j.val % 128 / 64 * 32 + j.val % 128 % 32) else j.val := by
  unfold from'
  split_ifs <;> rfl

/-- The four regions of the packed weights, read at column `j`. -/
theorem columns (f : Fin 5120 → EReal) (j : Fin 5120) :
    (if h : j.val < 512 then f ⟨j.val / 128 * 128 + j.val / 32 % 2 * 64 + j.val / 64 % 2 * 32 + j.val % 32, by omega⟩
      else if h : j.val - 512 < 512 then f ⟨512 + (j.val - 512), by omega⟩
      else if h : j.val - 512 - 512 < 2048 then f ⟨1024 + ((j.val - 512 - 512) / 128 * 128 + (j.val - 512 - 512) / 32 % 2 * 64 + (j.val - 512 - 512) / 64 % 2 * 32 + (j.val - 512 - 512) % 32), by omega⟩
      else f ⟨3072 + (j.val - 512 - 512 - 2048), by omega⟩) = f (from' j) := by
  by_cases h1 : j.val < 512
  · rw [dif_pos h1]
    refine congrArg f (Fin.ext ?_)
    rw [from_val, if_pos (by omega)]
    dsimp only
    omega
  rw [dif_neg h1]
  by_cases h2 : j.val - 512 < 512
  · rw [dif_pos h2]
    refine congrArg f (Fin.ext ?_)
    rw [from_val, if_neg (by omega)]
    dsimp only
    omega
  rw [dif_neg h2]
  by_cases h3 : j.val - 512 - 512 < 2048
  · rw [dif_pos h3]
    refine congrArg f (Fin.ext ?_)
    rw [from_val, if_pos (by omega)]
    dsimp only
    omega
  · rw [dif_neg h3]
    refine congrArg f (Fin.ext ?_)
    rw [from_val, if_neg (by omega)]
    dsimp only
    omega

theorem packed_at (w : FVec Ideal S1024x5120 .f32) (k : Fin 1024) (j : Fin 5120) : packed w (ix2 k j) = w (ix2 k (from' j)) := by
  pointwise [packed]
  exact columns (fun e => w (ix2 k e)) j

/-- The table of cosines. -/
def cosines : FVec Ideal S8192x128 .f32 :=
  concatenate S8192x128 1 [⟨S8192x32, Host.cos rowAngles⟩, ⟨S8192x32, Host.cos colAngles⟩, ⟨S8192x32, Host.cos rowAngles⟩, ⟨S8192x32, Host.cos colAngles⟩] concatenates_S8192x32_S8192x32_S8192x32_S8192x32_S8192x128_d1

/-- The table of sines, negative in the lower half. -/
def sines : FVec Ideal S8192x128 .f32 :=
  concatenate S8192x128 1 [⟨S8192x32, Host.negf (Host.sin rowAngles)⟩, ⟨S8192x32, Host.negf (Host.sin colAngles)⟩, ⟨S8192x32, Host.sin rowAngles⟩, ⟨S8192x32, Host.sin colAngles⟩] concatenates_S8192x32_S8192x32_S8192x32_S8192x32_S8192x128_d1

theorem angleAt_eq (n : Fin 8192) (d : Fin 128) : angleAt n d = if d.val / 32 % 2 = 0 then rowAngles (ix2 n ⟨d.val % 32, by omega⟩) else colAngles (ix2 n ⟨d.val % 32, by omega⟩) := by
  pointwise [angleAt, angles]
  by_cases h : d.val / 32 % 2 = 0
  · rw [dif_pos (by omega), if_pos h]
  · rw [dif_neg (by omega), if_neg h]

/-- Four runs of 32 lanes, read at lane `d`. -/
theorem quarters (R C R' C' : Fin 32 → EReal) (d : Fin 128) :
    (if h : d.val < 32 then R ⟨d.val, h⟩ else if h : d.val - 32 < 32 then C ⟨d.val - 32, h⟩ else if h : d.val - 32 - 32 < 32 then R' ⟨d.val - 32 - 32, h⟩ else C' ⟨d.val - 32 - 32 - 32, by omega⟩)
      = if d.val < 64 then (if d.val / 32 % 2 = 0 then R ⟨d.val % 32, by omega⟩ else C ⟨d.val % 32, by omega⟩)
        else if d.val / 32 % 2 = 0 then R' ⟨d.val % 32, by omega⟩ else C' ⟨d.val % 32, by omega⟩ := by
  by_cases h1 : d.val < 32
  · rw [dif_pos h1, if_pos (by omega), if_pos (by omega)]
    exact congrArg R (Fin.ext (show d.val = d.val % 32 by omega))
  rw [dif_neg h1]
  by_cases h2 : d.val - 32 < 32
  · rw [dif_pos h2, if_pos (by omega), if_neg (by omega)]
    exact congrArg C (Fin.ext (show d.val - 32 = d.val % 32 by omega))
  rw [dif_neg h2]
  by_cases h3 : d.val - 32 - 32 < 32
  · rw [dif_pos h3, if_neg (by omega), if_pos (by omega)]
    exact congrArg R' (Fin.ext (show d.val - 32 - 32 = d.val % 32 by omega))
  · rw [dif_neg h3, if_neg (by omega), if_neg (by omega)]
    exact congrArg C' (Fin.ext (show d.val - 32 - 32 - 32 = d.val % 32 by omega))

theorem cosines_at (n : Fin 8192) (d : Fin 128) : cosines (ix2 n d) = Ideal.cos (angleAt n d) := by
  have h : cosines (ix2 n d) = if d.val < 64 then (if d.val / 32 % 2 = 0 then Ideal.cos (rowAngles (ix2 n ⟨d.val % 32, by omega⟩)) else Ideal.cos (colAngles (ix2 n ⟨d.val % 32, by omega⟩)))
      else if d.val / 32 % 2 = 0 then Ideal.cos (rowAngles (ix2 n ⟨d.val % 32, by omega⟩)) else Ideal.cos (colAngles (ix2 n ⟨d.val % 32, by omega⟩)) := by
    pointwise [cosines]
    exact quarters (fun f => Ideal.cos (rowAngles (ix2 n f))) (fun f => Ideal.cos (colAngles (ix2 n f))) (fun f => Ideal.cos (rowAngles (ix2 n f))) (fun f => Ideal.cos (colAngles (ix2 n f))) d
  rw [h, angleAt_eq]
  by_cases h2 : d.val / 32 % 2 = 0
  · rw [if_pos h2, if_pos h2, ite_self]
  · rw [if_neg h2, if_neg h2, ite_self]

theorem sines_at (n : Fin 8192) (d : Fin 128) : sines (ix2 n d) = if d.val < 64 then -Ideal.sin (angleAt n d) else Ideal.sin (angleAt n d) := by
  have h : sines (ix2 n d) = if d.val < 64 then (if d.val / 32 % 2 = 0 then -Ideal.sin (rowAngles (ix2 n ⟨d.val % 32, by omega⟩)) else -Ideal.sin (colAngles (ix2 n ⟨d.val % 32, by omega⟩)))
      else if d.val / 32 % 2 = 0 then Ideal.sin (rowAngles (ix2 n ⟨d.val % 32, by omega⟩)) else Ideal.sin (colAngles (ix2 n ⟨d.val % 32, by omega⟩)) := by
    pointwise [sines]
    exact quarters (fun f => -Ideal.sin (rowAngles (ix2 n f))) (fun f => -Ideal.sin (colAngles (ix2 n f))) (fun f => Ideal.sin (rowAngles (ix2 n f))) (fun f => Ideal.sin (colAngles (ix2 n f))) d
  rw [h, angleAt_eq]
  by_cases h2 : d.val / 32 % 2 = 0
  · rw [if_pos h2, if_pos h2, if_pos h2]
  · rw [if_neg h2, if_neg h2, if_neg h2]

/-- A gain with the halves of its parts apart. -/
def gainOf (g : FVec Ideal S128 .f32) (i : IVec S128 32) : FVec Ideal S1x128 .f32 :=
  shapeCast S1x128 (Host.gather gather_S128_S128x1_S128_n_0_n_n_0_1_1 g (broadcastInDim S128x1 ![0] bcast_S128_S128x1_0 (select (constantI S128 1 0#1) (addi i (broadcastInDim S128 ![] bcast_S_S128 (constantI S_ 32 128#32))) i))) shapeCasts_S128_S1x128

theorem lit0_src : ∀ d : Fin 128, min (lit0 d).toInt.toNat 127 = (src d).val := by
  decide +kernel

theorem lit1_src : ∀ d : Fin 128, min (lit1 d).toInt.toNat 127 = (src d).val := by
  decide +kernel

theorem gainOf_at (g : FVec Ideal S128 .f32) (l : Fin 128 → BitVec 32) (h : ∀ d : Fin 128, min (l d).toInt.toNat 127 = (src d).val) (z : Fin 1) (d : Fin 128) :
    gainOf g (fun i => l (S128.rowMajor i)) (ix2 z d) = g (ix1 (src d)) := by
  have e : ∀ i : S128.Idx, (select (constantI S128 1 0#1) (addi (fun i => l (S128.rowMajor i)) (broadcastInDim S128 ![] bcast_S_S128 (constantI S_ 32 128#32))) fun i => l (S128.rowMajor i)) i = l (S128.rowMajor i) := fun i => rfl
  unfold gainOf
  rw [funext e, shapeCast_apply _ _ (ix2 z d) (Shape.Idx.ofFin d) (by rw [Shape.rowMajor_val_one, Shape.rowMajor_val_two]; exact (show d.val = z.val * 128 + d.val by omega))]
  refine (gather_take _ rfl rfl rfl rfl g _ d (by norm_num)).trans ?_
  refine congrArg g (funext fun a => Fin.ext ?_)
  fin_cases a
  refine Eq.trans ?_ (h d)
  refine congrArg (fun b : BitVec 32 => min b.toInt.toNat 127) ?_
  exact congrArg l (Fin.ext ((Shape.rowMajor_val_one _).trans rfl))

end Cert.OddKernelIdeal.Proj

end
-- ==== Proof.OddHost.lean ====
module

public import proofs.«01_k».proof.Proof.OddTables

/-! The odd layer's input projection: what the kernel's blocks hold. -/

@[expose] public section

set_option maxRecDepth 16384

noncomputable section

namespace Cert.OddKernelIdeal.Proj

open Cert.OddKernelIdeal Cert.OddKernelIdeal.Gen Idealize.ShloMosaic Idealize.ShloMosaic.TcCoe Idealize.SL.Sem
open Idealize.ShloMosaic.Pipeline (Dat)
open Cert.EvenReferenceIdeal.Proj (normed)
open Cert.OddReferenceIdeal.Proj

variable (m : (ℓ : Loc nD τ sig) → Buf (Elt Ideal) ℓ)

theorem idx : ∀ t : Fin cfg0.N, win0_0.index t = ![(grid0.coords t 0).val, (grid0.coords t 1).val, 0]
    ∧ win0_1.index t = ![0, 0]
    ∧ win0_2.index t = ![(grid0.coords t 0).val, 0, 0]
    ∧ win0_3.index t = ![(grid0.coords t 0).val, 0, 0]
    ∧ win0_4.index t = ![0, 0]
    ∧ win0_5.index t = ![(grid0.coords t 1).val, 0]
    ∧ win0_6.index t = ![(grid0.coords t 1).val, 0]
    ∧ win0_7.index t = ![0, 0]
    ∧ win0_8.index t = ![0, 0]
    ∧ win0_9.index t = ![(grid0.coords t 0).val, (grid0.coords t 1).val, 0]
    ∧ win0_10.index t = ![(grid0.coords t 0).val, (grid0.coords t 1).val, 0]
    ∧ win0_11.index t = ![(grid0.coords t 0).val, (grid0.coords t 1).val, 0]
    ∧ win0_12.index t = ![(grid0.coords t 0).val, (grid0.coords t 1).val, 0] :=
  (by decide +kernel : ∀ t : Fin grid0.N, _)

variable (c : Dev nD) (t : Fin cfg0.N)

/-- The batch that point `t` works on. -/
def batch : Fin 2 := grid0.coords t 0

/-- The block of rows that point `t` works on. -/
def tile : Fin 16 := grid0.coords t 1

/-- Row `r` of the block of point `t`. -/
def line (r : Fin 512) : Fin 8192 := ⟨512 * (tile t).val + r.val, by have := (tile t).isLt; omega⟩

theorem line_eq (r : Fin 512) : (grid0.coords t 1).val * 512 + r.val = (line t r).val := by
  show (tile t).val * 512 + r.val = 512 * (tile t).val + r.val
  omega

/-- The arguments: the tokens, shift, scale, the norm's gain, the weights, the gains of the queries and keys. -/
abbrev aX : FVec Ideal S2x8192x1024 .f32 := m ((c : Thread nD τ).loc main_arg0)

@[inherit_doc aX] abbrev aSh : FVec Ideal S2x1x1024 .f32 := m ((c : Thread nD τ).loc main_arg1)

@[inherit_doc aX] abbrev aSc : FVec Ideal S2x1x1024 .f32 := m ((c : Thread nD τ).loc main_arg2)

@[inherit_doc aX] abbrev aG : FVec Ideal S1024 .f32 := m ((c : Thread nD τ).loc main_arg3)

@[inherit_doc aX] abbrev aW : FVec Ideal S1024x5120 .f32 := m ((c : Thread nD τ).loc main_arg4)

@[inherit_doc aX] abbrev aQ : FVec Ideal S128 .f32 := m ((c : Thread nD τ).loc main_arg5)

@[inherit_doc aX] abbrev aK : FVec Ideal S128 .f32 := m ((c : Thread nD τ).loc main_arg6)

/-- The normed rows of a block. -/
def rowsT (x0 : Vec Ideal S1x512x1024 .f32) (x1 : Vec Ideal S1x1024 .f32) (x2 x3 : Vec Ideal S1x1x1024 .f32) : FVec Ideal S512x1024 .bf16 :=
  k0_pay4 (View.ld x0 r0_0) (View.ld x1 r0_1) (View.ld x2 r0_2) (View.ld x3 r0_2)

theorem rows_at (r : Fin 512) (k : Fin 1024) :
    rowsT (iblk m c 0 t) (iblk m c 1 t) (iblk m c 2 t) (iblk m c 3 t) (ix2 r k) = normed (aX m c) (aSh m c) (aSc m c) (aG m c) (ix3 (batch t) (line t r) k) := by
  pointwise [rowsT, k0_pay4, normed]
  blk_point [iblk, V, idx t, batch, line, tile]

theorem packed_entry : (V m c main_v11 : FVec Ideal S1024x5120 .bf16) = packed (aW m c) := by
  unfold V
  after_results_simp <;> (try dsimp only [Matrix.cons_val]) <;> (try after_results_simp) <;> rfl

theorem cosines_entry : (V m c main_v40 : FVec Ideal S8192x128 .f32) = cosines := by
  unfold V
  after_results_simp <;> (try dsimp only [Matrix.cons_val]) <;> (try after_results_simp) <;> rfl

theorem sines_entry : (V m c main_v47 : FVec Ideal S8192x128 .f32) = sines := by
  unfold V
  after_results_simp <;> (try dsimp only [Matrix.cons_val]) <;> (try after_results_simp) <;> rfl

theorem gainQ_entry : (V m c main_v59 : FVec Ideal S1x128 .f32) = gainOf (aQ m c) (fun i => lit0 (S128.rowMajor i)) := by
  unfold V
  after_results_simp <;> (try dsimp only [Matrix.cons_val]) <;> (try after_results_simp) <;> rfl

theorem gainK_entry : (V m c main_v60 : FVec Ideal S1x128 .f32) = gainOf (aK m c) (fun i => lit1 (S128.rowMajor i)) := by
  unfold V
  after_results_simp <;> (try dsimp only [Matrix.cons_val]) <;> (try after_results_simp) <;> rfl

end Cert.OddKernelIdeal.Proj

end
-- ==== Proof.OddHeads.lean ====
module

public import proofs.«01_k».proof.Proof.OddTables

/-! The odd layer's input projection: the kernel's heads. -/

@[expose] public section

set_option maxRecDepth 16384

noncomputable section

namespace Cert.OddKernelIdeal.Proj

open Cert.OddKernelIdeal Cert.OddKernelIdeal.Gen Idealize.ShloMosaic
open Cert.OddReferenceIdeal.Proj

theorem inbP (s : Fin 2) : S512x512.Slices ![0, 256 * s.val] S512x256 := by
  revert s
  decide

theorem inbN (e : Fin 2) : S512x256.Slices ![0, 128 * e.val] S512x128 := by
  revert e
  decide

/-- Where two lanes of a pair of heads lie in the same head. -/
def maskT : IVec S256x256 1 := k0_pay9 (iota .tc S256x256 32 [0] iota_S256x256_d0_w32) 128#32 k0_pay7 k0_pay8

@[inherit_doc maskT] def onesT : FVec Ideal S256x256 .bf16 := k0_pay11 maskT (Scalar.ofBits .f32 0#32) k0_pay10

/-- A pair of heads, normed. -/
def pairT (P : FVec Ideal S512x512 .f32) (ones : FVec Ideal S256x256 .bf16) (s : Fin 2) : FVec Ideal S512x256 .f32 :=
  mulf (extractStridedSlice S512x256 ![0, 256 * s.val] P (inbP s)) (rsqrt (addf (mulf (matmul dot_S512x256_S256x256_S512x256_1_0_0_1_n_n none
    (truncf .bf16 (mulf (extractStridedSlice S512x256 ![0, 256 * s.val] P (inbP s)) (extractStridedSlice S512x256 ![0, 256 * s.val] P (inbP s))) bitsLt_bf16_f32) ones (constant S512x256 .f32 0x00000000#32))
    (broadcast S512x256 (Scalar.ofBits .f32 0x3C000000#32))) (broadcast S512x256 (Scalar.ofBits .f32 0x358637BD#32))))

/-- A head of a pair with its gain. -/
def gainedT (gain : FVec Ideal S1x128 .f32) (N : FVec Ideal S512x256 .f32) (e : Fin 2) : FVec Ideal S512x128 .f32 :=
  mulf (extractStridedSlice S512x128 ![0, 128 * e.val] N (inbN e)) (broadcastTo S512x128 gain broadcasts_S1x128_S512x128)

/-- A head after the rotation. -/
def headT (cos sin : FVec Ideal S512x128 .f32) (v : FVec Ideal S512x128 .f32) : FVec Ideal S512x128 .f32 :=
  addf (mulf v cos) (mulf (dynamicRotate 1 64#32 none v rotates_S512x128_d1) sin)

/-- A stored head of the keys and of the queries. -/
def keyT (v : FVec Ideal S512x128 .f32) : FVec Ideal S1x512x128 .bf16 :=
  shapeCast S1x512x128 (truncf .bf16 v bitsLt_bf16_f32) shapeCasts_S512x128_S1x512x128

@[inherit_doc keyT] def queryT (v : FVec Ideal S512x128 .f32) : FVec Ideal S1x512x128 .bf16 :=
  shapeCast S1x512x128 (truncf .bf16 (mulf v (broadcast S512x128 (Named.named κ "qscale" 0x3E0293EE#32))) bitsLt_bf16_f32) shapeCasts_S512x128_S1x512x128

/-- The head that lane `b` of a pair of heads lies in. -/
def headOf (b : BitVec 32) : BitVec 32 :=
  Scalar.select
    (IntOp.andi
      (IntOp.cmpi CmpIPredicate.ne
        (IntOp.subi (BitVec.setWidth 32 (IntOp.cmpi CmpIPredicate.sgt b 0#32)) (BitVec.setWidth 32 (IntOp.cmpi CmpIPredicate.slt b 0#32)))
        (Scalar.subi (Scalar.extui (Scalar.cmpi CmpIPredicate.sgt 128#32 0#32)) (Scalar.extui (Scalar.cmpi CmpIPredicate.slt 128#32 0#32))))
      (IntOp.cmpi CmpIPredicate.ne (IntOp.remsi ArithUnit.vector b 128#32) 0#32))
    (IntOp.subi (IntOp.divsi ArithUnit.vector b 128#32) 1#32)
    (IntOp.divsi ArithUnit.vector b 128#32)

theorem headOf_eq : ∀ k : Fin 256, headOf (BitVec.ofNat 32 k.val) = BitVec.ofNat 32 (k.val / 128) := by
  decide +kernel

theorem same_head : ∀ a b : Fin 2, IntOp.cmpi CmpIPredicate.eq (BitVec.ofNat 32 a.val) (BitVec.ofNat 32 b.val) = if a.val = b.val then 1#1 else 0#1 := by
  decide +kernel

theorem mask_at (k c : Fin 256) : maskT (ix2 k c) = if k.val / 128 = c.val / 128 then 1#1 else 0#1 := by
  have h : maskT (ix2 k c) = IntOp.cmpi CmpIPredicate.eq (headOf (BitVec.ofNat 32 k.val)) (headOf (BitVec.ofNat 32 c.val)) := by
    pointwise [maskT, k0_pay9, k0_pay7, k0_pay8]
    rfl
  rw [h, headOf_eq, headOf_eq]
  exact same_head ⟨k.val / 128, by omega⟩ ⟨c.val / 128, by omega⟩

theorem ones_at (k c : Fin 256) : onesT (ix2 k c) = if k.val / 128 = c.val / 128 then 1 else 0 := by
  pointwise [onesT, k0_pay11, k0_pay10]
  rw [mask_at]
  by_cases h : k.val / 128 = c.val / 128
  · rw [if_pos h, if_pos h]
    rfl
  · rw [if_neg h, if_neg h]
    rfl

theorem pair_at (P : FVec Ideal S512x512 .f32) (ones : FVec Ideal S256x256 .bf16) (s : Fin 2) (r : Fin 512) (c : Fin 256) :
    pairT P ones s (ix2 r c) = P (ix2 r ⟨256 * s.val + c.val, by omega⟩)
      * Ideal.rsqrt ((∑ k : Fin 256, P (ix2 r ⟨256 * s.val + k.val, by omega⟩) * P (ix2 r ⟨256 * s.val + k.val, by omega⟩) * ones (ix2 k c)) * Ideal.ofBits .f32 0x3C000000#32 + Ideal.ofBits .f32 0x358637BD#32) := by
  pointwise [pairT]

theorem gained_at (gain : FVec Ideal S1x128 .f32) (N : FVec Ideal S512x256 .f32) (e : Fin 2) (r : Fin 512) (d : Fin 128) :
    gainedT gain N e (ix2 r d) = N (ix2 r ⟨128 * e.val + d.val, by omega⟩) * gain (ix2 0 d) := by
  pointwise [gainedT]

theorem head_at (cos sin v : FVec Ideal S512x128 .f32) (r : Fin 512) (d : Fin 128) :
    headT cos sin v (ix2 r d) = v (ix2 r d) * cos (ix2 r d) + v (ix2 r (other d)) * sin (ix2 r d) := by
  pointwise [headT, other]
  exact congrArg (fun i => v (ix2 r d) * cos (ix2 r d) + v (ix2 r i) * sin (ix2 r d)) (Fin.ext (show (d.val + 128 - 64) % 128 = (d.val + 64) % 128 by omega))

theorem key_at (v : FVec Ideal S512x128 .f32) (z : Fin 1) (r : Fin 512) (d : Fin 128) : keyT v (ix3 z r d) = v (ix2 r d) := by
  pointwise [keyT]

theorem query_at (v : FVec Ideal S512x128 .f32) (z : Fin 1) (r : Fin 512) (d : Fin 128) :
    queryT v (ix3 z r d) = Ideal.div (Ideal.div (v (ix2 r d)) rootAt) lnAt := by
  rw [← scale_eq]
  pointwise [queryT]
  rfl

/-- One lane of a normed head with its gain: the head whose lanes the columns of `P` hold in another order. -/
theorem lane_eq (P : FVec Ideal S512x512 .f32) (gain : FVec Ideal S1x128 .f32) (g : FVec Ideal S128 .f32) (hg : ∀ d : Fin 128, gain (ix2 0 d) = g (ix1 (src d)))
    (s e : Fin 2) (r : Fin 512) (p : Fin 5120 → EReal) (o : ℕ) (ho : o + 128 ≤ 5120)
    (hP : ∀ d : Fin 128, P (ix2 r ⟨256 * s.val + (128 * e.val + d.val), by omega⟩) = p ⟨o + (src d).val, by omega⟩) (d : Fin 128) :
    gainedT gain (pairT P onesT s) e (ix2 r d) = headAt p g o ho (src d) := by
  rw [gained_at, pair_at, hg]
  unfold headAt
  have h1 : ∑ k : Fin 256, P (ix2 r ⟨256 * s.val + k.val, by omega⟩) * P (ix2 r ⟨256 * s.val + k.val, by omega⟩) * onesT (ix2 k ⟨128 * e.val + d.val, by omega⟩)
      = ∑ k : Fin 128, p ⟨o + k.val, by omega⟩ * p ⟨o + k.val, by omega⟩ := by
    rw [← sum_src (fun k : Fin 128 => p ⟨o + k.val, by omega⟩ * p ⟨o + k.val, by omega⟩)]
    simp only [ones_at]
    refine (sum_head (fun k => P (ix2 r ⟨256 * s.val + k.val, by omega⟩) * P (ix2 r ⟨256 * s.val + k.val, by omega⟩)) ⟨128 * e.val + d.val, by omega⟩).trans ?_
    refine Finset.sum_congr rfl fun x _ => ?_
    rw [← hP x]
    have hx : (⟨256 * s.val + ((128 * e.val + d.val) / 128 * 128 + x.val), by omega⟩ : Fin 512) = ⟨256 * s.val + (128 * e.val + x.val), by omega⟩ := Fin.ext (by dsimp only; omega)
    exact congrArg (fun j => P (ix2 r j) * P (ix2 r j)) hx
  rw [h1, mean_eq, ← hP d]

/-- A stored head, before its scale. -/
theorem turned_head (cos sin : FVec Ideal S512x128 .f32) (n : Fin 8192) (r : Fin 512) (hc : ∀ d, cos (ix2 r d) = Ideal.cos (angleAt n d))
    (hs : ∀ d : Fin 128, sin (ix2 r d) = if d.val < 64 then -Ideal.sin (angleAt n d) else Ideal.sin (angleAt n d))
    (v : FVec Ideal S512x128 .f32) (u : Fin 128 → EReal) (hv : ∀ d, v (ix2 r d) = u (src d)) (d : Fin 128) : headT cos sin v (ix2 r d) = turned u n d := by
  rw [head_at, hc, hs, hv, hv]
  unfold turned
  by_cases h : d.val < 64
  · rw [if_pos h, if_pos h, mul_neg, sub_eq_add_neg]
  · rw [if_neg h, if_neg h]

theorem gate_pay (h : FVec Ideal S512x1024 .bf16) (w : Vec Ideal S1024x512 .bf16) (z : Fin 1) (r : Fin 512) (d : Fin 512) :
    k0_pay17 h w (ix3 z r d) = Ideal.ofBits .f32 0x3F000000#32 * k0_pay18 h w (ix2 r d) + Ideal.ofBits .f32 0x3F000000#32 * k0_pay18 h w (ix2 r d) * Ideal.tanh (Ideal.ofBits .f32 0x3F000000#32 * k0_pay18 h w (ix2 r d)) := by
  pointwise [k0_pay17, k0_pay18]

theorem value_pay (h : FVec Ideal S512x1024 .bf16) (w : Vec Ideal S1024x512 .bf16) (z : Fin 1) (r : Fin 512) (d : Fin 512) :
    k0_pay3 h w (ix3 z r d) = k0_pay18 h w (ix2 r d) := by
  pointwise [k0_pay3, k0_pay18]

theorem pay18_at (h : FVec Ideal S512x1024 .bf16) (w : Vec Ideal S1024x512 .bf16) (r : Fin 512) (d : Fin 512) :
    k0_pay18 h w (ix2 r d) = ∑ k : Fin 1024, h (ix2 r k) * (w : FVec Ideal S1024x512 .bf16) (ix2 k d) := by
  pointwise [k0_pay18]

end Cert.OddKernelIdeal.Proj

end
-- ==== Proof.OddPieces.lean ====
module

public import proofs.«01_k».proof.Proof.OddHost
public import proofs.«01_k».proof.Proof.OddHeads

/-! The odd layer's input projection: the kernel's stores. -/

@[expose] public section

set_option maxRecDepth 16384

noncomputable section

namespace Cert.OddKernelIdeal.Proj

open Cert.OddKernelIdeal Cert.OddKernelIdeal.Gen Idealize.ShloMosaic

theorem inbW (o : ℕ) (h : o + 512 ≤ 5120) (a : Fin 2) : (![0, o] : Fin 2 → ℕ) a + S1024x512.size a ≤ S1024x5120.size a := by
  fin_cases a
  · show 0 + 1024 ≤ 1024; omega
  · show o + 512 ≤ 5120; exact h

theorem inbK (h : Fin 4) (a : Fin 3) : (![0, 0, 128 * h.val] : Fin 3 → ℕ) a + S1x512x128.size a ≤ S1x512x512.size a := by
  have := h.isLt
  fin_cases a
  · show 0 + 1 ≤ 1; omega
  · show 0 + 512 ≤ 512; omega
  · show 128 * h.val + 128 ≤ 512; omega

theorem inbQ (h : Fin 16) (a : Fin 3) : (![0, 0, 128 * h.val] : Fin 3 → ℕ) a + S1x512x128.size a ≤ S1x512x2048.size a := by
  have := h.isLt
  fin_cases a
  · show 0 + 1 ≤ 1; omega
  · show 0 + 512 ≤ 512; omega
  · show 128 * h.val + 128 ≤ 2048; omega

theorem inbG (h : Fin 4) (a : Fin 3) : (![0, 0, 512 * h.val] : Fin 3 → ℕ) a + S1x512x512.size a ≤ S1x512x2048.size a := by
  have := h.isLt
  fin_cases a
  · show 0 + 1 ≤ 1; omega
  · show 0 + 512 ≤ 512; omega
  · show 512 * h.val + 512 ≤ 2048; omega

variable (x0 : Vec Ideal S1x512x1024 .f32) (x1 : Vec Ideal S1x1024 .f32) (x2 x3 : Vec Ideal S1x1x1024 .f32) (x4 : Vec Ideal S1024x5120 .bf16)
  (x5 x6 : Vec Ideal S512x128 .f32) (x7 x8 : Vec Ideal S1x128 .f32)

/-- The weights' 512 columns from `o` on. -/
def colsT (o : ℕ) (h : o + 512 ≤ 5120) : Vec Ideal S1024x512 .bf16 := View.ld x4 (Rect.unit (s := S1024x5120) ![0, o] S1024x512.size (inbW o h))

/-- The product of the rows and those columns. -/
def projT (o : ℕ) (h : o + 512 ≤ 5120) : FVec Ideal S512x512 .f32 := k0_pay18 (rowsT x0 x1 x2 x3) (colsT x4 o h)

/-- Half `e` of pair `s` of the 512 columns from `o` on, rotated. -/
def turnT (gain : Vec Ideal S1x128 .f32) (o : ℕ) (h : o + 512 ≤ 5120) (s e : Fin 2) : FVec Ideal S512x128 .f32 :=
  headT (k0_pay5 (View.ld x5 r0_3)) (k0_pay6 (View.ld x6 r0_3)) (gainedT (k0_pay12 (View.ld gain r0_4)) (pairT (projT x0 x1 x2 x3 x4 o h) onesT s) e)

/-- The stores of the keys, the last first. -/
def pieces9 : List (View.Piece (Elt Ideal) S1x512x512 .bf16) :=
  List.ofFn fun q : Fin 4 => ⟨Rect.unit (s := S1x512x512) ![0, 0, 128 * (3 - q.val)] S1x512x128.size (inbK ⟨3 - q.val, by omega⟩),
    keyT (turnT x0 x1 x2 x3 x4 x5 x6 x8 0 (by omega) ⟨(3 - q.val) / 2, by omega⟩ ⟨(3 - q.val) % 2, by omega⟩)⟩

/-- The stores of the queries, the last first. -/
def pieces11 : List (View.Piece (Elt Ideal) S1x512x2048 .bf16) :=
  List.ofFn fun q : Fin 16 => ⟨Rect.unit (s := S1x512x2048) ![0, 0, 128 * (15 - q.val)] S1x512x128.size (inbQ ⟨15 - q.val, by omega⟩),
    queryT (turnT x0 x1 x2 x3 x4 x5 x6 x7 (1024 + 512 * ((15 - q.val) / 4)) (by omega) ⟨(15 - q.val) % 4 / 2, by omega⟩ ⟨(15 - q.val) % 2, by omega⟩)⟩

/-- The stores of the gate, the last first. -/
def pieces12 : List (View.Piece (Elt Ideal) S1x512x2048 .f32) :=
  List.ofFn fun q : Fin 4 => ⟨Rect.unit (s := S1x512x2048) ![0, 0, 512 * (3 - q.val)] S1x512x512.size (inbG ⟨3 - q.val, by omega⟩),
    k0_pay17 (rowsT x0 x1 x2 x3) (colsT x4 (3072 + 512 * (3 - q.val)) (by omega))⟩

/-- The store of the values. -/
def pieces10 : List (View.Piece (Elt Ideal) S1x512x512 .bf16) :=
  [⟨r0_39, k0_pay3 (rowsT x0 x1 x2 x3) (colsT x4 512 (by omega))⟩]

theorem out10 : out0_10 x0 x1 x2 x3 x4 x5 x6 x7 x8 = View.canon (pieces10 x0 x1 x2 x3 x4) := by
  sl_kernel_rfl

theorem out12 : out0_12 x0 x1 x2 x3 x4 x5 x6 x7 x8 = View.canon (pieces12 x0 x1 x2 x3 x4) := by
  sl_kernel_rfl

theorem out9 : out0_9 x0 x1 x2 x3 x4 x5 x6 x7 x8 = View.canon (pieces9 x0 x1 x2 x3 x4 x5 x6 x8) := by
  sl_kernel_rfl

theorem out11 : out0_11 x0 x1 x2 x3 x4 x5 x6 x7 x8 = View.canon (pieces11 x0 x1 x2 x3 x4 x5 x6 x7) := by
  sl_kernel_rfl

end Cert.OddKernelIdeal.Proj

end
-- ==== Proof.OddProj.lean ====
module

public import proofs.«01_k».proof.Proof.OddPieces

/-! The odd layer's input projection: what the kernel's four arrays hold. -/

@[expose] public section

set_option maxRecDepth 16384

noncomputable section

namespace Cert.OddKernelIdeal.Proj

open Cert.OddKernelIdeal Cert.OddKernelIdeal.Gen Idealize.ShloMosaic Idealize.ShloMosaic.TcCoe Idealize.SL.Sem
open Idealize.ShloMosaic.Pipeline (Dat)
open Cert.OddReferenceIdeal.Proj

variable (m : (ℓ : Loc nD τ sig) → Buf (Elt Ideal) ℓ) (c : Dev nD) (t : Fin cfg0.N)

theorem w_whole (k : Fin 1024) (j : Fin 5120) : (iblk m c 4 t : FVec Ideal S1024x5120 .bf16) (ix2 k j) = packed (aW m c) (ix2 k j) := by
  rw [← packed_entry]
  show V m c main_v11 (((cfg0.win 4).blk t).view.emb (ix2 k j)) = V m c main_v11 (ix2 k j)
  refine congrArg (V m c main_v11) ?_
  blk_ext [idx t]

theorem cos_whole (r : Fin 512) (d : Fin 128) : (iblk m c 5 t : FVec Ideal S512x128 .f32) (ix2 r d) = cosines (ix2 (line t r) d) := by
  rw [← cosines_entry m c]
  show V m c main_v40 (((cfg0.win 5).blk t).view.emb (ix2 r d)) = V m c main_v40 (ix2 (line t r) d)
  refine congrArg (V m c main_v40) ?_
  blk_ext [idx t]
  exact line_eq t r

theorem sin_whole (r : Fin 512) (d : Fin 128) : (iblk m c 6 t : FVec Ideal S512x128 .f32) (ix2 r d) = sines (ix2 (line t r) d) := by
  rw [← sines_entry m c]
  show V m c main_v47 (((cfg0.win 6).blk t).view.emb (ix2 r d)) = V m c main_v47 (ix2 (line t r) d)
  refine congrArg (V m c main_v47) ?_
  blk_ext [idx t]
  exact line_eq t r

theorem gainQ_whole (d : Fin 128) : (iblk m c 7 t : FVec Ideal S1x128 .f32) (ix2 0 d) = aQ m c (ix1 (src d)) := by
  rw [← gainOf_at (aQ m c) lit0 lit0_src 0 d, ← gainQ_entry m c]
  show V m c main_v59 (((cfg0.win 7).blk t).view.emb (ix2 0 d)) = V m c main_v59 (ix2 0 d)
  refine congrArg (V m c main_v59) ?_
  blk_ext [idx t]

theorem gainK_whole (d : Fin 128) : (iblk m c 8 t : FVec Ideal S1x128 .f32) (ix2 0 d) = aK m c (ix1 (src d)) := by
  rw [← gainOf_at (aK m c) lit1 lit1_src 0 d, ← gainK_entry m c]
  show V m c main_v60 (((cfg0.win 8).blk t).view.emb (ix2 0 d)) = V m c main_v60 (ix2 0 d)
  refine congrArg (V m c main_v60) ?_
  blk_ext [idx t]

theorem pay12_at (x : Vec Ideal S1x128 .f32) (d : Fin 128) : k0_pay12 (View.ld x r0_4) (ix2 0 d) = (x : FVec Ideal S1x128 .f32) (ix2 0 d) := by
  have h : ∀ y : Vec Ideal S1x128 .f32, k0_pay12 y (ix2 0 d) = (y : FVec Ideal S1x128 .f32) (ix2 0 d) := fun y => by pointwise [k0_pay12]
  rw [h]
  refine congrArg x (funext fun a => Fin.ext ?_)
  fin_cases a
  · rfl
  · show 0 + 1 * d.val = d.val; omega

theorem pay5_at (x : Vec Ideal S512x128 .f32) (r : Fin 512) (d : Fin 128) : k0_pay5 (View.ld x r0_3) (ix2 r d) = (x : FVec Ideal S512x128 .f32) (ix2 r d) := by
  have h : ∀ y : Vec Ideal S512x128 .f32, k0_pay5 y (ix2 r d) = (y : FVec Ideal S512x128 .f32) (ix2 r d) := fun y => by pointwise [k0_pay5]
  rw [h]
  refine congrArg x (funext fun a => Fin.ext ?_)
  fin_cases a
  · show 0 + 1 * r.val = r.val; omega
  · show 0 + 1 * d.val = d.val; omega

theorem pay6_at (x : Vec Ideal S512x128 .f32) (r : Fin 512) (d : Fin 128) : k0_pay6 (View.ld x r0_3) (ix2 r d) = (x : FVec Ideal S512x128 .f32) (ix2 r d) :=
  pay5_at x r d

theorem w_block (o : ℕ) (h : o + 512 ≤ 5120) (k : Fin 1024) (d : Fin 512) :
    (colsT (iblk m c 4 t) o h : FVec Ideal S1024x512 .bf16) (ix2 k d) = packed (aW m c) (ix2 k ⟨o + d.val, by omega⟩) := by
  rw [← w_whole m c t]
  refine congrArg (iblk m c 4 t) (funext fun a => Fin.ext ?_)
  fin_cases a
  · show 0 + 1 * k.val = k.val; omega
  · show o + 1 * d.val = o + d.val; omega

/-- The row of the product that row `r` of point `t` works on. -/
def pRow (r : Fin 512) (j : Fin 5120) : EReal := prod (aX m c) (aSh m c) (aSc m c) (aG m c) (aW m c) (ix3 (batch t) (line t r) j)

theorem proj_at (o : ℕ) (ho : o + 512 ≤ 5120) (r d : Fin 512) (j : Fin 5120) (e : from' ⟨o + d.val, by omega⟩ = j) :
    projT (iblk m c 0 t) (iblk m c 1 t) (iblk m c 2 t) (iblk m c 3 t) (iblk m c 4 t) o ho (ix2 r d) = pRow m c t r j := by
  rw [projT, pay18_at, pRow, prod_at]
  refine Finset.sum_congr rfl fun k _ => ?_
  rw [rows_at, w_block m c t o ho, packed_at, e]

theorem turn_at (gain : Vec Ideal S1x128 .f32) (g : FVec Ideal S128 .f32) (hg : ∀ d : Fin 128, (gain : FVec Ideal S1x128 .f32) (ix2 0 d) = g (ix1 (src d)))
    (o : ℕ) (ho : o + 512 ≤ 5120) (h : o = 0 ∨ o % 128 = 0 ∧ 1024 ≤ o ∧ o + 512 ≤ 3072) (s e : Fin 2) (r : Fin 512) (d : Fin 128)
    (o' : ℕ) (ho' : o' + 128 ≤ 5120) (eo : o' = o + 256 * s.val + 128 * e.val) :
    turnT (iblk m c 0 t) (iblk m c 1 t) (iblk m c 2 t) (iblk m c 3 t) (iblk m c 4 t) (iblk m c 5 t) (iblk m c 6 t) gain o ho s e (ix2 r d) = turned (headAt (pRow m c t r) g o' ho') (line t r) d := by
  refine turned_head _ _ (line t r) r (fun d => ?_) (fun d => ?_) _ (headAt (pRow m c t r) g o' ho') (fun d => ?_) d
  · rw [pay5_at, cos_whole, cosines_at]
  · rw [pay6_at, sin_whole, sines_at]
  · refine lane_eq _ _ g (fun d => (pay12_at gain d).trans (hg d)) s e r (pRow m c t r) o' ho' (fun d => ?_) d
    refine proj_at m c t o ho r _ _ (Fin.ext ?_)
    rw [from_val]
    dsimp only
    have hd : (o + (256 * s.val + (128 * e.val + d.val))) % 128 = d.val := by omega
    have hs : (src d).val = d.val / 32 % 2 * 64 + d.val / 64 * 32 + d.val % 32 := rfl
    rw [if_pos (by omega), hd, hs]
    omega

theorem turned_congr (p : Fin 5120 → EReal) (g : FVec Ideal S128 .f32) (n : Fin 8192) (o o' : ℕ) (ho : o + 128 ≤ 5120) (ho' : o' + 128 ≤ 5120) (e : o = o') (d d' : Fin 128) (e' : d = d') :
    turned (headAt p g o ho) n d = turned (headAt p g o' ho') n d' := by
  subst e e'
  rfl

theorem key_point (h : Fin 4) (z : Fin 1) (r : Fin 512) (d : Fin 128) (s e : Fin 2) (hs : h.val = 2 * s.val + e.val) :
    keyT (turnT (iblk m c 0 t) (iblk m c 1 t) (iblk m c 2 t) (iblk m c 3 t) (iblk m c 4 t) (iblk m c 5 t) (iblk m c 6 t) (iblk m c 8 t) 0 (by omega) s e) (ix3 z r d)
      = res0 (aX m c) (aSh m c) (aSc m c) (aG m c) (aW m c) (aK m c) (ix3 (batch t) (line t r) ⟨128 * h.val + d.val, by omega⟩) := by
  rw [key_at, res0_at]
  refine (turn_at m c t (iblk m c 8 t) (aK m c) (gainK_whole m c t) 0 (by omega) (Or.inl rfl) s e r d (128 * h.val) (by omega) (by omega)).trans ?_
  exact turned_congr _ _ _ _ _ _ _ (by dsimp only; omega) _ _ (Fin.ext (by dsimp only; omega))

theorem query_point (h : Fin 16) (z : Fin 1) (r : Fin 512) (d : Fin 128) (o : ℕ) (ho : o + 512 ≤ 5120) (eo : o = 1024 + 512 * (h.val / 4)) (s e : Fin 2) (hs : h.val % 4 = 2 * s.val + e.val) :
    queryT (turnT (iblk m c 0 t) (iblk m c 1 t) (iblk m c 2 t) (iblk m c 3 t) (iblk m c 4 t) (iblk m c 5 t) (iblk m c 6 t) (iblk m c 7 t) o ho s e) (ix3 z r d)
      = res2 (aX m c) (aSh m c) (aSc m c) (aG m c) (aW m c) (aQ m c) (ix3 (batch t) (line t r) ⟨128 * h.val + d.val, by omega⟩) := by
  rw [query_at, res2_at]
  refine congrArg (fun v => Ideal.div (Ideal.div v rootAt) lnAt) ?_
  refine (turn_at m c t (iblk m c 7 t) (aQ m c) (gainQ_whole m c t) o ho (Or.inr (by omega)) s e r d (1024 + 128 * h.val) (by omega) (by omega)).trans ?_
  exact turned_congr _ _ _ _ _ _ _ (by dsimp only; omega) _ _ (Fin.ext (by dsimp only; omega))

theorem value_point (z : Fin 1) (r d : Fin 512) :
    k0_pay3 (rowsT (iblk m c 0 t) (iblk m c 1 t) (iblk m c 2 t) (iblk m c 3 t)) (colsT (iblk m c 4 t) 512 (by omega)) (ix3 z r d) = res1 (aX m c) (aSh m c) (aSc m c) (aG m c) (aW m c) (ix3 (batch t) (line t r) d) := by
  rw [value_pay, res1_at]
  refine proj_at m c t 512 (by omega) r d _ (Fin.ext ?_)
  rw [from_val]
  exact if_neg (by dsimp only; omega)

/-- No entry of the gate's columns of the product is `-∞`. -/
def Above : Prop := ∀ (b : Fin 2) (n : Fin 8192) (j : Fin 2048), prod (aX m c) (aSh m c) (aSc m c) (aG m c) (aW m c) (ix3 b n ⟨3072 + j.val, by omega⟩) ≠ ⊥

theorem gate_point (hm : Above m c) (h : Fin 4) (z : Fin 1) (r d : Fin 512) (o : ℕ) (ho : o + 512 ≤ 5120) (eo : o = 3072 + 512 * h.val) :
    k0_pay17 (rowsT (iblk m c 0 t) (iblk m c 1 t) (iblk m c 2 t) (iblk m c 3 t)) (colsT (iblk m c 4 t) o ho) (ix3 z r d)
      = res3 (aX m c) (aSh m c) (aSc m c) (aG m c) (aW m c) (ix3 (batch t) (line t r) ⟨512 * h.val + d.val, by omega⟩) := by
  have e : k0_pay18 (rowsT (iblk m c 0 t) (iblk m c 1 t) (iblk m c 2 t) (iblk m c 3 t)) (colsT (iblk m c 4 t) o ho) (ix2 r d)
      = prod (aX m c) (aSh m c) (aSc m c) (aG m c) (aW m c) (ix3 (batch t) (line t r) ⟨3072 + (512 * h.val + d.val), by omega⟩) := by
    refine proj_at m c t o ho r d _ (Fin.ext ?_)
    rw [from_val]
    refine (if_neg (by dsimp only; omega)).trans ?_
    dsimp only
    omega
  rw [gate_pay, res3_at, e]
  exact silu_eq _ (hm (batch t) (line t r) ⟨512 * h.val + d.val, by omega⟩)

theorem pieces9_apply (y : S1x512x512.Idx) :
    View.canon (pieces9 (iblk m c 0 t) (iblk m c 1 t) (iblk m c 2 t) (iblk m c 3 t) (iblk m c 4 t) (iblk m c 5 t) (iblk m c 6 t) (iblk m c 8 t)) y = res0 (aX m c) (aSh m c) (aSc m c) (aG m c) (aW m c) (aK m c) (ix3 (n0 := 2) (n1 := 8192) (n2 := 512) (batch t) (line t (y 1)) (y 2)) := by
  refine View.canon_apply_of_pieces (Val := Elt Ideal) (S := S1x512x512) (e := .bf16)
    (fun y => res0 (aX m c) (aSh m c) (aSc m c) (aG m c) (aW m c) (aK m c) (ix3 (n0 := 2) (n1 := 8192) (n2 := 512) (batch t) (line t (y 1)) (y 2)))
    _ (fun p hp => ?_) y (View.cover_of_tiled (pieces9 (iblk m c 0 t) (iblk m c 1 t) (iblk m c 2 t) (iblk m c 3 t) (iblk m c 4 t) (iblk m c 5 t) (iblk m c 6 t) (iblk m c 8 t)) S1x512x128.size (by rfl) y)
  obtain ⟨q, rfl⟩ := List.mem_ofFn.1 hp
  intro x
  obtain ⟨z, r, d, rfl⟩ : ∃ (z : Fin 1) (r : Fin 512) (d : Fin 128), x = ix3 z r d := ⟨_, _, _, eq_ix3 (n0 := 1) (n1 := 512) (n2 := 128) x⟩
  refine (key_point m c t ⟨3 - q.val, by omega⟩ z r d ⟨(3 - q.val) / 2, by omega⟩ ⟨(3 - q.val) % 2, by omega⟩ (by dsimp only; omega)).trans ?_
  exact congrArg₂ (fun a b => res0 (aX m c) (aSh m c) (aSc m c) (aG m c) (aW m c) (aK m c) (ix3 (batch t) a b))
    (Fin.ext (show 512 * (tile t).val + r.val = 512 * (tile t).val + (0 + 1 * r.val) by omega))
    (Fin.ext (show 128 * (3 - q.val) + d.val = 128 * (3 - q.val) + 1 * d.val by omega))

theorem final9 : (dats m 0 c).arrAt 9 cfg0.N = res0 (aX m c) (aSh m c) (aSc m c) (aG m c) (aW m c) (aK m c) := by
  refine (dats m 0 c).arrAt_eq_of_covers 9 _ (by decide +kernel) fun t hf y => ?_
  blk_simp
  rw [after0_9, out9]
  refine (pieces9_apply m c t y).trans ?_
  have hy : ((cfg0.win 9).blk t).view.emb y = ix3 (n0 := 2) (n1 := 8192) (n2 := 512) (batch t) (line t (y 1)) (y 2) := by
    blk_ext [idx t]
    · rfl
    · exact line_eq t _
  exact (congrArg (res0 (aX m c) (aSh m c) (aSc m c) (aG m c) (aW m c) (aK m c)) hy).symm

theorem pieces10_apply (y : S1x512x512.Idx) :
    View.canon (pieces10 (iblk m c 0 t) (iblk m c 1 t) (iblk m c 2 t) (iblk m c 3 t) (iblk m c 4 t)) y = res1 (aX m c) (aSh m c) (aSc m c) (aG m c) (aW m c) (ix3 (n0 := 2) (n1 := 8192) (n2 := 512) (batch t) (line t (y 1)) (y 2)) := by
  refine View.canon_apply_of_pieces (Val := Elt Ideal) (S := S1x512x512) (e := .bf16)
    (fun y => res1 (aX m c) (aSh m c) (aSc m c) (aG m c) (aW m c) (ix3 (n0 := 2) (n1 := 8192) (n2 := 512) (batch t) (line t (y 1)) (y 2)))
    _ (fun p hp => ?_) y (View.cover_of_tiled (pieces10 (iblk m c 0 t) (iblk m c 1 t) (iblk m c 2 t) (iblk m c 3 t) (iblk m c 4 t)) S1x512x512.size (by rfl) y)
  obtain rfl := List.mem_singleton.1 hp
  intro x
  obtain ⟨z, r, d, rfl⟩ : ∃ (z : Fin 1) (r : Fin 512) (d : Fin 512), x = ix3 z r d := ⟨_, _, _, eq_ix3 (n0 := 1) (n1 := 512) (n2 := 512) x⟩
  refine (value_point m c t z r d).trans ?_
  exact congrArg₂ (fun a b => res1 (aX m c) (aSh m c) (aSc m c) (aG m c) (aW m c) (ix3 (batch t) a b))
    (Fin.ext (show 512 * (tile t).val + r.val = 512 * (tile t).val + (0 + 1 * r.val) by omega))
    (Fin.ext (show d.val = 0 + 1 * d.val by omega))

theorem final10 : (dats m 0 c).arrAt 10 cfg0.N = res1 (aX m c) (aSh m c) (aSc m c) (aG m c) (aW m c) := by
  refine (dats m 0 c).arrAt_eq_of_covers 10 _ (by decide +kernel) fun t hf y => ?_
  blk_simp
  rw [after0_10, out10]
  refine (pieces10_apply m c t y).trans ?_
  have hy : ((cfg0.win 10).blk t).view.emb y = ix3 (n0 := 2) (n1 := 8192) (n2 := 512) (batch t) (line t (y 1)) (y 2) := by
    blk_ext [idx t]
    · rfl
    · exact line_eq t _
  exact (congrArg (res1 (aX m c) (aSh m c) (aSc m c) (aG m c) (aW m c)) hy).symm

theorem pieces11_apply (y : S1x512x2048.Idx) :
    View.canon (pieces11 (iblk m c 0 t) (iblk m c 1 t) (iblk m c 2 t) (iblk m c 3 t) (iblk m c 4 t) (iblk m c 5 t) (iblk m c 6 t) (iblk m c 7 t)) y = res2 (aX m c) (aSh m c) (aSc m c) (aG m c) (aW m c) (aQ m c) (ix3 (n0 := 2) (n1 := 8192) (n2 := 2048) (batch t) (line t (y 1)) (y 2)) := by
  refine View.canon_apply_of_pieces (Val := Elt Ideal) (S := S1x512x2048) (e := .bf16)
    (fun y => res2 (aX m c) (aSh m c) (aSc m c) (aG m c) (aW m c) (aQ m c) (ix3 (n0 := 2) (n1 := 8192) (n2 := 2048) (batch t) (line t (y 1)) (y 2)))
    _ (fun p hp => ?_) y (View.cover_of_tiled (pieces11 (iblk m c 0 t) (iblk m c 1 t) (iblk m c 2 t) (iblk m c 3 t) (iblk m c 4 t) (iblk m c 5 t) (iblk m c 6 t) (iblk m c 7 t)) S1x512x128.size (by rfl) y)
  obtain ⟨q, rfl⟩ := List.mem_ofFn.1 hp
  intro x
  obtain ⟨z, r, d, rfl⟩ : ∃ (z : Fin 1) (r : Fin 512) (d : Fin 128), x = ix3 z r d := ⟨_, _, _, eq_ix3 (n0 := 1) (n1 := 512) (n2 := 128) x⟩
  refine (query_point m c t ⟨15 - q.val, by omega⟩ z r d (1024 + 512 * ((15 - q.val) / 4)) (by omega) rfl ⟨(15 - q.val) % 4 / 2, by omega⟩ ⟨(15 - q.val) % 2, by omega⟩ (by dsimp only; omega)).trans ?_
  exact congrArg₂ (fun a b => res2 (aX m c) (aSh m c) (aSc m c) (aG m c) (aW m c) (aQ m c) (ix3 (batch t) a b))
    (Fin.ext (show 512 * (tile t).val + r.val = 512 * (tile t).val + (0 + 1 * r.val) by omega))
    (Fin.ext (show 128 * (15 - q.val) + d.val = 128 * (15 - q.val) + 1 * d.val by omega))

theorem final11 : (dats m 0 c).arrAt 11 cfg0.N = res2 (aX m c) (aSh m c) (aSc m c) (aG m c) (aW m c) (aQ m c) := by
  refine (dats m 0 c).arrAt_eq_of_covers 11 _ (by decide +kernel) fun t hf y => ?_
  blk_simp
  rw [after0_11, out11]
  refine (pieces11_apply m c t y).trans ?_
  have hy : ((cfg0.win 11).blk t).view.emb y = ix3 (n0 := 2) (n1 := 8192) (n2 := 2048) (batch t) (line t (y 1)) (y 2) := by
    blk_ext [idx t]
    · rfl
    · exact line_eq t _
  exact (congrArg (res2 (aX m c) (aSh m c) (aSc m c) (aG m c) (aW m c) (aQ m c)) hy).symm

theorem pieces12_apply (hm : Above m c) (y : S1x512x2048.Idx) :
    View.canon (pieces12 (iblk m c 0 t) (iblk m c 1 t) (iblk m c 2 t) (iblk m c 3 t) (iblk m c 4 t)) y = res3 (aX m c) (aSh m c) (aSc m c) (aG m c) (aW m c) (ix3 (n0 := 2) (n1 := 8192) (n2 := 2048) (batch t) (line t (y 1)) (y 2)) := by
  refine View.canon_apply_of_pieces (Val := Elt Ideal) (S := S1x512x2048) (e := .f32)
    (fun y => res3 (aX m c) (aSh m c) (aSc m c) (aG m c) (aW m c) (ix3 (n0 := 2) (n1 := 8192) (n2 := 2048) (batch t) (line t (y 1)) (y 2)))
    _ (fun p hp => ?_) y (View.cover_of_tiled (pieces12 (iblk m c 0 t) (iblk m c 1 t) (iblk m c 2 t) (iblk m c 3 t) (iblk m c 4 t)) S1x512x512.size (by rfl) y)
  obtain ⟨q, rfl⟩ := List.mem_ofFn.1 hp
  intro x
  obtain ⟨z, r, d, rfl⟩ : ∃ (z : Fin 1) (r : Fin 512) (d : Fin 512), x = ix3 z r d := ⟨_, _, _, eq_ix3 (n0 := 1) (n1 := 512) (n2 := 512) x⟩
  refine (gate_point m c t hm ⟨3 - q.val, by omega⟩ z r d (3072 + 512 * (3 - q.val)) (by omega) rfl).trans ?_
  exact congrArg₂ (fun a b => res3 (aX m c) (aSh m c) (aSc m c) (aG m c) (aW m c) (ix3 (batch t) a b))
    (Fin.ext (show 512 * (tile t).val + r.val = 512 * (tile t).val + (0 + 1 * r.val) by omega))
    (Fin.ext (show 512 * (3 - q.val) + d.val = 512 * (3 - q.val) + 1 * d.val by omega))

theorem final12 (hm : Above m c) : (dats m 0 c).arrAt 12 cfg0.N = res3 (aX m c) (aSh m c) (aSc m c) (aG m c) (aW m c) := by
  refine (dats m 0 c).arrAt_eq_of_covers 12 _ (by decide +kernel) fun t hf y => ?_
  blk_simp
  rw [after0_12, out12]
  refine (pieces12_apply m c t hm y).trans ?_
  have hy : ((cfg0.win 12).blk t).view.emb y = ix3 (n0 := 2) (n1 := 8192) (n2 := 2048) (batch t) (line t (y 1)) (y 2) := by
    blk_ext [idx t]
    · rfl
    · exact line_eq t _
  exact (congrArg (res3 (aX m c) (aSh m c) (aSc m c) (aG m c) (aW m c)) hy).symm

end Cert.OddKernelIdeal.Proj

end
-- ==== Proof.OddResult.lean ====
module

public import proofs.«01_k».proof.Defs
public import proofs.«01_k».proof.Proof.OddProj
public import proofs.«01_k».proof.Proof.Gen.OddReferenceIdeal.Run
public import proofs.«01_k».proof.Proof.Gen.Pre_gate_above

/-! The odd layer's input projection: the reference's results, and what the precondition says. -/

@[expose] public section

set_option maxRecDepth 16384

noncomputable section

namespace Cert.OddReferenceIdeal.Proj

open Idealize.ShloMosaic Idealize.ShloMosaic.TcCoe Idealize.SL.Sem

variable (m : (ℓ : Loc nD τ sig) → Buf (Elt Ideal) ℓ) (c : Dev nD)

theorem keys_eq : Cert.OddReferenceIdeal.Value.res_main_v133 m c
    = res0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) := by
  unfold Cert.OddReferenceIdeal.Value.res_main_v133
  rfl

theorem queries_eq : Cert.OddReferenceIdeal.Value.res_main_v138 m c
    = res2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.OddReferenceIdeal.Value.res_main_v138
  rfl

end Cert.OddReferenceIdeal.Proj

namespace Cert.OddKernelIdeal.Proj

open Cert.OddReferenceIdeal.Proj Idealize.ShloMosaic Idealize.ShloMosaic.TcCoe Idealize.SL.Sem

theorem fn_eq (x : FVec Ideal Cert.OddReferenceIdeal.S2x8192x1024 .f32) (sh sc : FVec Ideal Cert.OddReferenceIdeal.S2x1x1024 .f32) (g : FVec Ideal Cert.OddReferenceIdeal.S1024 .f32) (w : FVec Ideal Cert.OddReferenceIdeal.S1024x5120 .f32) (gq gk : FVec Ideal Cert.OddReferenceIdeal.S128 .f32) :
    Cert.Pre_gate_above.fn (F := Ideal) x sh sc g w gq gk = cmpf .ogt (gates x sh sc g w) (broadcastInDim Cert.OddReferenceIdeal.S2x8192x2048 ![] Cert.OddReferenceIdeal.Gen.bcast_S_S2x8192x2048 (constant Cert.OddReferenceIdeal.S_ .f32 0xFF800000#32)) := by
  rfl

/-- Under the precondition no entry of the gate's columns is `-∞`. -/
theorem above (m : (ℓ : Loc Cert.OddKernelIdeal.nD Cert.OddKernelIdeal.τ Cert.OddKernelIdeal.sig) → Buf (Elt Ideal) ℓ) (c : Dev Cert.OddKernelIdeal.nD)
    (h : Cert.Pre_OddKernelIdeal_gate_above m) : Above m c := by
  intro b n j e
  have h' := congrFun (h c) (ix3 (n0 := 2) (n1 := 8192) (n2 := 2048) b n j)
  rw [fn_eq] at h'
  have e' : gates (aX m c) (aSh m c) (aSc m c) (aG m c) (aW m c) (ix3 b n j) = ⊥ := by
    refine Eq.trans ?_ e
    pointwise [gates]
  have h2 : Ideal.cmp .ogt (gates (aX m c) (aSh m c) (aSc m c) (aG m c) (aW m c) (ix3 b n j)) (Ideal.ofBits .f32 0xFF800000#32) = 1#1 := h'
  rw [e'] at h2
  rw [Cert.Softmax.neg_inf] at h2
  simp [Ideal.cmp] at h2

end Cert.OddKernelIdeal.Proj

end
-- ==== Proof.lean ====
/- Four calls of the layer: the attention, the output projection of its odd half, the input projections of its even
   and odd halves. The kernels and the references terminate, each ideal kernel is its kernel over the extended reals, and it
   computes its reference's function (the odd input projection where no entry of the gate's columns is `-∞`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.EvenKernel
public import proofs.«01_k».proof.Proof.Gen.EvenKernel.Skeleton
public import proofs.«01_k».proof.Proof.Gen.EvenKernel.Launch
public import proofs.«01_k».proof.Proof.Gen.EvenKernel.Points
public import proofs.«01_k».proof.Proof.Gen.EvenKernel.Frame
public import proofs.«01_k».proof.Proof.Gen.EvenKernelIdeal
public import proofs.«01_k».proof.Proof.Gen.EvenKernelIdeal.Skeleton
public import proofs.«01_k».proof.Proof.Gen.EvenKernelIdeal.Launch
public import proofs.«01_k».proof.Proof.Gen.EvenKernelIdeal.Points
public import proofs.«01_k».proof.Proof.Gen.EvenKernelIdeal.Frame
public import proofs.«01_k».proof.Proof.Gen.EvenKernelIdeal.Value
public import proofs.«01_k».proof.Proof.Gen.EvenReferenceIdeal
public import proofs.«01_k».proof.Proof.Gen.EvenReferenceIdeal.Run
public import proofs.«01_k».proof.Proof.Gen.OddKernel
public import proofs.«01_k».proof.Proof.Gen.OddKernel.Skeleton
public import proofs.«01_k».proof.Proof.Gen.OddKernel.Launch
public import proofs.«01_k».proof.Proof.Gen.OddKernel.Points
public import proofs.«01_k».proof.Proof.Gen.OddKernel.Frame
public import proofs.«01_k».proof.Proof.Gen.OddKernelIdeal
public import proofs.«01_k».proof.Proof.Gen.OddKernelIdeal.Skeleton
public import proofs.«01_k».proof.Proof.Gen.OddKernelIdeal.Launch
public import proofs.«01_k».proof.Proof.Gen.OddKernelIdeal.Points
public import proofs.«01_k».proof.Proof.Gen.OddKernelIdeal.Frame
public import proofs.«01_k».proof.Proof.Gen.OddKernelIdeal.Value
public import proofs.«01_k».proof.Proof.Gen.OddReferenceIdeal
public import proofs.«01_k».proof.Proof.Gen.OddReferenceIdeal.Run
public import proofs.«01_k».proof.Proof.Gen.Pre_gate_above
public import proofs.«01_k».proof.Proof.RefTerm
public import proofs.«01_k».proof.Proof.Result
public import proofs.«01_k».proof.Proof.OutProj
public import proofs.«01_k».proof.Proof.EvenProj
public import proofs.«01_k».proof.Proof.OddResult
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem preserves : Cert.preserves_Kernel_KernelIdeal :=
  IdealRules.named_const.statement Cert.KernelIdeal.κ "log2e" .f32 0x3FB8AA3B#32 (((Real.log 2)⁻¹ : ℝ) : EReal) rfl

/-- The kernel's array and the reference's result are equal. -/
theorem algebraic : Cert.algebraic_KernelIdeal_ReferenceIdeal := by
  pair_intro
  · run_from Cert.KernelIdeal.Value.run_blocks m g
  · run_from Cert.ReferenceIdeal.Value.run m' g'
    obtain ⟨h0, h1, h2, h3, h4, h5, h6⟩ := hagree c
    rw [Cert.ReferenceIdeal.Att.res_eq, h0, h1, h2, h3, h4, h5, h6]
    exact (Cert.KernelIdeal.Att.final m c).symm

theorem frame_outKernel : Cert.quiescent_OutKernel := fun m ρ _ => Cert.OutKernel.Gen.frame m ρ

theorem frame_outIdeal : Cert.quiescent_OutKernelIdeal := fun m ρ _ => Cert.OutKernelIdeal.Gen.frame m ρ

theorem frame_outReference : Cert.quiescent_OutReferenceIdeal := fun m g _ =>
  (θ_run Cert.OutReferenceIdeal.defs _ _).mono (fun r h => ⟨fun c => (h c).2, sem_eq_zero_of_no_sems (by decide) r.2⟩)
    (Cert.OutReferenceIdeal.Value.run (F := Ideal) m g)

theorem preserves_out : Cert.preserves_OutKernel_OutKernelIdeal := trivial

/-- The output projection's array and the reference's result are equal. -/
theorem algebraic_out : Cert.algebraic_OutKernelIdeal_OutReferenceIdeal := by
  pair_intro
  · run_from Cert.OutKernelIdeal.Value.run_blocks m g
  · run_from Cert.OutReferenceIdeal.Value.run m' g'
    exact (Cert.OutKernelIdeal.Proj.final m c).symm

theorem frame_evenKernel : Cert.quiescent_EvenKernel := fun m ρ _ => Cert.EvenKernel.Gen.frame m ρ

theorem frame_evenIdeal : Cert.quiescent_EvenKernelIdeal := fun m ρ _ => Cert.EvenKernelIdeal.Gen.frame m ρ

theorem frame_evenReference : Cert.quiescent_EvenReferenceIdeal := fun m g _ =>
  (θ_run Cert.EvenReferenceIdeal.defs _ _).mono
    (fun r h => ⟨fun c => (h c).2.2.2.2.2.2.2, sem_eq_zero_of_no_sems (by decide) r.2⟩)
    (Cert.EvenReferenceIdeal.Value.run (F := Ideal) m g)

theorem preserves_even : Cert.preserves_EvenKernel_EvenKernelIdeal := trivial

/-- The input projection's seven arrays and the reference's results are equal. -/
theorem algebraic_even : Cert.algebraic_EvenKernelIdeal_EvenReferenceIdeal := by
  pair_intro
  · run_from Cert.EvenKernelIdeal.Value.run_blocks m g
  · run_from Cert.EvenReferenceIdeal.Value.run m' g'
    · exact (Cert.EvenKernelIdeal.Proj.final5 m c).symm
    · exact (Cert.EvenKernelIdeal.Proj.final6 m c).symm
    · exact (Cert.EvenKernelIdeal.Proj.final7 m c).symm
    · exact (Cert.EvenKernelIdeal.Proj.final8 m c).symm
    · exact (Cert.EvenKernelIdeal.Proj.final9 m c).symm
    · exact (Cert.EvenKernelIdeal.Proj.final10 m c).symm
    · obtain ⟨-, -, -, -, h4⟩ := hagree c
      refine Eq.trans (b := Cert.EvenReferenceIdeal.Proj.res6 (m ((c.tc : Thread _ _).loc Cert.EvenKernelIdeal.main_arg0)) (m ((c.tc : Thread _ _).loc Cert.EvenKernelIdeal.main_arg1)) (m ((c.tc : Thread _ _).loc Cert.EvenKernelIdeal.main_arg2)) (m ((c.tc : Thread _ _).loc Cert.EvenKernelIdeal.main_arg3)) (m' ((c.tc : Thread _ _).loc Cert.EvenReferenceIdeal.main_arg4))) rfl ?_
      rw [h4]
      exact (Cert.EvenKernelIdeal.Proj.final11 m c).symm

theorem frame_oddKernel : Cert.quiescent_OddKernel := fun m ρ _ => Cert.OddKernel.Gen.frame m ρ

theorem frame_oddIdeal : Cert.quiescent_OddKernelIdeal := fun m ρ _ => Cert.OddKernelIdeal.Gen.frame m ρ

theorem frame_oddIdeal_above : Cert.quiescent_OddKernelIdeal_pre_gate_above :=
  fun m ρ _ => Cert.OddKernelIdeal.Gen.frame m ρ

theorem frame_oddReference : Cert.quiescent_OddReferenceIdeal := fun m g _ =>
  (θ_run Cert.OddReferenceIdeal.defs _ _).mono
    (fun r h => ⟨fun c => (h c).2.2.2.2, sem_eq_zero_of_no_sems (by decide) r.2⟩)
    (Cert.OddReferenceIdeal.Value.run (F := Ideal) m g)

theorem frame_oddReference_above : Cert.quiescent_OddReferenceIdeal_pre_gate_above := fun m g _ =>
  (θ_run Cert.OddReferenceIdeal.defs _ _).mono
    (fun r h => ⟨fun c => (h c).2.2.2.2, sem_eq_zero_of_no_sems (by decide) r.2⟩)
    (Cert.OddReferenceIdeal.Value.run (F := Ideal) m g)

theorem preserves_odd : Cert.preserves_OddKernel_OddKernelIdeal :=
  IdealRules.named_const.statement Cert.OddKernelIdeal.κ "qscale" .f32 0x3E0293EE#32
    (((Real.sqrt 128)⁻¹ * (Real.log 2)⁻¹ : ℝ) : EReal) rfl

/-- The odd input projection's four arrays and the reference's results are equal. -/
theorem algebraic_odd : Cert.algebraic_OddKernelIdeal_OddReferenceIdeal_pre_gate_above := by
  pair_intro
  · run_from Cert.OddKernelIdeal.Value.run_blocks m g
  · run_from Cert.OddReferenceIdeal.Value.run m' g'
    · obtain ⟨h0, h1, h2, h3, h4, h5, h6⟩ := hagree c
      rw [Cert.OddReferenceIdeal.Proj.keys_eq, h0, h1, h2, h3, h4, h6]
      exact (Cert.OddKernelIdeal.Proj.final9 m c).symm
    · exact (Cert.OddKernelIdeal.Proj.final10 m c).symm
    · obtain ⟨h0, h1, h2, h3, h4, h5, h6⟩ := hagree c
      rw [Cert.OddReferenceIdeal.Proj.queries_eq, h0, h1, h2, h3, h4, h5]
      exact (Cert.OddKernelIdeal.Proj.final11 m c).symm
    · exact (Cert.OddKernelIdeal.Proj.final12 m c (Cert.OddKernelIdeal.Proj.above m c hpre)).symm

theorem claim : Cert.Claim :=
  ⟨Cert.Kernel.Gen.facts, Cert.KernelIdeal.Gen.facts, Cert.ReferenceIdeal.Gen.facts,
    Cert.OutKernel.Gen.facts, Cert.OutKernelIdeal.Gen.facts, Cert.OutReferenceIdeal.Gen.facts,
    Cert.EvenKernel.Gen.facts, Cert.EvenKernelIdeal.Gen.facts, Cert.EvenReferenceIdeal.Gen.facts,
    Cert.OddKernel.Gen.facts, Cert.OddKernelIdeal.Gen.facts, Cert.OddReferenceIdeal.Gen.facts,
    Cert.Pre_gate_above.Gen.facts,
    frame_kernel, frame_ideal, frame_reference, frame_outKernel, frame_outIdeal, frame_outReference,
    frame_evenKernel, frame_evenIdeal, frame_evenReference,
    frame_oddKernel, frame_oddIdeal, frame_oddIdeal_above, frame_oddReference, frame_oddReference_above,
    preserves, algebraic, preserves_out, algebraic_out, preserves_even, algebraic_even,
    preserves_odd, algebraic_odd⟩

end Cert.Proof

end
